-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_in_range [hPre_finite_in_range : Cert.Pre_finite_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in_range [hPre_finite_in_range : Cert.Pre_finite_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_in_range [hKernelIdeal : Cert.KernelIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_in_range [hReferenceIdeal : Cert.ReferenceIdeal.Facts] [hPre_finite_in_range : Cert.Pre_finite_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "c_row" .f32 0xBFAE63F8#32 (((1 / 10) * (Real.log (319980⁻¹ * (387420489 / 1000000000))) : ℝ) : EReal)
  ∧ IdealRules.named_const.Statement Cert.KernelIdeal.κ "fill" .f32 0x3651BA72#32 ((1 / 319980 : ℝ) : EReal)
  ∧ IdealRules.named_const.Statement Cert.KernelIdeal.κ "fill_conf" .f32 0xBF666632#32 ((-287981 / 319980 : ℝ) : EReal)
  ∧ IdealRules.named_const.Statement Cert.KernelIdeal.κ "neg_fill" .f32 0xB651BA72#32 ((-1 / 319980 : ℝ) : EReal)

def algebraic_KernelIdeal_ReferenceIdeal_pre_finite_in_range [hKernelIdeal : Cert.KernelIdeal.Facts] [hReferenceIdeal : Cert.ReferenceIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_in_range : Cert.Pre_finite_in_range.Facts),
    quiescent_Kernel (hKernel := hKernel)
    ∧ quiescent_KernelIdeal (hKernelIdeal := hKernelIdeal)
    ∧ quiescent_KernelIdeal_pre_finite_in_range (hKernelIdeal := hKernelIdeal) (hPre_finite_in_range := hPre_finite_in_range)
    ∧ quiescent_ReferenceIdeal (hReferenceIdeal := hReferenceIdeal)
    ∧ quiescent_ReferenceIdeal_pre_finite_in_range (hReferenceIdeal := hReferenceIdeal) (hPre_finite_in_range := hPre_finite_in_range)
    ∧ preserves_Kernel_KernelIdeal
    ∧ algebraic_KernelIdeal_ReferenceIdeal_pre_finite_in_range (hKernelIdeal := hKernelIdeal) (hReferenceIdeal := hReferenceIdeal) (hPre_finite_in_range := hPre_finite_in_range)
-- ==== Pre_finite_in_range.lean ====
abbrev S4096x32000 : Shape := ⟨2, ![4096, 32000]⟩
abbrev S4096 : Shape := ⟨1, ![4096]⟩
abbrev S_ : Shape := ⟨0, ![]⟩

class Facts : Prop where
  bcast_S_S4096x32000 : S_.BroadcastsInDim S4096x32000 (![] : Fin 0 → Fin S4096x32000.rank)
  reducesTo_S4096x32000_S_d0_1 : S4096x32000.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x32000 .f32) (main_arg1 : IVec S4096 32) : IVec S_ 1 :=
  let main_v0 : FVec F S4096x32000 .f32 := Host.absf main_arg0
  let main_cst : FVec F S_ .f32 := constant S_ .f32 0x7F800000#32
  let main_v1 : FVec F S4096x32000 .f32 := broadcastInDim S4096x32000 ![] bcast_S_S4096x32000 main_cst
  let main_v2 : IVec S4096x32000 1 := cmpf .olt main_v0 main_v1
  let main_c : IVec S_ 1 := constantI S_ 1 1#1
  let main_v3 : IVec S_ 1 := (fun x v => Host.reduce IntOp.andi x v reducesTo_S4096x32000_S_d0_1 h_S_) main_v2 main_c
  let main_c_0 : IVec S_ 32 := constantI S_ 32 0#32
  let main_v4 : IVec S4096 32 := broadcastInDim S4096 ![] bcast_S_S4096 main_c_0
  let main_v5 : IVec S4096 1 := cmpi .sge main_arg1 main_v4
  let main_c_1 : IVec S_ 32 := constantI S_ 32 32000#32
  let main_v6 : IVec S4096 32 := broadcastInDim S4096 ![] bcast_S_S4096 main_c_1
  let main_v7 : IVec S4096 1 := cmpi .slt main_arg1 main_v6
  let main_v8 : IVec S4096 1 := andi main_v5 main_v7
  let main_c_2 : IVec S_ 1 := constantI S_ 1 1#1
  let main_v9 : IVec S_ 1 := (fun x v => Host.reduce IntOp.andi x v reducesTo_S4096_S_d0 h_S_) main_v8 main_c_2
  let main_v10 : IVec S_ 1 := andi main_v3 main_v9
  main_v10
-- ==== Kernel.lean ====
abbrev S4096x32000 : Shape := ⟨2, ![4096, 32000]⟩
abbrev S4096 : Shape := ⟨1, ![4096]⟩
abbrev S4096x1 : Shape := ⟨2, ![4096, 1]⟩
abbrev S1x1 : Shape := ⟨2, ![1, 1]⟩
abbrev S4096x640 : Shape := ⟨2, ![4096, 640]⟩
abbrev S4096x128 : Shape := ⟨2, ![4096, 128]⟩
abbrev S1x4096x1 : Shape := ⟨3, ![1, 4096, 1]⟩
abbrev S1 : Shape := ⟨1, ![1]⟩
abbrev S1x1x1 : Shape := ⟨3, ![1, 1, 1]⟩
abbrev S1x4096x128 : Shape := ⟨3, ![1, 4096, 128]⟩
abbrev S32x16 : Shape := ⟨2, ![32, 16]⟩
abbrev S128 : Shape := ⟨1, ![128]⟩
abbrev S128x128 : Shape := ⟨2, ![128, 128]⟩
abbrev S128x16 : Shape := ⟨2, ![128, 16]⟩
abbrev S16 : Shape := ⟨1, ![16]⟩
abbrev S_ : Shape := ⟨0, ![]⟩
abbrev S2 : Shape := ⟨1, ![2]⟩
abbrev S1x16 : Shape := ⟨2, ![1, 16]⟩
abbrev S1x32x16 : Shape := ⟨3, ![1, 32, 16]⟩

abbrev nBuf : Table → Nat
  | .hbm => 7
  | .local .tc .vmem => 7
  | .local .tc .smem => 3
  | .local .scVector .vmem => 6
  | _ => 0

abbrev bufTy : (tb : Table) → Fin (nBuf tb) → BufTy
  | .hbm, ⟨0, _⟩ => ⟨S4096x32000, .f32⟩
  | .hbm, ⟨1, _⟩ => ⟨S4096, .i32⟩
  | .hbm, ⟨2, _⟩ => ⟨S4096x1, .i32⟩
  | .hbm, ⟨3, _⟩ => ⟨S1x1, .f32⟩
  | .hbm, ⟨4, _⟩ => ⟨S32x16, .f32⟩
  | .hbm, ⟨5, _⟩ => ⟨S1x1, .f32⟩
  | .hbm, ⟨6, _⟩ => ⟨S_, .f32⟩
  | .local .tc .vmem, ⟨0, _⟩ => ⟨S4096x640, .f32⟩
  | .local .tc .vmem, ⟨1, _⟩ => ⟨S4096x640, .f32⟩
  | .local .tc .vmem, ⟨2, _⟩ => ⟨S4096x1, .i32⟩
  | .local .tc .vmem, ⟨3, _⟩ => ⟨S4096x128, .f32⟩
  | .local .tc .vmem, ⟨4, _⟩ => ⟨S4096x128, .f32⟩
  | .local .tc .vmem, ⟨5, _⟩ => ⟨S4096x1, .f32⟩
  | .local .tc .vmem, ⟨6, _⟩ => ⟨S32x16, .f32⟩
  | .local .tc .smem, ⟨0, _⟩ => ⟨S1x1, .f32⟩
  | .local .tc .smem, ⟨1, _⟩ => ⟨S1x1, .f32⟩
  | .local .tc .smem, ⟨2, _⟩ => ⟨S1x1, .f32⟩
  | .local .scVector .vmem, ⟨0, _⟩ => ⟨S128, .i32⟩
  | .local .scVector .vmem, ⟨1, _⟩ => ⟨S128x128, .f32⟩
  | .local .scVector .vmem, ⟨2, _⟩ => ⟨S128x128, .f32⟩
  | .local .scVector .vmem, ⟨3, _⟩ => ⟨S128x16, .f32⟩
  | .local .scVector .vmem, ⟨4, _⟩ => ⟨S128, .f32⟩
  | .local .scVector .vmem, ⟨5, _⟩ => ⟨S16, .f32⟩
  | _, _ => ⟨S4096x32000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | .smem, ⟨2, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => true
  | ⟨9, _⟩ => true
  | ⟨10, _⟩ => true
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_arg0_scv : Ref sig .scVector := ⟨.hbm, 0, rfl⟩
abbrev main_arg1_scv : Ref sig .scVector := ⟨.hbm, 1, rfl⟩
abbrev main_v2_scv : Ref sig .scVector := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc2_stg1_0 : Ref sig .tc := ⟨.vmem, 6, rfl⟩
abbrev cc0_stg2_0 : Ref sig .tc := ⟨.smem, 0, rfl⟩
abbrev cc2_stg0_0 : Ref sig .tc := ⟨.smem, 1, rfl⟩
abbrev cc2_stg2_0 : Ref sig .tc := ⟨.smem, 2, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc2_sem0_0 : DmaSem sig := 8
abbrev cc2_sem1_0 : DmaSem sig := 9
abbrev cc2_sem2_0 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![48], ![false]⟩

def k0_cond2 (i : grid0.Coords) : BitVec 1 :=
  let arg0 : BitVec 32 := BitVec.ofNat 32 (i 0).val
  let c47_i32 : BitVec 32 := 47#32
  let v70 : BitVec 1 := Scalar.cmpi .eq arg0 c47_i32
  let v71 : BitVec 32 := Scalar.extui v70
  let c0_i32_17 : BitVec 32 := 0#32
  let v72 : BitVec 1 := Scalar.cmpi .ne v71 c0_i32_17
  v72

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨2, ![2, 16], ![false, false]⟩

def k1_mult1 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  v2
def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := v2
  ![v3.toNat]
@[reducible] def k1_t1_loop : Scf.Loop 32 :=
  let c0_i32 : BitVec 32 := 0#32
  let c128_i32_0 : BitVec 32 := 128#32
  let v8 : BitVec 32 := Scalar.addi c0_i32 c128_i32_0
  let c1_i32 : BitVec 32 := 1#32
  ⟨c0_i32, v8, c1_i32⟩
def k1_off2 (k1_t1 : Fin k1_t1_loop.trips) : Fin 2 → Nat :=
  let c0_i32_353 : BitVec 32 := 0#32
  let c0_i32 : BitVec 32 := 0#32
  let c1_i32 : BitVec 32 := 1#32
  let arg13 : BitVec 32 := Scf.iv c0_i32 c1_i32 k1_t1
  let c1_i32_352 : BitVec 32 := 1#32
  let v880 : BitVec 32 := Scalar.muli arg13 c1_i32_352
  let v881 : BitVec 32 := Scalar.addi c0_i32_353 v880
  let v883 : Index := Scalar.indexCast v881
  let c0_355 : Index := 0#32
  ![v883.toNat, 0]
def k1_mult2 : BitVec 32 :=
  let c30720_i32 : BitVec 32 := 30720#32
  c30720_i32
def k1_off3 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := v2
  let c30720_i32 : BitVec 32 := 30720#32
  let v25 : BitVec 32 := c30720_i32
  ![v3.toNat, 30720]
def k1_mult3 : BitVec 32 :=
  let c30848_i32 : BitVec 32 := 30848#32
  c30848_i32
def k1_off4 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := v2
  let c30848_i32 : BitVec 32 := 30848#32
  let v30 : BitVec 32 := c30848_i32
  ![v3.toNat, 30848]
@[reducible] def k1_t2_loop : Scf.Loop 32 :=
  let c0_i32_11 : BitVec 32 := 0#32
  let c4_i32 : BitVec 32 := 4#32
  let v35 : BitVec 32 := Scalar.addi c0_i32_11 c4_i32
  let c1_i32_12 : BitVec 32 := 1#32
  ⟨c0_i32_11, v35, c1_i32_12⟩
def k1_off5 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := v2
  let c0_i32_355 : BitVec 32 := 0#32
  ![v3.toNat, 0]

def k1_chk1 (v891 : IVec S16 32) (v902 : IVec S16 32) : Prop :=
  (∀ a x, ((![v891, v902] : Fin 2 → IVec S16 32) a x).toNat < S128x128.size a)
theorem k1_idx1_inb : ∀ (v891 : IVec S16 32) (v902 : IVec S16 32) (k1_hw1 : k1_chk1 v891 v902), ∀ a x, ((![v891, v902] : Fin 2 → IVec S16 32) a x).toNat < S128x128.size a := fun v891 v902 k1_hw1 => k1_hw1

def k1_chk2 (v912 : IVec S16 32) (v923 : IVec S16 32) : Prop :=
  (∀ a x, ((![v912, v923] : Fin 2 → IVec S16 32) a x).toNat < S128x128.size a)
theorem k1_idx2_inb : ∀ (v912 : IVec S16 32) (v923 : IVec S16 32) (k1_hw2 : k1_chk2 v912 v923), ∀ a x, ((![v912, v923] : Fin 2 → IVec S16 32) a x).toNat < S128x128.size a := fun v912 v923 k1_hw2 => k1_hw2

def k1_chk3 (v933 : IVec S16 32) (v944 : IVec S16 32) : Prop :=
  (∀ a x, ((![v933, v944] : Fin 2 → IVec S16 32) a x).toNat < S128x128.size a)
theorem k1_idx3_inb : ∀ (v933 : IVec S16 32) (v944 : IVec S16 32) (k1_hw3 : k1_chk3 v933 v944), ∀ a x, ((![v933, v944] : Fin 2 → IVec S16 32) a x).toNat < S128x128.size a := fun v933 v944 k1_hw3 => k1_hw3

def k1_chk4 (v954 : IVec S16 32) (v965 : IVec S16 32) : Prop :=
  (∀ a x, ((![v954, v965] : Fin 2 → IVec S16 32) a x).toNat < S128x128.size a)
theorem k1_idx4_inb : ∀ (v954 : IVec S16 32) (v965 : IVec S16 32) (k1_hw4 : k1_chk4 v954 v965), ∀ a x, ((![v954, v965] : Fin 2 → IVec S16 32) a x).toNat < S128x128.size a := fun v954 v965 k1_hw4 => k1_hw4

def k1_chk5 (v975 : IVec S16 32) (v986 : IVec S16 32) : Prop :=
  (∀ a x, ((![v975, v986] : Fin 2 → IVec S16 32) a x).toNat < S128x128.size a)
theorem k1_idx5_inb : ∀ (v975 : IVec S16 32) (v986 : IVec S16 32) (k1_hw5 : k1_chk5 v975 v986), ∀ a x, ((![v975, v986] : Fin 2 → IVec S16 32) a x).toNat < S128x128.size a := fun v975 v986 k1_hw5 => k1_hw5

def k1_chk6 (v996 : IVec S16 32) (v1007 : IVec S16 32) : Prop :=
  (∀ a x, ((![v996, v1007] : Fin 2 → IVec S16 32) a x).toNat < S128x128.size a)
theorem k1_idx6_inb : ∀ (v996 : IVec S16 32) (v1007 : IVec S16 32) (k1_hw6 : k1_chk6 v996 v1007), ∀ a x, ((![v996, v1007] : Fin 2 → IVec S16 32) a x).toNat < S128x128.size a := fun v996 v1007 k1_hw6 => k1_hw6

def k1_chk7 (v1017 : IVec S16 32) (v1028 : IVec S16 32) : Prop :=
  (∀ a x, ((![v1017, v1028] : Fin 2 → IVec S16 32) a x).toNat < S128x128.size a)
theorem k1_idx7_inb : ∀ (v1017 : IVec S16 32) (v1028 : IVec S16 32) (k1_hw7 : k1_chk7 v1017 v1028), ∀ a x, ((![v1017, v1028] : Fin 2 → IVec S16 32) a x).toNat < S128x128.size a := fun v1017 v1028 k1_hw7 => k1_hw7

def k1_chk8 (v1038 : IVec S16 32) (v1049 : IVec S16 32) : Prop :=
  (∀ a x, ((![v1038, v1049] : Fin 2 → IVec S16 32) a x).toNat < S128x128.size a)
theorem k1_idx8_inb : ∀ (v1038 : IVec S16 32) (v1049 : IVec S16 32) (k1_hw8 : k1_chk8 v1038 v1049), ∀ a x, ((![v1038, v1049] : Fin 2 → IVec S16 32) a x).toNat < S128x128.size a := fun v1038 v1049 k1_hw8 => k1_hw8
@[reducible] def k1_t3_loop : Scf.Loop 32 :=
  let c0_i32_431 : BitVec 32 := 0#32
  let c128_i32_432 : BitVec 32 := 128#32
  let v1056 : BitVec 32 := Scalar.addi c0_i32_431 c128_i32_432
  let c1_i32_433 : BitVec 32 := 1#32
  ⟨c0_i32_431, v1056, c1_i32_433⟩
def k1_off6 (k1_t3 : Fin k1_t3_loop.trips) : Fin 2 → Nat :=
  let c0_i32_526 : BitVec 32 := 0#32
  let c0_i32_431 : BitVec 32 := 0#32
  let c1_i32_433 : BitVec 32 := 1#32
  let arg14 : BitVec 32 := Scf.iv c0_i32_431 c1_i32_433 k1_t3
  let c1_i32_525 : BitVec 32 := 1#32
  let v1249 : BitVec 32 := Scalar.muli arg14 c1_i32_525
  let v1250 : BitVec 32 := Scalar.addi c0_i32_526 v1249
  let v1251 : Index := Scalar.indexCast v1250
  let c0_527 : Index := 0#32
  ![v1251.toNat, 0]
def k1_off7 (k1_t3 : Fin k1_t3_loop.trips) : Fin 2 → Nat :=
  let c0_i32_526 : BitVec 32 := 0#32
  let c0_i32_431 : BitVec 32 := 0#32
  let c1_i32_433 : BitVec 32 := 1#32
  let arg14 : BitVec 32 := Scf.iv c0_i32_431 c1_i32_433 k1_t3
  let c1_i32_525 : BitVec 32 := 1#32
  let v1249 : BitVec 32 := Scalar.muli arg14 c1_i32_525
  let v1250 : BitVec 32 := Scalar.addi c0_i32_526 v1249
  let v1253 : Index := Scalar.indexCast v1250
  let c16_528 : Index := 16#32
  ![v1253.toNat, 16]
def k1_off8 (k1_t3 : Fin k1_t3_loop.trips) : Fin 2 → Nat :=
  let c0_i32_526 : BitVec 32 := 0#32
  let c0_i32_431 : BitVec 32 := 0#32
  let c1_i32_433 : BitVec 32 := 1#32
  let arg14 : BitVec 32 := Scf.iv c0_i32_431 c1_i32_433 k1_t3
  let c1_i32_525 : BitVec 32 := 1#32
  let v1249 : BitVec 32 := Scalar.muli arg14 c1_i32_525
  let v1250 : BitVec 32 := Scalar.addi c0_i32_526 v1249
  let v1256 : Index := Scalar.indexCast v1250
  let c32_529 : Index := 32#32
  ![v1256.toNat, 32]
def k1_off9 (k1_t3 : Fin k1_t3_loop.trips) : Fin 2 → Nat :=
  let c0_i32_526 : BitVec 32 := 0#32
  let c0_i32_431 : BitVec 32 := 0#32
  let c1_i32_433 : BitVec 32 := 1#32
  let arg14 : BitVec 32 := Scf.iv c0_i32_431 c1_i32_433 k1_t3
  let c1_i32_525 : BitVec 32 := 1#32
  let v1249 : BitVec 32 := Scalar.muli arg14 c1_i32_525
  let v1250 : BitVec 32 := Scalar.addi c0_i32_526 v1249
  let v1259 : Index := Scalar.indexCast v1250
  let c48_530 : Index := 48#32
  ![v1259.toNat, 48]
def k1_off10 (k1_t3 : Fin k1_t3_loop.trips) : Fin 2 → Nat :=
  let c0_i32_526 : BitVec 32 := 0#32
  let c0_i32_431 : BitVec 32 := 0#32
  let c1_i32_433 : BitVec 32 := 1#32
  let arg14 : BitVec 32 := Scf.iv c0_i32_431 c1_i32_433 k1_t3
  let c1_i32_525 : BitVec 32 := 1#32
  let v1249 : BitVec 32 := Scalar.muli arg14 c1_i32_525
  let v1250 : BitVec 32 := Scalar.addi c0_i32_526 v1249
  let v1262 : Index := Scalar.indexCast v1250
  let c64_531 : Index := 64#32
  ![v1262.toNat, 64]
def k1_off11 (k1_t3 : Fin k1_t3_loop.trips) : Fin 2 → Nat :=
  let c0_i32_526 : BitVec 32 := 0#32
  let c0_i32_431 : BitVec 32 := 0#32
  let c1_i32_433 : BitVec 32 := 1#32
  let arg14 : BitVec 32 := Scf.iv c0_i32_431 c1_i32_433 k1_t3
  let c1_i32_525 : BitVec 32 := 1#32
  let v1249 : BitVec 32 := Scalar.muli arg14 c1_i32_525
  let v1250 : BitVec 32 := Scalar.addi c0_i32_526 v1249
  let v1265 : Index := Scalar.indexCast v1250
  let c80_532 : Index := 80#32
  ![v1265.toNat, 80]
def k1_off12 (k1_t3 : Fin k1_t3_loop.trips) : Fin 2 → Nat :=
  let c0_i32_526 : BitVec 32 := 0#32
  let c0_i32_431 : BitVec 32 := 0#32
  let c1_i32_433 : BitVec 32 := 1#32
  let arg14 : BitVec 32 := Scf.iv c0_i32_431 c1_i32_433 k1_t3
  let c1_i32_525 : BitVec 32 := 1#32
  let v1249 : BitVec 32 := Scalar.muli arg14 c1_i32_525
  let v1250 : BitVec 32 := Scalar.addi c0_i32_526 v1249
  let v1268 : Index := Scalar.indexCast v1250
  let c96_533 : Index := 96#32
  ![v1268.toNat, 96]
def k1_off13 (k1_t3 : Fin k1_t3_loop.trips) : Fin 2 → Nat :=
  let c0_i32_526 : BitVec 32 := 0#32
  let c0_i32_431 : BitVec 32 := 0#32
  let c1_i32_433 : BitVec 32 := 1#32
  let arg14 : BitVec 32 := Scf.iv c0_i32_431 c1_i32_433 k1_t3
  let c1_i32_525 : BitVec 32 := 1#32
  let v1249 : BitVec 32 := Scalar.muli arg14 c1_i32_525
  let v1250 : BitVec 32 := Scalar.addi c0_i32_526 v1249
  let v1271 : Index := Scalar.indexCast v1250
  let c112_534 : Index := 112#32
  ![v1271.toNat, 112]
def k1_off14 (k1_t3 : Fin k1_t3_loop.trips) : Fin 2 → Nat :=
  let c0_i32_526 : BitVec 32 := 0#32
  let c0_i32_431 : BitVec 32 := 0#32
  let c1_i32_433 : BitVec 32 := 1#32
  let arg14 : BitVec 32 := Scf.iv c0_i32_431 c1_i32_433 k1_t3
  let c1_i32_525 : BitVec 32 := 1#32
  let v1249 : BitVec 32 := Scalar.muli arg14 c1_i32_525
  let v1250 : BitVec 32 := Scalar.addi c0_i32_526 v1249
  let v1274 : Index := Scalar.indexCast v1250
  let c0_535 : Index := 0#32
  ![v1274.toNat, 0]
def k1_mult4 (k1_t2 : Fin k1_t2_loop.trips) : BitVec 32 :=
  let c30720_i32_437 : BitVec 32 := 30720#32
  let c0_i32_353 : BitVec 32 := 0#32
  let c0_i32_11 : BitVec 32 := 0#32
  let c1_i32_12 : BitVec 32 := 1#32
  let arg13 : BitVec 32 := Scf.iv c0_i32_11 c1_i32_12 k1_t2
  let c2_i32_352 : BitVec 32 := 2#32
  let v880 : BitVec 32 := Scalar.muli arg13 c2_i32_352
  let v881 : BitVec 32 := Scalar.addi c0_i32_353 v880
  let c2_i32_435 : BitVec 32 := 2#32
  let v1057 : BitVec 32 := Scalar.addi v881 c2_i32_435
  let c128_i32_436 : BitVec 32 := 128#32
  let v1058 : BitVec 32 := Scalar.muli v1057 c128_i32_436
  let v1059 : BitVec 32 := Scalar.addi c30720_i32_437 v1058
  v1059
def k1_off15 (i : grid1.Coords) (k1_t2 : Fin k1_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := v2
  let c30720_i32_437 : BitVec 32 := 30720#32
  let c0_i32_353 : BitVec 32 := 0#32
  let c0_i32_11 : BitVec 32 := 0#32
  let c1_i32_12 : BitVec 32 := 1#32
  let arg13 : BitVec 32 := Scf.iv c0_i32_11 c1_i32_12 k1_t2
  let c2_i32_352 : BitVec 32 := 2#32
  let v880 : BitVec 32 := Scalar.muli arg13 c2_i32_352
  let v881 : BitVec 32 := Scalar.addi c0_i32_353 v880
  let c2_i32_435 : BitVec 32 := 2#32
  let v1057 : BitVec 32 := Scalar.addi v881 c2_i32_435
  let c128_i32_436 : BitVec 32 := 128#32
  let v1058 : BitVec 32 := Scalar.muli v1057 c128_i32_436
  let v1059 : BitVec 32 := Scalar.addi c30720_i32_437 v1058
  let v1060 : BitVec 32 := v1059
  ![v3.toNat, v1060.toNat]
def k1_off16 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := v2
  let c0_i32_441 : BitVec 32 := 0#32
  ![v3.toNat, 0]

def k1_chk9 (v1075 : IVec S16 32) (v1086 : IVec S16 32) : Prop :=
  (∀ a x, ((![v1075, v1086] : Fin 2 → IVec S16 32) a x).toNat < S128x128.size a)
theorem k1_idx9_inb : ∀ (v1075 : IVec S16 32) (v1086 : IVec S16 32) (k1_hw9 : k1_chk9 v1075 v1086), ∀ a x, ((![v1075, v1086] : Fin 2 → IVec S16 32) a x).toNat < S128x128.size a := fun v1075 v1086 k1_hw9 => k1_hw9

def k1_chk10 (v1096 : IVec S16 32) (v1107 : IVec S16 32) : Prop :=
  (∀ a x, ((![v1096, v1107] : Fin 2 → IVec S16 32) a x).toNat < S128x128.size a)
theorem k1_idx10_inb : ∀ (v1096 : IVec S16 32) (v1107 : IVec S16 32) (k1_hw10 : k1_chk10 v1096 v1107), ∀ a x, ((![v1096, v1107] : Fin 2 → IVec S16 32) a x).toNat < S128x128.size a := fun v1096 v1107 k1_hw10 => k1_hw10

def k1_chk11 (v1117 : IVec S16 32) (v1128 : IVec S16 32) : Prop :=
  (∀ a x, ((![v1117, v1128] : Fin 2 → IVec S16 32) a x).toNat < S128x128.size a)
theorem k1_idx11_inb : ∀ (v1117 : IVec S16 32) (v1128 : IVec S16 32) (k1_hw11 : k1_chk11 v1117 v1128), ∀ a x, ((![v1117, v1128] : Fin 2 → IVec S16 32) a x).toNat < S128x128.size a := fun v1117 v1128 k1_hw11 => k1_hw11

def k1_chk12 (v1138 : IVec S16 32) (v1149 : IVec S16 32) : Prop :=
  (∀ a x, ((![v1138, v1149] : Fin 2 → IVec S16 32) a x).toNat < S128x128.size a)
theorem k1_idx12_inb : ∀ (v1138 : IVec S16 32) (v1149 : IVec S16 32) (k1_hw12 : k1_chk12 v1138 v1149), ∀ a x, ((![v1138, v1149] : Fin 2 → IVec S16 32) a x).toNat < S128x128.size a := fun v1138 v1149 k1_hw12 => k1_hw12

def k1_chk13 (v1159 : IVec S16 32) (v1170 : IVec S16 32) : Prop :=
  (∀ a x, ((![v1159, v1170] : Fin 2 → IVec S16 32) a x).toNat < S128x128.size a)
theorem k1_idx13_inb : ∀ (v1159 : IVec S16 32) (v1170 : IVec S16 32) (k1_hw13 : k1_chk13 v1159 v1170), ∀ a x, ((![v1159, v1170] : Fin 2 → IVec S16 32) a x).toNat < S128x128.size a := fun v1159 v1170 k1_hw13 => k1_hw13

def k1_chk14 (v1180 : IVec S16 32) (v1191 : IVec S16 32) : Prop :=
  (∀ a x, ((![v1180, v1191] : Fin 2 → IVec S16 32) a x).toNat < S128x128.size a)
theorem k1_idx14_inb : ∀ (v1180 : IVec S16 32) (v1191 : IVec S16 32) (k1_hw14 : k1_chk14 v1180 v1191), ∀ a x, ((![v1180, v1191] : Fin 2 → IVec S16 32) a x).toNat < S128x128.size a := fun v1180 v1191 k1_hw14 => k1_hw14

def k1_chk15 (v1201 : IVec S16 32) (v1212 : IVec S16 32) : Prop :=
  (∀ a x, ((![v1201, v1212] : Fin 2 → IVec S16 32) a x).toNat < S128x128.size a)
theorem k1_idx15_inb : ∀ (v1201 : IVec S16 32) (v1212 : IVec S16 32) (k1_hw15 : k1_chk15 v1201 v1212), ∀ a x, ((![v1201, v1212] : Fin 2 → IVec S16 32) a x).toNat < S128x128.size a := fun v1201 v1212 k1_hw15 => k1_hw15

def k1_chk16 (v1222 : IVec S16 32) (v1233 : IVec S16 32) : Prop :=
  (∀ a x, ((![v1222, v1233] : Fin 2 → IVec S16 32) a x).toNat < S128x128.size a)
theorem k1_idx16_inb : ∀ (v1222 : IVec S16 32) (v1233 : IVec S16 32) (k1_hw16 : k1_chk16 v1222 v1233), ∀ a x, ((![v1222, v1233] : Fin 2 → IVec S16 32) a x).toNat < S128x128.size a := fun v1222 v1233 k1_hw16 => k1_hw16
@[reducible] def k1_t4_loop : Scf.Loop 32 :=
  let c0_i32_517 : BitVec 32 := 0#32
  let c128_i32_518 : BitVec 32 := 128#32
  let v1240 : BitVec 32 := Scalar.addi c0_i32_517 c128_i32_518
  let c1_i32_519 : BitVec 32 := 1#32
  ⟨c0_i32_517, v1240, c1_i32_519⟩
def k1_off17 (k1_t4 : Fin k1_t4_loop.trips) : Fin 2 → Nat :=
  let c0_i32_526 : BitVec 32 := 0#32
  let c0_i32_517 : BitVec 32 := 0#32
  let c1_i32_519 : BitVec 32 := 1#32
  let arg14 : BitVec 32 := Scf.iv c0_i32_517 c1_i32_519 k1_t4
  let c1_i32_525 : BitVec 32 := 1#32
  let v1249 : BitVec 32 := Scalar.muli arg14 c1_i32_525
  let v1250 : BitVec 32 := Scalar.addi c0_i32_526 v1249
  let v1251 : Index := Scalar.indexCast v1250
  let c0_527 : Index := 0#32
  ![v1251.toNat, 0]
def k1_off18 (k1_t4 : Fin k1_t4_loop.trips) : Fin 2 → Nat :=
  let c0_i32_526 : BitVec 32 := 0#32
  let c0_i32_517 : BitVec 32 := 0#32
  let c1_i32_519 : BitVec 32 := 1#32
  let arg14 : BitVec 32 := Scf.iv c0_i32_517 c1_i32_519 k1_t4
  let c1_i32_525 : BitVec 32 := 1#32
  let v1249 : BitVec 32 := Scalar.muli arg14 c1_i32_525
  let v1250 : BitVec 32 := Scalar.addi c0_i32_526 v1249
  let v1253 : Index := Scalar.indexCast v1250
  let c16_528 : Index := 16#32
  ![v1253.toNat, 16]
def k1_off19 (k1_t4 : Fin k1_t4_loop.trips) : Fin 2 → Nat :=
  let c0_i32_526 : BitVec 32 := 0#32
  let c0_i32_517 : BitVec 32 := 0#32
  let c1_i32_519 : BitVec 32 := 1#32
  let arg14 : BitVec 32 := Scf.iv c0_i32_517 c1_i32_519 k1_t4
  let c1_i32_525 : BitVec 32 := 1#32
  let v1249 : BitVec 32 := Scalar.muli arg14 c1_i32_525
  let v1250 : BitVec 32 := Scalar.addi c0_i32_526 v1249
  let v1256 : Index := Scalar.indexCast v1250
  let c32_529 : Index := 32#32
  ![v1256.toNat, 32]
def k1_off20 (k1_t4 : Fin k1_t4_loop.trips) : Fin 2 → Nat :=
  let c0_i32_526 : BitVec 32 := 0#32
  let c0_i32_517 : BitVec 32 := 0#32
  let c1_i32_519 : BitVec 32 := 1#32
  let arg14 : BitVec 32 := Scf.iv c0_i32_517 c1_i32_519 k1_t4
  let c1_i32_525 : BitVec 32 := 1#32
  let v1249 : BitVec 32 := Scalar.muli arg14 c1_i32_525
  let v1250 : BitVec 32 := Scalar.addi c0_i32_526 v1249
  let v1259 : Index := Scalar.indexCast v1250
  let c48_530 : Index := 48#32
  ![v1259.toNat, 48]
def k1_off21 (k1_t4 : Fin k1_t4_loop.trips) : Fin 2 → Nat :=
  let c0_i32_526 : BitVec 32 := 0#32
  let c0_i32_517 : BitVec 32 := 0#32
  let c1_i32_519 : BitVec 32 := 1#32
  let arg14 : BitVec 32 := Scf.iv c0_i32_517 c1_i32_519 k1_t4
  let c1_i32_525 : BitVec 32 := 1#32
  let v1249 : BitVec 32 := Scalar.muli arg14 c1_i32_525
  let v1250 : BitVec 32 := Scalar.addi c0_i32_526 v1249
  let v1262 : Index := Scalar.indexCast v1250
  let c64_531 : Index := 64#32
  ![v1262.toNat, 64]
def k1_off22 (k1_t4 : Fin k1_t4_loop.trips) : Fin 2 → Nat :=
  let c0_i32_526 : BitVec 32 := 0#32
  let c0_i32_517 : BitVec 32 := 0#32
  let c1_i32_519 : BitVec 32 := 1#32
  let arg14 : BitVec 32 := Scf.iv c0_i32_517 c1_i32_519 k1_t4
  let c1_i32_525 : BitVec 32 := 1#32
  let v1249 : BitVec 32 := Scalar.muli arg14 c1_i32_525
  let v1250 : BitVec 32 := Scalar.addi c0_i32_526 v1249
  let v1265 : Index := Scalar.indexCast v1250
  let c80_532 : Index := 80#32
  ![v1265.toNat, 80]
def k1_off23 (k1_t4 : Fin k1_t4_loop.trips) : Fin 2 → Nat :=
  let c0_i32_526 : BitVec 32 := 0#32
  let c0_i32_517 : BitVec 32 := 0#32
  let c1_i32_519 : BitVec 32 := 1#32
  let arg14 : BitVec 32 := Scf.iv c0_i32_517 c1_i32_519 k1_t4
  let c1_i32_525 : BitVec 32 := 1#32
  let v1249 : BitVec 32 := Scalar.muli arg14 c1_i32_525
  let v1250 : BitVec 32 := Scalar.addi c0_i32_526 v1249
  let v1268 : Index := Scalar.indexCast v1250
  let c96_533 : Index := 96#32
  ![v1268.toNat, 96]
def k1_off24 (k1_t4 : Fin k1_t4_loop.trips) : Fin 2 → Nat :=
  let c0_i32_526 : BitVec 32 := 0#32
  let c0_i32_517 : BitVec 32 := 0#32
  let c1_i32_519 : BitVec 32 := 1#32
  let arg14 : BitVec 32 := Scf.iv c0_i32_517 c1_i32_519 k1_t4
  let c1_i32_525 : BitVec 32 := 1#32
  let v1249 : BitVec 32 := Scalar.muli arg14 c1_i32_525
  let v1250 : BitVec 32 := Scalar.addi c0_i32_526 v1249
  let v1271 : Index := Scalar.indexCast v1250
  let c112_534 : Index := 112#32
  ![v1271.toNat, 112]
def k1_off25 (k1_t4 : Fin k1_t4_loop.trips) : Fin 2 → Nat :=
  let c0_i32_526 : BitVec 32 := 0#32
  let c0_i32_517 : BitVec 32 := 0#32
  let c1_i32_519 : BitVec 32 := 1#32
  let arg14 : BitVec 32 := Scf.iv c0_i32_517 c1_i32_519 k1_t4
  let c1_i32_525 : BitVec 32 := 1#32
  let v1249 : BitVec 32 := Scalar.muli arg14 c1_i32_525
  let v1250 : BitVec 32 := Scalar.addi c0_i32_526 v1249
  let v1274 : Index := Scalar.indexCast v1250
  let c0_535 : Index := 0#32
  ![v1274.toNat, 0]
def k1_mult5 (k1_t2 : Fin k1_t2_loop.trips) : BitVec 32 :=
  let c30720_i32_523 : BitVec 32 := 30720#32
  let c0_i32_353 : BitVec 32 := 0#32
  let c0_i32_11 : BitVec 32 := 0#32
  let c1_i32_12 : BitVec 32 := 1#32
  let arg13 : BitVec 32 := Scf.iv c0_i32_11 c1_i32_12 k1_t2
  let c2_i32_352 : BitVec 32 := 2#32
  let v880 : BitVec 32 := Scalar.muli arg13 c2_i32_352
  let v881 : BitVec 32 := Scalar.addi c0_i32_353 v880
  let c3_i32_521 : BitVec 32 := 3#32
  let v1241 : BitVec 32 := Scalar.addi v881 c3_i32_521
  let c128_i32_522 : BitVec 32 := 128#32
  let v1242 : BitVec 32 := Scalar.muli v1241 c128_i32_522
  let v1243 : BitVec 32 := Scalar.addi c30720_i32_523 v1242
  v1243
def k1_off26 (i : grid1.Coords) (k1_t2 : Fin k1_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := v2
  let c30720_i32_523 : BitVec 32 := 30720#32
  let c0_i32_353 : BitVec 32 := 0#32
  let c0_i32_11 : BitVec 32 := 0#32
  let c1_i32_12 : BitVec 32 := 1#32
  let arg13 : BitVec 32 := Scf.iv c0_i32_11 c1_i32_12 k1_t2
  let c2_i32_352 : BitVec 32 := 2#32
  let v880 : BitVec 32 := Scalar.muli arg13 c2_i32_352
  let v881 : BitVec 32 := Scalar.addi c0_i32_353 v880
  let c3_i32_521 : BitVec 32 := 3#32
  let v1241 : BitVec 32 := Scalar.addi v881 c3_i32_521
  let c128_i32_522 : BitVec 32 := 128#32
  let v1242 : BitVec 32 := Scalar.muli v1241 c128_i32_522
  let v1243 : BitVec 32 := Scalar.addi c30720_i32_523 v1242
  let v1244 : BitVec 32 := v1243
  ![v3.toNat, v1244.toNat]
def k1_off27 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := v2
  let c0_i32_15 : BitVec 32 := 0#32
  ![v3.toNat, 0]

def k1_chk17 (v43 : IVec S16 32) (v54 : IVec S16 32) : Prop :=
  (∀ a x, ((![v43, v54] : Fin 2 → IVec S16 32) a x).toNat < S128x128.size a)
theorem k1_idx17_inb : ∀ (v43 : IVec S16 32) (v54 : IVec S16 32) (k1_hw17 : k1_chk17 v43 v54), ∀ a x, ((![v43, v54] : Fin 2 → IVec S16 32) a x).toNat < S128x128.size a := fun v43 v54 k1_hw17 => k1_hw17

def k1_chk18 (v64 : IVec S16 32) (v75 : IVec S16 32) : Prop :=
  (∀ a x, ((![v64, v75] : Fin 2 → IVec S16 32) a x).toNat < S128x128.size a)
theorem k1_idx18_inb : ∀ (v64 : IVec S16 32) (v75 : IVec S16 32) (k1_hw18 : k1_chk18 v64 v75), ∀ a x, ((![v64, v75] : Fin 2 → IVec S16 32) a x).toNat < S128x128.size a := fun v64 v75 k1_hw18 => k1_hw18

def k1_chk19 (v85 : IVec S16 32) (v96 : IVec S16 32) : Prop :=
  (∀ a x, ((![v85, v96] : Fin 2 → IVec S16 32) a x).toNat < S128x128.size a)
theorem k1_idx19_inb : ∀ (v85 : IVec S16 32) (v96 : IVec S16 32) (k1_hw19 : k1_chk19 v85 v96), ∀ a x, ((![v85, v96] : Fin 2 → IVec S16 32) a x).toNat < S128x128.size a := fun v85 v96 k1_hw19 => k1_hw19

def k1_chk20 (v106 : IVec S16 32) (v117 : IVec S16 32) : Prop :=
  (∀ a x, ((![v106, v117] : Fin 2 → IVec S16 32) a x).toNat < S128x128.size a)
theorem k1_idx20_inb : ∀ (v106 : IVec S16 32) (v117 : IVec S16 32) (k1_hw20 : k1_chk20 v106 v117), ∀ a x, ((![v106, v117] : Fin 2 → IVec S16 32) a x).toNat < S128x128.size a := fun v106 v117 k1_hw20 => k1_hw20

def k1_chk21 (v127 : IVec S16 32) (v138 : IVec S16 32) : Prop :=
  (∀ a x, ((![v127, v138] : Fin 2 → IVec S16 32) a x).toNat < S128x128.size a)
theorem k1_idx21_inb : ∀ (v127 : IVec S16 32) (v138 : IVec S16 32) (k1_hw21 : k1_chk21 v127 v138), ∀ a x, ((![v127, v138] : Fin 2 → IVec S16 32) a x).toNat < S128x128.size a := fun v127 v138 k1_hw21 => k1_hw21

def k1_chk22 (v148 : IVec S16 32) (v159 : IVec S16 32) : Prop :=
  (∀ a x, ((![v148, v159] : Fin 2 → IVec S16 32) a x).toNat < S128x128.size a)
theorem k1_idx22_inb : ∀ (v148 : IVec S16 32) (v159 : IVec S16 32) (k1_hw22 : k1_chk22 v148 v159), ∀ a x, ((![v148, v159] : Fin 2 → IVec S16 32) a x).toNat < S128x128.size a := fun v148 v159 k1_hw22 => k1_hw22

def k1_chk23 (v169 : IVec S16 32) (v180 : IVec S16 32) : Prop :=
  (∀ a x, ((![v169, v180] : Fin 2 → IVec S16 32) a x).toNat < S128x128.size a)
theorem k1_idx23_inb : ∀ (v169 : IVec S16 32) (v180 : IVec S16 32) (k1_hw23 : k1_chk23 v169 v180), ∀ a x, ((![v169, v180] : Fin 2 → IVec S16 32) a x).toNat < S128x128.size a := fun v169 v180 k1_hw23 => k1_hw23

def k1_chk24 (v190 : IVec S16 32) (v201 : IVec S16 32) : Prop :=
  (∀ a x, ((![v190, v201] : Fin 2 → IVec S16 32) a x).toNat < S128x128.size a)
theorem k1_idx24_inb : ∀ (v190 : IVec S16 32) (v201 : IVec S16 32) (k1_hw24 : k1_chk24 v190 v201), ∀ a x, ((![v190, v201] : Fin 2 → IVec S16 32) a x).toNat < S128x128.size a := fun v190 v201 k1_hw24 => k1_hw24
@[reducible] def k1_t5_loop : Scf.Loop 32 :=
  let c0_i32_88 : BitVec 32 := 0#32
  let c128_i32_89 : BitVec 32 := 128#32
  let v208 : BitVec 32 := Scalar.addi c0_i32_88 c128_i32_89
  let c1_i32_90 : BitVec 32 := 1#32
  ⟨c0_i32_88, v208, c1_i32_90⟩
def k1_off28 (k1_t5 : Fin k1_t5_loop.trips) : Fin 2 → Nat :=
  let c0_i32_353 : BitVec 32 := 0#32
  let c0_i32_88 : BitVec 32 := 0#32
  let c1_i32_90 : BitVec 32 := 1#32
  let arg13 : BitVec 32 := Scf.iv c0_i32_88 c1_i32_90 k1_t5
  let c1_i32_352 : BitVec 32 := 1#32
  let v880 : BitVec 32 := Scalar.muli arg13 c1_i32_352
  let v881 : BitVec 32 := Scalar.addi c0_i32_353 v880
  let v882 : Index := Scalar.indexCast v881
  let c0_354 : Index := 0#32
  ![v882.toNat, 0]
def k1_off29 (k1_t5 : Fin k1_t5_loop.trips) : Fin 2 → Nat :=
  let c0_i32_353 : BitVec 32 := 0#32
  let c0_i32_88 : BitVec 32 := 0#32
  let c1_i32_90 : BitVec 32 := 1#32
  let arg13 : BitVec 32 := Scf.iv c0_i32_88 c1_i32_90 k1_t5
  let c1_i32_352 : BitVec 32 := 1#32
  let v880 : BitVec 32 := Scalar.muli arg13 c1_i32_352
  let v881 : BitVec 32 := Scalar.addi c0_i32_353 v880
  let v884 : Index := Scalar.indexCast v881
  let c16_355 : Index := 16#32
  ![v884.toNat, 16]
def k1_off30 (k1_t5 : Fin k1_t5_loop.trips) : Fin 2 → Nat :=
  let c0_i32_353 : BitVec 32 := 0#32
  let c0_i32_88 : BitVec 32 := 0#32
  let c1_i32_90 : BitVec 32 := 1#32
  let arg13 : BitVec 32 := Scf.iv c0_i32_88 c1_i32_90 k1_t5
  let c1_i32_352 : BitVec 32 := 1#32
  let v880 : BitVec 32 := Scalar.muli arg13 c1_i32_352
  let v881 : BitVec 32 := Scalar.addi c0_i32_353 v880
  let v887 : Index := Scalar.indexCast v881
  let c32_356 : Index := 32#32
  ![v887.toNat, 32]
def k1_off31 (k1_t5 : Fin k1_t5_loop.trips) : Fin 2 → Nat :=
  let c0_i32_353 : BitVec 32 := 0#32
  let c0_i32_88 : BitVec 32 := 0#32
  let c1_i32_90 : BitVec 32 := 1#32
  let arg13 : BitVec 32 := Scf.iv c0_i32_88 c1_i32_90 k1_t5
  let c1_i32_352 : BitVec 32 := 1#32
  let v880 : BitVec 32 := Scalar.muli arg13 c1_i32_352
  let v881 : BitVec 32 := Scalar.addi c0_i32_353 v880
  let v890 : Index := Scalar.indexCast v881
  let c48_357 : Index := 48#32
  ![v890.toNat, 48]
def k1_off32 (k1_t5 : Fin k1_t5_loop.trips) : Fin 2 → Nat :=
  let c0_i32_353 : BitVec 32 := 0#32
  let c0_i32_88 : BitVec 32 := 0#32
  let c1_i32_90 : BitVec 32 := 1#32
  let arg13 : BitVec 32 := Scf.iv c0_i32_88 c1_i32_90 k1_t5
  let c1_i32_352 : BitVec 32 := 1#32
  let v880 : BitVec 32 := Scalar.muli arg13 c1_i32_352
  let v881 : BitVec 32 := Scalar.addi c0_i32_353 v880
  let v893 : Index := Scalar.indexCast v881
  let c64_358 : Index := 64#32
  ![v893.toNat, 64]
def k1_off33 (k1_t5 : Fin k1_t5_loop.trips) : Fin 2 → Nat :=
  let c0_i32_353 : BitVec 32 := 0#32
  let c0_i32_88 : BitVec 32 := 0#32
  let c1_i32_90 : BitVec 32 := 1#32
  let arg13 : BitVec 32 := Scf.iv c0_i32_88 c1_i32_90 k1_t5
  let c1_i32_352 : BitVec 32 := 1#32
  let v880 : BitVec 32 := Scalar.muli arg13 c1_i32_352
  let v881 : BitVec 32 := Scalar.addi c0_i32_353 v880
  let v896 : Index := Scalar.indexCast v881
  let c80_359 : Index := 80#32
  ![v896.toNat, 80]
def k1_off34 (k1_t5 : Fin k1_t5_loop.trips) : Fin 2 → Nat :=
  let c0_i32_353 : BitVec 32 := 0#32
  let c0_i32_88 : BitVec 32 := 0#32
  let c1_i32_90 : BitVec 32 := 1#32
  let arg13 : BitVec 32 := Scf.iv c0_i32_88 c1_i32_90 k1_t5
  let c1_i32_352 : BitVec 32 := 1#32
  let v880 : BitVec 32 := Scalar.muli arg13 c1_i32_352
  let v881 : BitVec 32 := Scalar.addi c0_i32_353 v880
  let v899 : Index := Scalar.indexCast v881
  let c96_360 : Index := 96#32
  ![v899.toNat, 96]
def k1_off35 (k1_t5 : Fin k1_t5_loop.trips) : Fin 2 → Nat :=
  let c0_i32_353 : BitVec 32 := 0#32
  let c0_i32_88 : BitVec 32 := 0#32
  let c1_i32_90 : BitVec 32 := 1#32
  let arg13 : BitVec 32 := Scf.iv c0_i32_88 c1_i32_90 k1_t5
  let c1_i32_352 : BitVec 32 := 1#32
  let v880 : BitVec 32 := Scalar.muli arg13 c1_i32_352
  let v881 : BitVec 32 := Scalar.addi c0_i32_353 v880
  let v902 : Index := Scalar.indexCast v881
  let c112_361 : Index := 112#32
  ![v902.toNat, 112]
def k1_off36 (k1_t5 : Fin k1_t5_loop.trips) : Fin 2 → Nat :=
  let c0_i32_353 : BitVec 32 := 0#32
  let c0_i32_88 : BitVec 32 := 0#32
  let c1_i32_90 : BitVec 32 := 1#32
  let arg13 : BitVec 32 := Scf.iv c0_i32_88 c1_i32_90 k1_t5
  let c1_i32_352 : BitVec 32 := 1#32
  let v880 : BitVec 32 := Scalar.muli arg13 c1_i32_352
  let v881 : BitVec 32 := Scalar.addi c0_i32_353 v880
  let v905 : Index := Scalar.indexCast v881
  let c0_362 : Index := 0#32
  ![v905.toNat, 0]
def k1_off37 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := v2
  let c0_i32_93 : BitVec 32 := 0#32
  ![v3.toNat, 0]

def k1_chk25 (v216 : IVec S16 32) (v227 : IVec S16 32) : Prop :=
  (∀ a x, ((![v216, v227] : Fin 2 → IVec S16 32) a x).toNat < S128x128.size a)
theorem k1_idx25_inb : ∀ (v216 : IVec S16 32) (v227 : IVec S16 32) (k1_hw25 : k1_chk25 v216 v227), ∀ a x, ((![v216, v227] : Fin 2 → IVec S16 32) a x).toNat < S128x128.size a := fun v216 v227 k1_hw25 => k1_hw25

def k1_chk26 (v237 : IVec S16 32) (v248 : IVec S16 32) : Prop :=
  (∀ a x, ((![v237, v248] : Fin 2 → IVec S16 32) a x).toNat < S128x128.size a)
theorem k1_idx26_inb : ∀ (v237 : IVec S16 32) (v248 : IVec S16 32) (k1_hw26 : k1_chk26 v237 v248), ∀ a x, ((![v237, v248] : Fin 2 → IVec S16 32) a x).toNat < S128x128.size a := fun v237 v248 k1_hw26 => k1_hw26

def k1_chk27 (v258 : IVec S16 32) (v269 : IVec S16 32) : Prop :=
  (∀ a x, ((![v258, v269] : Fin 2 → IVec S16 32) a x).toNat < S128x128.size a)
theorem k1_idx27_inb : ∀ (v258 : IVec S16 32) (v269 : IVec S16 32) (k1_hw27 : k1_chk27 v258 v269), ∀ a x, ((![v258, v269] : Fin 2 → IVec S16 32) a x).toNat < S128x128.size a := fun v258 v269 k1_hw27 => k1_hw27

def k1_chk28 (v279 : IVec S16 32) (v290 : IVec S16 32) : Prop :=
  (∀ a x, ((![v279, v290] : Fin 2 → IVec S16 32) a x).toNat < S128x128.size a)
theorem k1_idx28_inb : ∀ (v279 : IVec S16 32) (v290 : IVec S16 32) (k1_hw28 : k1_chk28 v279 v290), ∀ a x, ((![v279, v290] : Fin 2 → IVec S16 32) a x).toNat < S128x128.size a := fun v279 v290 k1_hw28 => k1_hw28

def k1_chk29 (v300 : IVec S16 32) (v311 : IVec S16 32) : Prop :=
  (∀ a x, ((![v300, v311] : Fin 2 → IVec S16 32) a x).toNat < S128x128.size a)
theorem k1_idx29_inb : ∀ (v300 : IVec S16 32) (v311 : IVec S16 32) (k1_hw29 : k1_chk29 v300 v311), ∀ a x, ((![v300, v311] : Fin 2 → IVec S16 32) a x).toNat < S128x128.size a := fun v300 v311 k1_hw29 => k1_hw29

def k1_chk30 (v321 : IVec S16 32) (v332 : IVec S16 32) : Prop :=
  (∀ a x, ((![v321, v332] : Fin 2 → IVec S16 32) a x).toNat < S128x128.size a)
theorem k1_idx30_inb : ∀ (v321 : IVec S16 32) (v332 : IVec S16 32) (k1_hw30 : k1_chk30 v321 v332), ∀ a x, ((![v321, v332] : Fin 2 → IVec S16 32) a x).toNat < S128x128.size a := fun v321 v332 k1_hw30 => k1_hw30

def k1_chk31 (v342 : IVec S16 32) (v353 : IVec S16 32) : Prop :=
  (∀ a x, ((![v342, v353] : Fin 2 → IVec S16 32) a x).toNat < S128x128.size a)
theorem k1_idx31_inb : ∀ (v342 : IVec S16 32) (v353 : IVec S16 32) (k1_hw31 : k1_chk31 v342 v353), ∀ a x, ((![v342, v353] : Fin 2 → IVec S16 32) a x).toNat < S128x128.size a := fun v342 v353 k1_hw31 => k1_hw31

def k1_chk32 (v363 : IVec S16 32) (v374 : IVec S16 32) : Prop :=
  (∀ a x, ((![v363, v374] : Fin 2 → IVec S16 32) a x).toNat < S128x128.size a)
theorem k1_idx32_inb : ∀ (v363 : IVec S16 32) (v374 : IVec S16 32) (k1_hw32 : k1_chk32 v363 v374), ∀ a x, ((![v363, v374] : Fin 2 → IVec S16 32) a x).toNat < S128x128.size a := fun v363 v374 k1_hw32 => k1_hw32
@[reducible] def k1_t6_loop : Scf.Loop 32 :=
  let c0_i32_174 : BitVec 32 := 0#32
  let c128_i32_175 : BitVec 32 := 128#32
  let v381 : BitVec 32 := Scalar.addi c0_i32_174 c128_i32_175
  let c1_i32_176 : BitVec 32 := 1#32
  ⟨c0_i32_174, v381, c1_i32_176⟩
def k1_off38 (k1_t6 : Fin k1_t6_loop.trips) : Fin 2 → Nat :=
  let c0_i32_353 : BitVec 32 := 0#32
  let c0_i32_174 : BitVec 32 := 0#32
  let c1_i32_176 : BitVec 32 := 1#32
  let arg13 : BitVec 32 := Scf.iv c0_i32_174 c1_i32_176 k1_t6
  let c1_i32_352 : BitVec 32 := 1#32
  let v880 : BitVec 32 := Scalar.muli arg13 c1_i32_352
  let v881 : BitVec 32 := Scalar.addi c0_i32_353 v880
  let v882 : Index := Scalar.indexCast v881
  let c0_354 : Index := 0#32
  ![v882.toNat, 0]
def k1_off39 (k1_t6 : Fin k1_t6_loop.trips) : Fin 2 → Nat :=
  let c0_i32_353 : BitVec 32 := 0#32
  let c0_i32_174 : BitVec 32 := 0#32
  let c1_i32_176 : BitVec 32 := 1#32
  let arg13 : BitVec 32 := Scf.iv c0_i32_174 c1_i32_176 k1_t6
  let c1_i32_352 : BitVec 32 := 1#32
  let v880 : BitVec 32 := Scalar.muli arg13 c1_i32_352
  let v881 : BitVec 32 := Scalar.addi c0_i32_353 v880
  let v884 : Index := Scalar.indexCast v881
  let c16_355 : Index := 16#32
  ![v884.toNat, 16]
def k1_off40 (k1_t6 : Fin k1_t6_loop.trips) : Fin 2 → Nat :=
  let c0_i32_353 : BitVec 32 := 0#32
  let c0_i32_174 : BitVec 32 := 0#32
  let c1_i32_176 : BitVec 32 := 1#32
  let arg13 : BitVec 32 := Scf.iv c0_i32_174 c1_i32_176 k1_t6
  let c1_i32_352 : BitVec 32 := 1#32
  let v880 : BitVec 32 := Scalar.muli arg13 c1_i32_352
  let v881 : BitVec 32 := Scalar.addi c0_i32_353 v880
  let v887 : Index := Scalar.indexCast v881
  let c32_356 : Index := 32#32
  ![v887.toNat, 32]
def k1_off41 (k1_t6 : Fin k1_t6_loop.trips) : Fin 2 → Nat :=
  let c0_i32_353 : BitVec 32 := 0#32
  let c0_i32_174 : BitVec 32 := 0#32
  let c1_i32_176 : BitVec 32 := 1#32
  let arg13 : BitVec 32 := Scf.iv c0_i32_174 c1_i32_176 k1_t6
  let c1_i32_352 : BitVec 32 := 1#32
  let v880 : BitVec 32 := Scalar.muli arg13 c1_i32_352
  let v881 : BitVec 32 := Scalar.addi c0_i32_353 v880
  let v890 : Index := Scalar.indexCast v881
  let c48_357 : Index := 48#32
  ![v890.toNat, 48]
def k1_off42 (k1_t6 : Fin k1_t6_loop.trips) : Fin 2 → Nat :=
  let c0_i32_353 : BitVec 32 := 0#32
  let c0_i32_174 : BitVec 32 := 0#32
  let c1_i32_176 : BitVec 32 := 1#32
  let arg13 : BitVec 32 := Scf.iv c0_i32_174 c1_i32_176 k1_t6
  let c1_i32_352 : BitVec 32 := 1#32
  let v880 : BitVec 32 := Scalar.muli arg13 c1_i32_352
  let v881 : BitVec 32 := Scalar.addi c0_i32_353 v880
  let v893 : Index := Scalar.indexCast v881
  let c64_358 : Index := 64#32
  ![v893.toNat, 64]
def k1_off43 (k1_t6 : Fin k1_t6_loop.trips) : Fin 2 → Nat :=
  let c0_i32_353 : BitVec 32 := 0#32
  let c0_i32_174 : BitVec 32 := 0#32
  let c1_i32_176 : BitVec 32 := 1#32
  let arg13 : BitVec 32 := Scf.iv c0_i32_174 c1_i32_176 k1_t6
  let c1_i32_352 : BitVec 32 := 1#32
  let v880 : BitVec 32 := Scalar.muli arg13 c1_i32_352
  let v881 : BitVec 32 := Scalar.addi c0_i32_353 v880
  let v896 : Index := Scalar.indexCast v881
  let c80_359 : Index := 80#32
  ![v896.toNat, 80]
def k1_off44 (k1_t6 : Fin k1_t6_loop.trips) : Fin 2 → Nat :=
  let c0_i32_353 : BitVec 32 := 0#32
  let c0_i32_174 : BitVec 32 := 0#32
  let c1_i32_176 : BitVec 32 := 1#32
  let arg13 : BitVec 32 := Scf.iv c0_i32_174 c1_i32_176 k1_t6
  let c1_i32_352 : BitVec 32 := 1#32
  let v880 : BitVec 32 := Scalar.muli arg13 c1_i32_352
  let v881 : BitVec 32 := Scalar.addi c0_i32_353 v880
  let v899 : Index := Scalar.indexCast v881
  let c96_360 : Index := 96#32
  ![v899.toNat, 96]
def k1_off45 (k1_t6 : Fin k1_t6_loop.trips) : Fin 2 → Nat :=
  let c0_i32_353 : BitVec 32 := 0#32
  let c0_i32_174 : BitVec 32 := 0#32
  let c1_i32_176 : BitVec 32 := 1#32
  let arg13 : BitVec 32 := Scf.iv c0_i32_174 c1_i32_176 k1_t6
  let c1_i32_352 : BitVec 32 := 1#32
  let v880 : BitVec 32 := Scalar.muli arg13 c1_i32_352
  let v881 : BitVec 32 := Scalar.addi c0_i32_353 v880
  let v902 : Index := Scalar.indexCast v881
  let c112_361 : Index := 112#32
  ![v902.toNat, 112]
def k1_off46 (k1_t6 : Fin k1_t6_loop.trips) : Fin 2 → Nat :=
  let c0_i32_353 : BitVec 32 := 0#32
  let c0_i32_174 : BitVec 32 := 0#32
  let c1_i32_176 : BitVec 32 := 1#32
  let arg13 : BitVec 32 := Scf.iv c0_i32_174 c1_i32_176 k1_t6
  let c1_i32_352 : BitVec 32 := 1#32
  let v880 : BitVec 32 := Scalar.muli arg13 c1_i32_352
  let v881 : BitVec 32 := Scalar.addi c0_i32_353 v880
  let v905 : Index := Scalar.indexCast v881
  let c0_362 : Index := 0#32
  ![v905.toNat, 0]

def k1_chk33 (v385 : IVec S16 32) (v386 : IVec S16 32) : Prop :=
  (∀ a x, ((![v385, v386] : Fin 2 → IVec S16 32) a x).toNat < S128x16.size a)
theorem k1_idx33_inb : ∀ (v385 : IVec S16 32) (v386 : IVec S16 32) (k1_hw33 : k1_chk33 v385 v386), ∀ a x, ((![v385, v386] : Fin 2 → IVec S16 32) a x).toNat < S128x16.size a := fun v385 v386 k1_hw33 => k1_hw33

def k1_chk34 (v385 : IVec S16 32) (v388 : IVec S16 32) : Prop :=
  (∀ a x, ((![v385, v388] : Fin 2 → IVec S16 32) a x).toNat < S128x16.size a)
theorem k1_idx34_inb : ∀ (v385 : IVec S16 32) (v388 : IVec S16 32) (k1_hw34 : k1_chk34 v385 v388), ∀ a x, ((![v385, v388] : Fin 2 → IVec S16 32) a x).toNat < S128x16.size a := fun v385 v388 k1_hw34 => k1_hw34

def k1_chk35 (v385 : IVec S16 32) (v391 : IVec S16 32) : Prop :=
  (∀ a x, ((![v385, v391] : Fin 2 → IVec S16 32) a x).toNat < S128x16.size a)
theorem k1_idx35_inb : ∀ (v385 : IVec S16 32) (v391 : IVec S16 32) (k1_hw35 : k1_chk35 v385 v391), ∀ a x, ((![v385, v391] : Fin 2 → IVec S16 32) a x).toNat < S128x16.size a := fun v385 v391 k1_hw35 => k1_hw35

def k1_chk36 (v385 : IVec S16 32) (v394 : IVec S16 32) : Prop :=
  (∀ a x, ((![v385, v394] : Fin 2 → IVec S16 32) a x).toNat < S128x16.size a)
theorem k1_idx36_inb : ∀ (v385 : IVec S16 32) (v394 : IVec S16 32) (k1_hw36 : k1_chk36 v385 v394), ∀ a x, ((![v385, v394] : Fin 2 → IVec S16 32) a x).toNat < S128x16.size a := fun v385 v394 k1_hw36 => k1_hw36

def k1_chk37 (v385 : IVec S16 32) (v397 : IVec S16 32) : Prop :=
  (∀ a x, ((![v385, v397] : Fin 2 → IVec S16 32) a x).toNat < S128x16.size a)
theorem k1_idx37_inb : ∀ (v385 : IVec S16 32) (v397 : IVec S16 32) (k1_hw37 : k1_chk37 v385 v397), ∀ a x, ((![v385, v397] : Fin 2 → IVec S16 32) a x).toNat < S128x16.size a := fun v385 v397 k1_hw37 => k1_hw37

def k1_chk38 (v385 : IVec S16 32) (v400 : IVec S16 32) : Prop :=
  (∀ a x, ((![v385, v400] : Fin 2 → IVec S16 32) a x).toNat < S128x16.size a)
theorem k1_idx38_inb : ∀ (v385 : IVec S16 32) (v400 : IVec S16 32) (k1_hw38 : k1_chk38 v385 v400), ∀ a x, ((![v385, v400] : Fin 2 → IVec S16 32) a x).toNat < S128x16.size a := fun v385 v400 k1_hw38 => k1_hw38

def k1_chk39 (v385 : IVec S16 32) (v403 : IVec S16 32) : Prop :=
  (∀ a x, ((![v385, v403] : Fin 2 → IVec S16 32) a x).toNat < S128x16.size a)
theorem k1_idx39_inb : ∀ (v385 : IVec S16 32) (v403 : IVec S16 32) (k1_hw39 : k1_chk39 v385 v403), ∀ a x, ((![v385, v403] : Fin 2 → IVec S16 32) a x).toNat < S128x16.size a := fun v385 v403 k1_hw39 => k1_hw39

def k1_chk40 (v385 : IVec S16 32) (v406 : IVec S16 32) : Prop :=
  (∀ a x, ((![v385, v406] : Fin 2 → IVec S16 32) a x).toNat < S128x16.size a)
theorem k1_idx40_inb : ∀ (v385 : IVec S16 32) (v406 : IVec S16 32) (k1_hw40 : k1_chk40 v385 v406), ∀ a x, ((![v385, v406] : Fin 2 → IVec S16 32) a x).toNat < S128x16.size a := fun v385 v406 k1_hw40 => k1_hw40

def k1_chk41 (v385 : IVec S16 32) (v409 : IVec S16 32) : Prop :=
  (∀ a x, ((![v385, v409] : Fin 2 → IVec S16 32) a x).toNat < S128x16.size a)
theorem k1_idx41_inb : ∀ (v385 : IVec S16 32) (v409 : IVec S16 32) (k1_hw41 : k1_chk41 v385 v409), ∀ a x, ((![v385, v409] : Fin 2 → IVec S16 32) a x).toNat < S128x16.size a := fun v385 v409 k1_hw41 => k1_hw41

def k1_chk42 (v385 : IVec S16 32) (v412 : IVec S16 32) : Prop :=
  (∀ a x, ((![v385, v412] : Fin 2 → IVec S16 32) a x).toNat < S128x16.size a)
theorem k1_idx42_inb : ∀ (v385 : IVec S16 32) (v412 : IVec S16 32) (k1_hw42 : k1_chk42 v385 v412), ∀ a x, ((![v385, v412] : Fin 2 → IVec S16 32) a x).toNat < S128x16.size a := fun v385 v412 k1_hw42 => k1_hw42

def k1_chk43 (v385 : IVec S16 32) (v415 : IVec S16 32) : Prop :=
  (∀ a x, ((![v385, v415] : Fin 2 → IVec S16 32) a x).toNat < S128x16.size a)
theorem k1_idx43_inb : ∀ (v385 : IVec S16 32) (v415 : IVec S16 32) (k1_hw43 : k1_chk43 v385 v415), ∀ a x, ((![v385, v415] : Fin 2 → IVec S16 32) a x).toNat < S128x16.size a := fun v385 v415 k1_hw43 => k1_hw43

def k1_chk44 (v385 : IVec S16 32) (v418 : IVec S16 32) : Prop :=
  (∀ a x, ((![v385, v418] : Fin 2 → IVec S16 32) a x).toNat < S128x16.size a)
theorem k1_idx44_inb : ∀ (v385 : IVec S16 32) (v418 : IVec S16 32) (k1_hw44 : k1_chk44 v385 v418), ∀ a x, ((![v385, v418] : Fin 2 → IVec S16 32) a x).toNat < S128x16.size a := fun v385 v418 k1_hw44 => k1_hw44

def k1_chk45 (v385 : IVec S16 32) (v421 : IVec S16 32) : Prop :=
  (∀ a x, ((![v385, v421] : Fin 2 → IVec S16 32) a x).toNat < S128x16.size a)
theorem k1_idx45_inb : ∀ (v385 : IVec S16 32) (v421 : IVec S16 32) (k1_hw45 : k1_chk45 v385 v421), ∀ a x, ((![v385, v421] : Fin 2 → IVec S16 32) a x).toNat < S128x16.size a := fun v385 v421 k1_hw45 => k1_hw45

def k1_chk46 (v385 : IVec S16 32) (v424 : IVec S16 32) : Prop :=
  (∀ a x, ((![v385, v424] : Fin 2 → IVec S16 32) a x).toNat < S128x16.size a)
theorem k1_idx46_inb : ∀ (v385 : IVec S16 32) (v424 : IVec S16 32) (k1_hw46 : k1_chk46 v385 v424), ∀ a x, ((![v385, v424] : Fin 2 → IVec S16 32) a x).toNat < S128x16.size a := fun v385 v424 k1_hw46 => k1_hw46

def k1_chk47 (v385 : IVec S16 32) (v427 : IVec S16 32) : Prop :=
  (∀ a x, ((![v385, v427] : Fin 2 → IVec S16 32) a x).toNat < S128x16.size a)
theorem k1_idx47_inb : ∀ (v385 : IVec S16 32) (v427 : IVec S16 32) (k1_hw47 : k1_chk47 v385 v427), ∀ a x, ((![v385, v427] : Fin 2 → IVec S16 32) a x).toNat < S128x16.size a := fun v385 v427 k1_hw47 => k1_hw47

def k1_chk48 (v385 : IVec S16 32) (v430 : IVec S16 32) : Prop :=
  (∀ a x, ((![v385, v430] : Fin 2 → IVec S16 32) a x).toNat < S128x16.size a)
theorem k1_idx48_inb : ∀ (v385 : IVec S16 32) (v430 : IVec S16 32) (k1_hw48 : k1_chk48 v385 v430), ∀ a x, ((![v385, v430] : Fin 2 → IVec S16 32) a x).toNat < S128x16.size a := fun v385 v430 k1_hw48 => k1_hw48

def k1_chk49 (v447 : IVec S16 32) (v448 : IVec S16 32) : Prop :=
  (∀ a x, ((![v447, v448] : Fin 2 → IVec S16 32) a x).toNat < S128x16.size a)
theorem k1_idx49_inb : ∀ (v447 : IVec S16 32) (v448 : IVec S16 32) (k1_hw49 : k1_chk49 v447 v448), ∀ a x, ((![v447, v448] : Fin 2 → IVec S16 32) a x).toNat < S128x16.size a := fun v447 v448 k1_hw49 => k1_hw49

def k1_chk50 (v447 : IVec S16 32) (v450 : IVec S16 32) : Prop :=
  (∀ a x, ((![v447, v450] : Fin 2 → IVec S16 32) a x).toNat < S128x16.size a)
theorem k1_idx50_inb : ∀ (v447 : IVec S16 32) (v450 : IVec S16 32) (k1_hw50 : k1_chk50 v447 v450), ∀ a x, ((![v447, v450] : Fin 2 → IVec S16 32) a x).toNat < S128x16.size a := fun v447 v450 k1_hw50 => k1_hw50

def k1_chk51 (v447 : IVec S16 32) (v453 : IVec S16 32) : Prop :=
  (∀ a x, ((![v447, v453] : Fin 2 → IVec S16 32) a x).toNat < S128x16.size a)
theorem k1_idx51_inb : ∀ (v447 : IVec S16 32) (v453 : IVec S16 32) (k1_hw51 : k1_chk51 v447 v453), ∀ a x, ((![v447, v453] : Fin 2 → IVec S16 32) a x).toNat < S128x16.size a := fun v447 v453 k1_hw51 => k1_hw51

def k1_chk52 (v447 : IVec S16 32) (v456 : IVec S16 32) : Prop :=
  (∀ a x, ((![v447, v456] : Fin 2 → IVec S16 32) a x).toNat < S128x16.size a)
theorem k1_idx52_inb : ∀ (v447 : IVec S16 32) (v456 : IVec S16 32) (k1_hw52 : k1_chk52 v447 v456), ∀ a x, ((![v447, v456] : Fin 2 → IVec S16 32) a x).toNat < S128x16.size a := fun v447 v456 k1_hw52 => k1_hw52

def k1_chk53 (v447 : IVec S16 32) (v459 : IVec S16 32) : Prop :=
  (∀ a x, ((![v447, v459] : Fin 2 → IVec S16 32) a x).toNat < S128x16.size a)
theorem k1_idx53_inb : ∀ (v447 : IVec S16 32) (v459 : IVec S16 32) (k1_hw53 : k1_chk53 v447 v459), ∀ a x, ((![v447, v459] : Fin 2 → IVec S16 32) a x).toNat < S128x16.size a := fun v447 v459 k1_hw53 => k1_hw53

def k1_chk54 (v447 : IVec S16 32) (v462 : IVec S16 32) : Prop :=
  (∀ a x, ((![v447, v462] : Fin 2 → IVec S16 32) a x).toNat < S128x16.size a)
theorem k1_idx54_inb : ∀ (v447 : IVec S16 32) (v462 : IVec S16 32) (k1_hw54 : k1_chk54 v447 v462), ∀ a x, ((![v447, v462] : Fin 2 → IVec S16 32) a x).toNat < S128x16.size a := fun v447 v462 k1_hw54 => k1_hw54

def k1_chk55 (v447 : IVec S16 32) (v465 : IVec S16 32) : Prop :=
  (∀ a x, ((![v447, v465] : Fin 2 → IVec S16 32) a x).toNat < S128x16.size a)
theorem k1_idx55_inb : ∀ (v447 : IVec S16 32) (v465 : IVec S16 32) (k1_hw55 : k1_chk55 v447 v465), ∀ a x, ((![v447, v465] : Fin 2 → IVec S16 32) a x).toNat < S128x16.size a := fun v447 v465 k1_hw55 => k1_hw55

def k1_chk56 (v447 : IVec S16 32) (v468 : IVec S16 32) : Prop :=
  (∀ a x, ((![v447, v468] : Fin 2 → IVec S16 32) a x).toNat < S128x16.size a)
theorem k1_idx56_inb : ∀ (v447 : IVec S16 32) (v468 : IVec S16 32) (k1_hw56 : k1_chk56 v447 v468), ∀ a x, ((![v447, v468] : Fin 2 → IVec S16 32) a x).toNat < S128x16.size a := fun v447 v468 k1_hw56 => k1_hw56

def k1_chk57 (v447 : IVec S16 32) (v471 : IVec S16 32) : Prop :=
  (∀ a x, ((![v447, v471] : Fin 2 → IVec S16 32) a x).toNat < S128x16.size a)
theorem k1_idx57_inb : ∀ (v447 : IVec S16 32) (v471 : IVec S16 32) (k1_hw57 : k1_chk57 v447 v471), ∀ a x, ((![v447, v471] : Fin 2 → IVec S16 32) a x).toNat < S128x16.size a := fun v447 v471 k1_hw57 => k1_hw57

def k1_chk58 (v447 : IVec S16 32) (v474 : IVec S16 32) : Prop :=
  (∀ a x, ((![v447, v474] : Fin 2 → IVec S16 32) a x).toNat < S128x16.size a)
theorem k1_idx58_inb : ∀ (v447 : IVec S16 32) (v474 : IVec S16 32) (k1_hw58 : k1_chk58 v447 v474), ∀ a x, ((![v447, v474] : Fin 2 → IVec S16 32) a x).toNat < S128x16.size a := fun v447 v474 k1_hw58 => k1_hw58

def k1_chk59 (v447 : IVec S16 32) (v477 : IVec S16 32) : Prop :=
  (∀ a x, ((![v447, v477] : Fin 2 → IVec S16 32) a x).toNat < S128x16.size a)
theorem k1_idx59_inb : ∀ (v447 : IVec S16 32) (v477 : IVec S16 32) (k1_hw59 : k1_chk59 v447 v477), ∀ a x, ((![v447, v477] : Fin 2 → IVec S16 32) a x).toNat < S128x16.size a := fun v447 v477 k1_hw59 => k1_hw59

def k1_chk60 (v447 : IVec S16 32) (v480 : IVec S16 32) : Prop :=
  (∀ a x, ((![v447, v480] : Fin 2 → IVec S16 32) a x).toNat < S128x16.size a)
theorem k1_idx60_inb : ∀ (v447 : IVec S16 32) (v480 : IVec S16 32) (k1_hw60 : k1_chk60 v447 v480), ∀ a x, ((![v447, v480] : Fin 2 → IVec S16 32) a x).toNat < S128x16.size a := fun v447 v480 k1_hw60 => k1_hw60

def k1_chk61 (v447 : IVec S16 32) (v483 : IVec S16 32) : Prop :=
  (∀ a x, ((![v447, v483] : Fin 2 → IVec S16 32) a x).toNat < S128x16.size a)
theorem k1_idx61_inb : ∀ (v447 : IVec S16 32) (v483 : IVec S16 32) (k1_hw61 : k1_chk61 v447 v483), ∀ a x, ((![v447, v483] : Fin 2 → IVec S16 32) a x).toNat < S128x16.size a := fun v447 v483 k1_hw61 => k1_hw61

def k1_chk62 (v447 : IVec S16 32) (v486 : IVec S16 32) : Prop :=
  (∀ a x, ((![v447, v486] : Fin 2 → IVec S16 32) a x).toNat < S128x16.size a)
theorem k1_idx62_inb : ∀ (v447 : IVec S16 32) (v486 : IVec S16 32) (k1_hw62 : k1_chk62 v447 v486), ∀ a x, ((![v447, v486] : Fin 2 → IVec S16 32) a x).toNat < S128x16.size a := fun v447 v486 k1_hw62 => k1_hw62

def k1_chk63 (v447 : IVec S16 32) (v489 : IVec S16 32) : Prop :=
  (∀ a x, ((![v447, v489] : Fin 2 → IVec S16 32) a x).toNat < S128x16.size a)
theorem k1_idx63_inb : ∀ (v447 : IVec S16 32) (v489 : IVec S16 32) (k1_hw63 : k1_chk63 v447 v489), ∀ a x, ((![v447, v489] : Fin 2 → IVec S16 32) a x).toNat < S128x16.size a := fun v447 v489 k1_hw63 => k1_hw63

def k1_chk64 (v447 : IVec S16 32) (v492 : IVec S16 32) : Prop :=
  (∀ a x, ((![v447, v492] : Fin 2 → IVec S16 32) a x).toNat < S128x16.size a)
theorem k1_idx64_inb : ∀ (v447 : IVec S16 32) (v492 : IVec S16 32) (k1_hw64 : k1_chk64 v447 v492), ∀ a x, ((![v447, v492] : Fin 2 → IVec S16 32) a x).toNat < S128x16.size a := fun v447 v492 k1_hw64 => k1_hw64

def k1_chk65 (v509 : IVec S16 32) (v510 : IVec S16 32) : Prop :=
  (∀ a x, ((![v509, v510] : Fin 2 → IVec S16 32) a x).toNat < S128x16.size a)
theorem k1_idx65_inb : ∀ (v509 : IVec S16 32) (v510 : IVec S16 32) (k1_hw65 : k1_chk65 v509 v510), ∀ a x, ((![v509, v510] : Fin 2 → IVec S16 32) a x).toNat < S128x16.size a := fun v509 v510 k1_hw65 => k1_hw65

def k1_chk66 (v509 : IVec S16 32) (v512 : IVec S16 32) : Prop :=
  (∀ a x, ((![v509, v512] : Fin 2 → IVec S16 32) a x).toNat < S128x16.size a)
theorem k1_idx66_inb : ∀ (v509 : IVec S16 32) (v512 : IVec S16 32) (k1_hw66 : k1_chk66 v509 v512), ∀ a x, ((![v509, v512] : Fin 2 → IVec S16 32) a x).toNat < S128x16.size a := fun v509 v512 k1_hw66 => k1_hw66

def k1_chk67 (v509 : IVec S16 32) (v515 : IVec S16 32) : Prop :=
  (∀ a x, ((![v509, v515] : Fin 2 → IVec S16 32) a x).toNat < S128x16.size a)
theorem k1_idx67_inb : ∀ (v509 : IVec S16 32) (v515 : IVec S16 32) (k1_hw67 : k1_chk67 v509 v515), ∀ a x, ((![v509, v515] : Fin 2 → IVec S16 32) a x).toNat < S128x16.size a := fun v509 v515 k1_hw67 => k1_hw67

def k1_chk68 (v509 : IVec S16 32) (v518 : IVec S16 32) : Prop :=
  (∀ a x, ((![v509, v518] : Fin 2 → IVec S16 32) a x).toNat < S128x16.size a)
theorem k1_idx68_inb : ∀ (v509 : IVec S16 32) (v518 : IVec S16 32) (k1_hw68 : k1_chk68 v509 v518), ∀ a x, ((![v509, v518] : Fin 2 → IVec S16 32) a x).toNat < S128x16.size a := fun v509 v518 k1_hw68 => k1_hw68

def k1_chk69 (v509 : IVec S16 32) (v521 : IVec S16 32) : Prop :=
  (∀ a x, ((![v509, v521] : Fin 2 → IVec S16 32) a x).toNat < S128x16.size a)
theorem k1_idx69_inb : ∀ (v509 : IVec S16 32) (v521 : IVec S16 32) (k1_hw69 : k1_chk69 v509 v521), ∀ a x, ((![v509, v521] : Fin 2 → IVec S16 32) a x).toNat < S128x16.size a := fun v509 v521 k1_hw69 => k1_hw69

def k1_chk70 (v509 : IVec S16 32) (v524 : IVec S16 32) : Prop :=
  (∀ a x, ((![v509, v524] : Fin 2 → IVec S16 32) a x).toNat < S128x16.size a)
theorem k1_idx70_inb : ∀ (v509 : IVec S16 32) (v524 : IVec S16 32) (k1_hw70 : k1_chk70 v509 v524), ∀ a x, ((![v509, v524] : Fin 2 → IVec S16 32) a x).toNat < S128x16.size a := fun v509 v524 k1_hw70 => k1_hw70

def k1_chk71 (v509 : IVec S16 32) (v527 : IVec S16 32) : Prop :=
  (∀ a x, ((![v509, v527] : Fin 2 → IVec S16 32) a x).toNat < S128x16.size a)
theorem k1_idx71_inb : ∀ (v509 : IVec S16 32) (v527 : IVec S16 32) (k1_hw71 : k1_chk71 v509 v527), ∀ a x, ((![v509, v527] : Fin 2 → IVec S16 32) a x).toNat < S128x16.size a := fun v509 v527 k1_hw71 => k1_hw71

def k1_chk72 (v509 : IVec S16 32) (v530 : IVec S16 32) : Prop :=
  (∀ a x, ((![v509, v530] : Fin 2 → IVec S16 32) a x).toNat < S128x16.size a)
theorem k1_idx72_inb : ∀ (v509 : IVec S16 32) (v530 : IVec S16 32) (k1_hw72 : k1_chk72 v509 v530), ∀ a x, ((![v509, v530] : Fin 2 → IVec S16 32) a x).toNat < S128x16.size a := fun v509 v530 k1_hw72 => k1_hw72

def k1_chk73 (v509 : IVec S16 32) (v533 : IVec S16 32) : Prop :=
  (∀ a x, ((![v509, v533] : Fin 2 → IVec S16 32) a x).toNat < S128x16.size a)
theorem k1_idx73_inb : ∀ (v509 : IVec S16 32) (v533 : IVec S16 32) (k1_hw73 : k1_chk73 v509 v533), ∀ a x, ((![v509, v533] : Fin 2 → IVec S16 32) a x).toNat < S128x16.size a := fun v509 v533 k1_hw73 => k1_hw73

def k1_chk74 (v509 : IVec S16 32) (v536 : IVec S16 32) : Prop :=
  (∀ a x, ((![v509, v536] : Fin 2 → IVec S16 32) a x).toNat < S128x16.size a)
theorem k1_idx74_inb : ∀ (v509 : IVec S16 32) (v536 : IVec S16 32) (k1_hw74 : k1_chk74 v509 v536), ∀ a x, ((![v509, v536] : Fin 2 → IVec S16 32) a x).toNat < S128x16.size a := fun v509 v536 k1_hw74 => k1_hw74

def k1_chk75 (v509 : IVec S16 32) (v539 : IVec S16 32) : Prop :=
  (∀ a x, ((![v509, v539] : Fin 2 → IVec S16 32) a x).toNat < S128x16.size a)
theorem k1_idx75_inb : ∀ (v509 : IVec S16 32) (v539 : IVec S16 32) (k1_hw75 : k1_chk75 v509 v539), ∀ a x, ((![v509, v539] : Fin 2 → IVec S16 32) a x).toNat < S128x16.size a := fun v509 v539 k1_hw75 => k1_hw75

def k1_chk76 (v509 : IVec S16 32) (v542 : IVec S16 32) : Prop :=
  (∀ a x, ((![v509, v542] : Fin 2 → IVec S16 32) a x).toNat < S128x16.size a)
theorem k1_idx76_inb : ∀ (v509 : IVec S16 32) (v542 : IVec S16 32) (k1_hw76 : k1_chk76 v509 v542), ∀ a x, ((![v509, v542] : Fin 2 → IVec S16 32) a x).toNat < S128x16.size a := fun v509 v542 k1_hw76 => k1_hw76

def k1_chk77 (v509 : IVec S16 32) (v545 : IVec S16 32) : Prop :=
  (∀ a x, ((![v509, v545] : Fin 2 → IVec S16 32) a x).toNat < S128x16.size a)
theorem k1_idx77_inb : ∀ (v509 : IVec S16 32) (v545 : IVec S16 32) (k1_hw77 : k1_chk77 v509 v545), ∀ a x, ((![v509, v545] : Fin 2 → IVec S16 32) a x).toNat < S128x16.size a := fun v509 v545 k1_hw77 => k1_hw77

def k1_chk78 (v509 : IVec S16 32) (v548 : IVec S16 32) : Prop :=
  (∀ a x, ((![v509, v548] : Fin 2 → IVec S16 32) a x).toNat < S128x16.size a)
theorem k1_idx78_inb : ∀ (v509 : IVec S16 32) (v548 : IVec S16 32) (k1_hw78 : k1_chk78 v509 v548), ∀ a x, ((![v509, v548] : Fin 2 → IVec S16 32) a x).toNat < S128x16.size a := fun v509 v548 k1_hw78 => k1_hw78

def k1_chk79 (v509 : IVec S16 32) (v551 : IVec S16 32) : Prop :=
  (∀ a x, ((![v509, v551] : Fin 2 → IVec S16 32) a x).toNat < S128x16.size a)
theorem k1_idx79_inb : ∀ (v509 : IVec S16 32) (v551 : IVec S16 32) (k1_hw79 : k1_chk79 v509 v551), ∀ a x, ((![v509, v551] : Fin 2 → IVec S16 32) a x).toNat < S128x16.size a := fun v509 v551 k1_hw79 => k1_hw79

def k1_chk80 (v509 : IVec S16 32) (v554 : IVec S16 32) : Prop :=
  (∀ a x, ((![v509, v554] : Fin 2 → IVec S16 32) a x).toNat < S128x16.size a)
theorem k1_idx80_inb : ∀ (v509 : IVec S16 32) (v554 : IVec S16 32) (k1_hw80 : k1_chk80 v509 v554), ∀ a x, ((![v509, v554] : Fin 2 → IVec S16 32) a x).toNat < S128x16.size a := fun v509 v554 k1_hw80 => k1_hw80

def k1_chk81 (v571 : IVec S16 32) (v572 : IVec S16 32) : Prop :=
  (∀ a x, ((![v571, v572] : Fin 2 → IVec S16 32) a x).toNat < S128x16.size a)
theorem k1_idx81_inb : ∀ (v571 : IVec S16 32) (v572 : IVec S16 32) (k1_hw81 : k1_chk81 v571 v572), ∀ a x, ((![v571, v572] : Fin 2 → IVec S16 32) a x).toNat < S128x16.size a := fun v571 v572 k1_hw81 => k1_hw81

def k1_chk82 (v571 : IVec S16 32) (v574 : IVec S16 32) : Prop :=
  (∀ a x, ((![v571, v574] : Fin 2 → IVec S16 32) a x).toNat < S128x16.size a)
theorem k1_idx82_inb : ∀ (v571 : IVec S16 32) (v574 : IVec S16 32) (k1_hw82 : k1_chk82 v571 v574), ∀ a x, ((![v571, v574] : Fin 2 → IVec S16 32) a x).toNat < S128x16.size a := fun v571 v574 k1_hw82 => k1_hw82

def k1_chk83 (v571 : IVec S16 32) (v577 : IVec S16 32) : Prop :=
  (∀ a x, ((![v571, v577] : Fin 2 → IVec S16 32) a x).toNat < S128x16.size a)
theorem k1_idx83_inb : ∀ (v571 : IVec S16 32) (v577 : IVec S16 32) (k1_hw83 : k1_chk83 v571 v577), ∀ a x, ((![v571, v577] : Fin 2 → IVec S16 32) a x).toNat < S128x16.size a := fun v571 v577 k1_hw83 => k1_hw83

def k1_chk84 (v571 : IVec S16 32) (v580 : IVec S16 32) : Prop :=
  (∀ a x, ((![v571, v580] : Fin 2 → IVec S16 32) a x).toNat < S128x16.size a)
theorem k1_idx84_inb : ∀ (v571 : IVec S16 32) (v580 : IVec S16 32) (k1_hw84 : k1_chk84 v571 v580), ∀ a x, ((![v571, v580] : Fin 2 → IVec S16 32) a x).toNat < S128x16.size a := fun v571 v580 k1_hw84 => k1_hw84

def k1_chk85 (v571 : IVec S16 32) (v583 : IVec S16 32) : Prop :=
  (∀ a x, ((![v571, v583] : Fin 2 → IVec S16 32) a x).toNat < S128x16.size a)
theorem k1_idx85_inb : ∀ (v571 : IVec S16 32) (v583 : IVec S16 32) (k1_hw85 : k1_chk85 v571 v583), ∀ a x, ((![v571, v583] : Fin 2 → IVec S16 32) a x).toNat < S128x16.size a := fun v571 v583 k1_hw85 => k1_hw85

def k1_chk86 (v571 : IVec S16 32) (v586 : IVec S16 32) : Prop :=
  (∀ a x, ((![v571, v586] : Fin 2 → IVec S16 32) a x).toNat < S128x16.size a)
theorem k1_idx86_inb : ∀ (v571 : IVec S16 32) (v586 : IVec S16 32) (k1_hw86 : k1_chk86 v571 v586), ∀ a x, ((![v571, v586] : Fin 2 → IVec S16 32) a x).toNat < S128x16.size a := fun v571 v586 k1_hw86 => k1_hw86

def k1_chk87 (v571 : IVec S16 32) (v589 : IVec S16 32) : Prop :=
  (∀ a x, ((![v571, v589] : Fin 2 → IVec S16 32) a x).toNat < S128x16.size a)
theorem k1_idx87_inb : ∀ (v571 : IVec S16 32) (v589 : IVec S16 32) (k1_hw87 : k1_chk87 v571 v589), ∀ a x, ((![v571, v589] : Fin 2 → IVec S16 32) a x).toNat < S128x16.size a := fun v571 v589 k1_hw87 => k1_hw87

def k1_chk88 (v571 : IVec S16 32) (v592 : IVec S16 32) : Prop :=
  (∀ a x, ((![v571, v592] : Fin 2 → IVec S16 32) a x).toNat < S128x16.size a)
theorem k1_idx88_inb : ∀ (v571 : IVec S16 32) (v592 : IVec S16 32) (k1_hw88 : k1_chk88 v571 v592), ∀ a x, ((![v571, v592] : Fin 2 → IVec S16 32) a x).toNat < S128x16.size a := fun v571 v592 k1_hw88 => k1_hw88

def k1_chk89 (v571 : IVec S16 32) (v595 : IVec S16 32) : Prop :=
  (∀ a x, ((![v571, v595] : Fin 2 → IVec S16 32) a x).toNat < S128x16.size a)
theorem k1_idx89_inb : ∀ (v571 : IVec S16 32) (v595 : IVec S16 32) (k1_hw89 : k1_chk89 v571 v595), ∀ a x, ((![v571, v595] : Fin 2 → IVec S16 32) a x).toNat < S128x16.size a := fun v571 v595 k1_hw89 => k1_hw89

def k1_chk90 (v571 : IVec S16 32) (v598 : IVec S16 32) : Prop :=
  (∀ a x, ((![v571, v598] : Fin 2 → IVec S16 32) a x).toNat < S128x16.size a)
theorem k1_idx90_inb : ∀ (v571 : IVec S16 32) (v598 : IVec S16 32) (k1_hw90 : k1_chk90 v571 v598), ∀ a x, ((![v571, v598] : Fin 2 → IVec S16 32) a x).toNat < S128x16.size a := fun v571 v598 k1_hw90 => k1_hw90

def k1_chk91 (v571 : IVec S16 32) (v601 : IVec S16 32) : Prop :=
  (∀ a x, ((![v571, v601] : Fin 2 → IVec S16 32) a x).toNat < S128x16.size a)
theorem k1_idx91_inb : ∀ (v571 : IVec S16 32) (v601 : IVec S16 32) (k1_hw91 : k1_chk91 v571 v601), ∀ a x, ((![v571, v601] : Fin 2 → IVec S16 32) a x).toNat < S128x16.size a := fun v571 v601 k1_hw91 => k1_hw91

def k1_chk92 (v571 : IVec S16 32) (v604 : IVec S16 32) : Prop :=
  (∀ a x, ((![v571, v604] : Fin 2 → IVec S16 32) a x).toNat < S128x16.size a)
theorem k1_idx92_inb : ∀ (v571 : IVec S16 32) (v604 : IVec S16 32) (k1_hw92 : k1_chk92 v571 v604), ∀ a x, ((![v571, v604] : Fin 2 → IVec S16 32) a x).toNat < S128x16.size a := fun v571 v604 k1_hw92 => k1_hw92

def k1_chk93 (v571 : IVec S16 32) (v607 : IVec S16 32) : Prop :=
  (∀ a x, ((![v571, v607] : Fin 2 → IVec S16 32) a x).toNat < S128x16.size a)
theorem k1_idx93_inb : ∀ (v571 : IVec S16 32) (v607 : IVec S16 32) (k1_hw93 : k1_chk93 v571 v607), ∀ a x, ((![v571, v607] : Fin 2 → IVec S16 32) a x).toNat < S128x16.size a := fun v571 v607 k1_hw93 => k1_hw93

def k1_chk94 (v571 : IVec S16 32) (v610 : IVec S16 32) : Prop :=
  (∀ a x, ((![v571, v610] : Fin 2 → IVec S16 32) a x).toNat < S128x16.size a)
theorem k1_idx94_inb : ∀ (v571 : IVec S16 32) (v610 : IVec S16 32) (k1_hw94 : k1_chk94 v571 v610), ∀ a x, ((![v571, v610] : Fin 2 → IVec S16 32) a x).toNat < S128x16.size a := fun v571 v610 k1_hw94 => k1_hw94

def k1_chk95 (v571 : IVec S16 32) (v613 : IVec S16 32) : Prop :=
  (∀ a x, ((![v571, v613] : Fin 2 → IVec S16 32) a x).toNat < S128x16.size a)
theorem k1_idx95_inb : ∀ (v571 : IVec S16 32) (v613 : IVec S16 32) (k1_hw95 : k1_chk95 v571 v613), ∀ a x, ((![v571, v613] : Fin 2 → IVec S16 32) a x).toNat < S128x16.size a := fun v571 v613 k1_hw95 => k1_hw95

def k1_chk96 (v571 : IVec S16 32) (v616 : IVec S16 32) : Prop :=
  (∀ a x, ((![v571, v616] : Fin 2 → IVec S16 32) a x).toNat < S128x16.size a)
theorem k1_idx96_inb : ∀ (v571 : IVec S16 32) (v616 : IVec S16 32) (k1_hw96 : k1_chk96 v571 v616), ∀ a x, ((![v571, v616] : Fin 2 → IVec S16 32) a x).toNat < S128x16.size a := fun v571 v616 k1_hw96 => k1_hw96

def k1_chk97 (v633 : IVec S16 32) (v634 : IVec S16 32) : Prop :=
  (∀ a x, ((![v633, v634] : Fin 2 → IVec S16 32) a x).toNat < S128x16.size a)
theorem k1_idx97_inb : ∀ (v633 : IVec S16 32) (v634 : IVec S16 32) (k1_hw97 : k1_chk97 v633 v634), ∀ a x, ((![v633, v634] : Fin 2 → IVec S16 32) a x).toNat < S128x16.size a := fun v633 v634 k1_hw97 => k1_hw97

def k1_chk98 (v633 : IVec S16 32) (v636 : IVec S16 32) : Prop :=
  (∀ a x, ((![v633, v636] : Fin 2 → IVec S16 32) a x).toNat < S128x16.size a)
theorem k1_idx98_inb : ∀ (v633 : IVec S16 32) (v636 : IVec S16 32) (k1_hw98 : k1_chk98 v633 v636), ∀ a x, ((![v633, v636] : Fin 2 → IVec S16 32) a x).toNat < S128x16.size a := fun v633 v636 k1_hw98 => k1_hw98

def k1_chk99 (v633 : IVec S16 32) (v639 : IVec S16 32) : Prop :=
  (∀ a x, ((![v633, v639] : Fin 2 → IVec S16 32) a x).toNat < S128x16.size a)
theorem k1_idx99_inb : ∀ (v633 : IVec S16 32) (v639 : IVec S16 32) (k1_hw99 : k1_chk99 v633 v639), ∀ a x, ((![v633, v639] : Fin 2 → IVec S16 32) a x).toNat < S128x16.size a := fun v633 v639 k1_hw99 => k1_hw99

def k1_chk100 (v633 : IVec S16 32) (v642 : IVec S16 32) : Prop :=
  (∀ a x, ((![v633, v642] : Fin 2 → IVec S16 32) a x).toNat < S128x16.size a)
theorem k1_idx100_inb : ∀ (v633 : IVec S16 32) (v642 : IVec S16 32) (k1_hw100 : k1_chk100 v633 v642), ∀ a x, ((![v633, v642] : Fin 2 → IVec S16 32) a x).toNat < S128x16.size a := fun v633 v642 k1_hw100 => k1_hw100

def k1_chk101 (v633 : IVec S16 32) (v645 : IVec S16 32) : Prop :=
  (∀ a x, ((![v633, v645] : Fin 2 → IVec S16 32) a x).toNat < S128x16.size a)
theorem k1_idx101_inb : ∀ (v633 : IVec S16 32) (v645 : IVec S16 32) (k1_hw101 : k1_chk101 v633 v645), ∀ a x, ((![v633, v645] : Fin 2 → IVec S16 32) a x).toNat < S128x16.size a := fun v633 v645 k1_hw101 => k1_hw101

def k1_chk102 (v633 : IVec S16 32) (v648 : IVec S16 32) : Prop :=
  (∀ a x, ((![v633, v648] : Fin 2 → IVec S16 32) a x).toNat < S128x16.size a)
theorem k1_idx102_inb : ∀ (v633 : IVec S16 32) (v648 : IVec S16 32) (k1_hw102 : k1_chk102 v633 v648), ∀ a x, ((![v633, v648] : Fin 2 → IVec S16 32) a x).toNat < S128x16.size a := fun v633 v648 k1_hw102 => k1_hw102

def k1_chk103 (v633 : IVec S16 32) (v651 : IVec S16 32) : Prop :=
  (∀ a x, ((![v633, v651] : Fin 2 → IVec S16 32) a x).toNat < S128x16.size a)
theorem k1_idx103_inb : ∀ (v633 : IVec S16 32) (v651 : IVec S16 32) (k1_hw103 : k1_chk103 v633 v651), ∀ a x, ((![v633, v651] : Fin 2 → IVec S16 32) a x).toNat < S128x16.size a := fun v633 v651 k1_hw103 => k1_hw103

def k1_chk104 (v633 : IVec S16 32) (v654 : IVec S16 32) : Prop :=
  (∀ a x, ((![v633, v654] : Fin 2 → IVec S16 32) a x).toNat < S128x16.size a)
theorem k1_idx104_inb : ∀ (v633 : IVec S16 32) (v654 : IVec S16 32) (k1_hw104 : k1_chk104 v633 v654), ∀ a x, ((![v633, v654] : Fin 2 → IVec S16 32) a x).toNat < S128x16.size a := fun v633 v654 k1_hw104 => k1_hw104

def k1_chk105 (v633 : IVec S16 32) (v657 : IVec S16 32) : Prop :=
  (∀ a x, ((![v633, v657] : Fin 2 → IVec S16 32) a x).toNat < S128x16.size a)
theorem k1_idx105_inb : ∀ (v633 : IVec S16 32) (v657 : IVec S16 32) (k1_hw105 : k1_chk105 v633 v657), ∀ a x, ((![v633, v657] : Fin 2 → IVec S16 32) a x).toNat < S128x16.size a := fun v633 v657 k1_hw105 => k1_hw105

def k1_chk106 (v633 : IVec S16 32) (v660 : IVec S16 32) : Prop :=
  (∀ a x, ((![v633, v660] : Fin 2 → IVec S16 32) a x).toNat < S128x16.size a)
theorem k1_idx106_inb : ∀ (v633 : IVec S16 32) (v660 : IVec S16 32) (k1_hw106 : k1_chk106 v633 v660), ∀ a x, ((![v633, v660] : Fin 2 → IVec S16 32) a x).toNat < S128x16.size a := fun v633 v660 k1_hw106 => k1_hw106

def k1_chk107 (v633 : IVec S16 32) (v663 : IVec S16 32) : Prop :=
  (∀ a x, ((![v633, v663] : Fin 2 → IVec S16 32) a x).toNat < S128x16.size a)
theorem k1_idx107_inb : ∀ (v633 : IVec S16 32) (v663 : IVec S16 32) (k1_hw107 : k1_chk107 v633 v663), ∀ a x, ((![v633, v663] : Fin 2 → IVec S16 32) a x).toNat < S128x16.size a := fun v633 v663 k1_hw107 => k1_hw107

def k1_chk108 (v633 : IVec S16 32) (v666 : IVec S16 32) : Prop :=
  (∀ a x, ((![v633, v666] : Fin 2 → IVec S16 32) a x).toNat < S128x16.size a)
theorem k1_idx108_inb : ∀ (v633 : IVec S16 32) (v666 : IVec S16 32) (k1_hw108 : k1_chk108 v633 v666), ∀ a x, ((![v633, v666] : Fin 2 → IVec S16 32) a x).toNat < S128x16.size a := fun v633 v666 k1_hw108 => k1_hw108

def k1_chk109 (v633 : IVec S16 32) (v669 : IVec S16 32) : Prop :=
  (∀ a x, ((![v633, v669] : Fin 2 → IVec S16 32) a x).toNat < S128x16.size a)
theorem k1_idx109_inb : ∀ (v633 : IVec S16 32) (v669 : IVec S16 32) (k1_hw109 : k1_chk109 v633 v669), ∀ a x, ((![v633, v669] : Fin 2 → IVec S16 32) a x).toNat < S128x16.size a := fun v633 v669 k1_hw109 => k1_hw109

def k1_chk110 (v633 : IVec S16 32) (v672 : IVec S16 32) : Prop :=
  (∀ a x, ((![v633, v672] : Fin 2 → IVec S16 32) a x).toNat < S128x16.size a)
theorem k1_idx110_inb : ∀ (v633 : IVec S16 32) (v672 : IVec S16 32) (k1_hw110 : k1_chk110 v633 v672), ∀ a x, ((![v633, v672] : Fin 2 → IVec S16 32) a x).toNat < S128x16.size a := fun v633 v672 k1_hw110 => k1_hw110

def k1_chk111 (v633 : IVec S16 32) (v675 : IVec S16 32) : Prop :=
  (∀ a x, ((![v633, v675] : Fin 2 → IVec S16 32) a x).toNat < S128x16.size a)
theorem k1_idx111_inb : ∀ (v633 : IVec S16 32) (v675 : IVec S16 32) (k1_hw111 : k1_chk111 v633 v675), ∀ a x, ((![v633, v675] : Fin 2 → IVec S16 32) a x).toNat < S128x16.size a := fun v633 v675 k1_hw111 => k1_hw111

def k1_chk112 (v633 : IVec S16 32) (v678 : IVec S16 32) : Prop :=
  (∀ a x, ((![v633, v678] : Fin 2 → IVec S16 32) a x).toNat < S128x16.size a)
theorem k1_idx112_inb : ∀ (v633 : IVec S16 32) (v678 : IVec S16 32) (k1_hw112 : k1_chk112 v633 v678), ∀ a x, ((![v633, v678] : Fin 2 → IVec S16 32) a x).toNat < S128x16.size a := fun v633 v678 k1_hw112 => k1_hw112

def k1_chk113 (v695 : IVec S16 32) (v696 : IVec S16 32) : Prop :=
  (∀ a x, ((![v695, v696] : Fin 2 → IVec S16 32) a x).toNat < S128x16.size a)
theorem k1_idx113_inb : ∀ (v695 : IVec S16 32) (v696 : IVec S16 32) (k1_hw113 : k1_chk113 v695 v696), ∀ a x, ((![v695, v696] : Fin 2 → IVec S16 32) a x).toNat < S128x16.size a := fun v695 v696 k1_hw113 => k1_hw113

def k1_chk114 (v695 : IVec S16 32) (v698 : IVec S16 32) : Prop :=
  (∀ a x, ((![v695, v698] : Fin 2 → IVec S16 32) a x).toNat < S128x16.size a)
theorem k1_idx114_inb : ∀ (v695 : IVec S16 32) (v698 : IVec S16 32) (k1_hw114 : k1_chk114 v695 v698), ∀ a x, ((![v695, v698] : Fin 2 → IVec S16 32) a x).toNat < S128x16.size a := fun v695 v698 k1_hw114 => k1_hw114

def k1_chk115 (v695 : IVec S16 32) (v701 : IVec S16 32) : Prop :=
  (∀ a x, ((![v695, v701] : Fin 2 → IVec S16 32) a x).toNat < S128x16.size a)
theorem k1_idx115_inb : ∀ (v695 : IVec S16 32) (v701 : IVec S16 32) (k1_hw115 : k1_chk115 v695 v701), ∀ a x, ((![v695, v701] : Fin 2 → IVec S16 32) a x).toNat < S128x16.size a := fun v695 v701 k1_hw115 => k1_hw115

def k1_chk116 (v695 : IVec S16 32) (v704 : IVec S16 32) : Prop :=
  (∀ a x, ((![v695, v704] : Fin 2 → IVec S16 32) a x).toNat < S128x16.size a)
theorem k1_idx116_inb : ∀ (v695 : IVec S16 32) (v704 : IVec S16 32) (k1_hw116 : k1_chk116 v695 v704), ∀ a x, ((![v695, v704] : Fin 2 → IVec S16 32) a x).toNat < S128x16.size a := fun v695 v704 k1_hw116 => k1_hw116

def k1_chk117 (v695 : IVec S16 32) (v707 : IVec S16 32) : Prop :=
  (∀ a x, ((![v695, v707] : Fin 2 → IVec S16 32) a x).toNat < S128x16.size a)
theorem k1_idx117_inb : ∀ (v695 : IVec S16 32) (v707 : IVec S16 32) (k1_hw117 : k1_chk117 v695 v707), ∀ a x, ((![v695, v707] : Fin 2 → IVec S16 32) a x).toNat < S128x16.size a := fun v695 v707 k1_hw117 => k1_hw117

def k1_chk118 (v695 : IVec S16 32) (v710 : IVec S16 32) : Prop :=
  (∀ a x, ((![v695, v710] : Fin 2 → IVec S16 32) a x).toNat < S128x16.size a)
theorem k1_idx118_inb : ∀ (v695 : IVec S16 32) (v710 : IVec S16 32) (k1_hw118 : k1_chk118 v695 v710), ∀ a x, ((![v695, v710] : Fin 2 → IVec S16 32) a x).toNat < S128x16.size a := fun v695 v710 k1_hw118 => k1_hw118

def k1_chk119 (v695 : IVec S16 32) (v713 : IVec S16 32) : Prop :=
  (∀ a x, ((![v695, v713] : Fin 2 → IVec S16 32) a x).toNat < S128x16.size a)
theorem k1_idx119_inb : ∀ (v695 : IVec S16 32) (v713 : IVec S16 32) (k1_hw119 : k1_chk119 v695 v713), ∀ a x, ((![v695, v713] : Fin 2 → IVec S16 32) a x).toNat < S128x16.size a := fun v695 v713 k1_hw119 => k1_hw119

def k1_chk120 (v695 : IVec S16 32) (v716 : IVec S16 32) : Prop :=
  (∀ a x, ((![v695, v716] : Fin 2 → IVec S16 32) a x).toNat < S128x16.size a)
theorem k1_idx120_inb : ∀ (v695 : IVec S16 32) (v716 : IVec S16 32) (k1_hw120 : k1_chk120 v695 v716), ∀ a x, ((![v695, v716] : Fin 2 → IVec S16 32) a x).toNat < S128x16.size a := fun v695 v716 k1_hw120 => k1_hw120

def k1_chk121 (v695 : IVec S16 32) (v719 : IVec S16 32) : Prop :=
  (∀ a x, ((![v695, v719] : Fin 2 → IVec S16 32) a x).toNat < S128x16.size a)
theorem k1_idx121_inb : ∀ (v695 : IVec S16 32) (v719 : IVec S16 32) (k1_hw121 : k1_chk121 v695 v719), ∀ a x, ((![v695, v719] : Fin 2 → IVec S16 32) a x).toNat < S128x16.size a := fun v695 v719 k1_hw121 => k1_hw121

def k1_chk122 (v695 : IVec S16 32) (v722 : IVec S16 32) : Prop :=
  (∀ a x, ((![v695, v722] : Fin 2 → IVec S16 32) a x).toNat < S128x16.size a)
theorem k1_idx122_inb : ∀ (v695 : IVec S16 32) (v722 : IVec S16 32) (k1_hw122 : k1_chk122 v695 v722), ∀ a x, ((![v695, v722] : Fin 2 → IVec S16 32) a x).toNat < S128x16.size a := fun v695 v722 k1_hw122 => k1_hw122

def k1_chk123 (v695 : IVec S16 32) (v725 : IVec S16 32) : Prop :=
  (∀ a x, ((![v695, v725] : Fin 2 → IVec S16 32) a x).toNat < S128x16.size a)
theorem k1_idx123_inb : ∀ (v695 : IVec S16 32) (v725 : IVec S16 32) (k1_hw123 : k1_chk123 v695 v725), ∀ a x, ((![v695, v725] : Fin 2 → IVec S16 32) a x).toNat < S128x16.size a := fun v695 v725 k1_hw123 => k1_hw123

def k1_chk124 (v695 : IVec S16 32) (v728 : IVec S16 32) : Prop :=
  (∀ a x, ((![v695, v728] : Fin 2 → IVec S16 32) a x).toNat < S128x16.size a)
theorem k1_idx124_inb : ∀ (v695 : IVec S16 32) (v728 : IVec S16 32) (k1_hw124 : k1_chk124 v695 v728), ∀ a x, ((![v695, v728] : Fin 2 → IVec S16 32) a x).toNat < S128x16.size a := fun v695 v728 k1_hw124 => k1_hw124

def k1_chk125 (v695 : IVec S16 32) (v731 : IVec S16 32) : Prop :=
  (∀ a x, ((![v695, v731] : Fin 2 → IVec S16 32) a x).toNat < S128x16.size a)
theorem k1_idx125_inb : ∀ (v695 : IVec S16 32) (v731 : IVec S16 32) (k1_hw125 : k1_chk125 v695 v731), ∀ a x, ((![v695, v731] : Fin 2 → IVec S16 32) a x).toNat < S128x16.size a := fun v695 v731 k1_hw125 => k1_hw125

def k1_chk126 (v695 : IVec S16 32) (v734 : IVec S16 32) : Prop :=
  (∀ a x, ((![v695, v734] : Fin 2 → IVec S16 32) a x).toNat < S128x16.size a)
theorem k1_idx126_inb : ∀ (v695 : IVec S16 32) (v734 : IVec S16 32) (k1_hw126 : k1_chk126 v695 v734), ∀ a x, ((![v695, v734] : Fin 2 → IVec S16 32) a x).toNat < S128x16.size a := fun v695 v734 k1_hw126 => k1_hw126

def k1_chk127 (v695 : IVec S16 32) (v737 : IVec S16 32) : Prop :=
  (∀ a x, ((![v695, v737] : Fin 2 → IVec S16 32) a x).toNat < S128x16.size a)
theorem k1_idx127_inb : ∀ (v695 : IVec S16 32) (v737 : IVec S16 32) (k1_hw127 : k1_chk127 v695 v737), ∀ a x, ((![v695, v737] : Fin 2 → IVec S16 32) a x).toNat < S128x16.size a := fun v695 v737 k1_hw127 => k1_hw127

def k1_chk128 (v695 : IVec S16 32) (v740 : IVec S16 32) : Prop :=
  (∀ a x, ((![v695, v740] : Fin 2 → IVec S16 32) a x).toNat < S128x16.size a)
theorem k1_idx128_inb : ∀ (v695 : IVec S16 32) (v740 : IVec S16 32) (k1_hw128 : k1_chk128 v695 v740), ∀ a x, ((![v695, v740] : Fin 2 → IVec S16 32) a x).toNat < S128x16.size a := fun v695 v740 k1_hw128 => k1_hw128

def k1_chk129 (v757 : IVec S16 32) (v758 : IVec S16 32) : Prop :=
  (∀ a x, ((![v757, v758] : Fin 2 → IVec S16 32) a x).toNat < S128x16.size a)
theorem k1_idx129_inb : ∀ (v757 : IVec S16 32) (v758 : IVec S16 32) (k1_hw129 : k1_chk129 v757 v758), ∀ a x, ((![v757, v758] : Fin 2 → IVec S16 32) a x).toNat < S128x16.size a := fun v757 v758 k1_hw129 => k1_hw129

def k1_chk130 (v757 : IVec S16 32) (v760 : IVec S16 32) : Prop :=
  (∀ a x, ((![v757, v760] : Fin 2 → IVec S16 32) a x).toNat < S128x16.size a)
theorem k1_idx130_inb : ∀ (v757 : IVec S16 32) (v760 : IVec S16 32) (k1_hw130 : k1_chk130 v757 v760), ∀ a x, ((![v757, v760] : Fin 2 → IVec S16 32) a x).toNat < S128x16.size a := fun v757 v760 k1_hw130 => k1_hw130

def k1_chk131 (v757 : IVec S16 32) (v763 : IVec S16 32) : Prop :=
  (∀ a x, ((![v757, v763] : Fin 2 → IVec S16 32) a x).toNat < S128x16.size a)
theorem k1_idx131_inb : ∀ (v757 : IVec S16 32) (v763 : IVec S16 32) (k1_hw131 : k1_chk131 v757 v763), ∀ a x, ((![v757, v763] : Fin 2 → IVec S16 32) a x).toNat < S128x16.size a := fun v757 v763 k1_hw131 => k1_hw131

def k1_chk132 (v757 : IVec S16 32) (v766 : IVec S16 32) : Prop :=
  (∀ a x, ((![v757, v766] : Fin 2 → IVec S16 32) a x).toNat < S128x16.size a)
theorem k1_idx132_inb : ∀ (v757 : IVec S16 32) (v766 : IVec S16 32) (k1_hw132 : k1_chk132 v757 v766), ∀ a x, ((![v757, v766] : Fin 2 → IVec S16 32) a x).toNat < S128x16.size a := fun v757 v766 k1_hw132 => k1_hw132

def k1_chk133 (v757 : IVec S16 32) (v769 : IVec S16 32) : Prop :=
  (∀ a x, ((![v757, v769] : Fin 2 → IVec S16 32) a x).toNat < S128x16.size a)
theorem k1_idx133_inb : ∀ (v757 : IVec S16 32) (v769 : IVec S16 32) (k1_hw133 : k1_chk133 v757 v769), ∀ a x, ((![v757, v769] : Fin 2 → IVec S16 32) a x).toNat < S128x16.size a := fun v757 v769 k1_hw133 => k1_hw133

def k1_chk134 (v757 : IVec S16 32) (v772 : IVec S16 32) : Prop :=
  (∀ a x, ((![v757, v772] : Fin 2 → IVec S16 32) a x).toNat < S128x16.size a)
theorem k1_idx134_inb : ∀ (v757 : IVec S16 32) (v772 : IVec S16 32) (k1_hw134 : k1_chk134 v757 v772), ∀ a x, ((![v757, v772] : Fin 2 → IVec S16 32) a x).toNat < S128x16.size a := fun v757 v772 k1_hw134 => k1_hw134

def k1_chk135 (v757 : IVec S16 32) (v775 : IVec S16 32) : Prop :=
  (∀ a x, ((![v757, v775] : Fin 2 → IVec S16 32) a x).toNat < S128x16.size a)
theorem k1_idx135_inb : ∀ (v757 : IVec S16 32) (v775 : IVec S16 32) (k1_hw135 : k1_chk135 v757 v775), ∀ a x, ((![v757, v775] : Fin 2 → IVec S16 32) a x).toNat < S128x16.size a := fun v757 v775 k1_hw135 => k1_hw135

def k1_chk136 (v757 : IVec S16 32) (v778 : IVec S16 32) : Prop :=
  (∀ a x, ((![v757, v778] : Fin 2 → IVec S16 32) a x).toNat < S128x16.size a)
theorem k1_idx136_inb : ∀ (v757 : IVec S16 32) (v778 : IVec S16 32) (k1_hw136 : k1_chk136 v757 v778), ∀ a x, ((![v757, v778] : Fin 2 → IVec S16 32) a x).toNat < S128x16.size a := fun v757 v778 k1_hw136 => k1_hw136

def k1_chk137 (v757 : IVec S16 32) (v781 : IVec S16 32) : Prop :=
  (∀ a x, ((![v757, v781] : Fin 2 → IVec S16 32) a x).toNat < S128x16.size a)
theorem k1_idx137_inb : ∀ (v757 : IVec S16 32) (v781 : IVec S16 32) (k1_hw137 : k1_chk137 v757 v781), ∀ a x, ((![v757, v781] : Fin 2 → IVec S16 32) a x).toNat < S128x16.size a := fun v757 v781 k1_hw137 => k1_hw137

def k1_chk138 (v757 : IVec S16 32) (v784 : IVec S16 32) : Prop :=
  (∀ a x, ((![v757, v784] : Fin 2 → IVec S16 32) a x).toNat < S128x16.size a)
theorem k1_idx138_inb : ∀ (v757 : IVec S16 32) (v784 : IVec S16 32) (k1_hw138 : k1_chk138 v757 v784), ∀ a x, ((![v757, v784] : Fin 2 → IVec S16 32) a x).toNat < S128x16.size a := fun v757 v784 k1_hw138 => k1_hw138

def k1_chk139 (v757 : IVec S16 32) (v787 : IVec S16 32) : Prop :=
  (∀ a x, ((![v757, v787] : Fin 2 → IVec S16 32) a x).toNat < S128x16.size a)
theorem k1_idx139_inb : ∀ (v757 : IVec S16 32) (v787 : IVec S16 32) (k1_hw139 : k1_chk139 v757 v787), ∀ a x, ((![v757, v787] : Fin 2 → IVec S16 32) a x).toNat < S128x16.size a := fun v757 v787 k1_hw139 => k1_hw139

def k1_chk140 (v757 : IVec S16 32) (v790 : IVec S16 32) : Prop :=
  (∀ a x, ((![v757, v790] : Fin 2 → IVec S16 32) a x).toNat < S128x16.size a)
theorem k1_idx140_inb : ∀ (v757 : IVec S16 32) (v790 : IVec S16 32) (k1_hw140 : k1_chk140 v757 v790), ∀ a x, ((![v757, v790] : Fin 2 → IVec S16 32) a x).toNat < S128x16.size a := fun v757 v790 k1_hw140 => k1_hw140

def k1_chk141 (v757 : IVec S16 32) (v793 : IVec S16 32) : Prop :=
  (∀ a x, ((![v757, v793] : Fin 2 → IVec S16 32) a x).toNat < S128x16.size a)
theorem k1_idx141_inb : ∀ (v757 : IVec S16 32) (v793 : IVec S16 32) (k1_hw141 : k1_chk141 v757 v793), ∀ a x, ((![v757, v793] : Fin 2 → IVec S16 32) a x).toNat < S128x16.size a := fun v757 v793 k1_hw141 => k1_hw141

def k1_chk142 (v757 : IVec S16 32) (v796 : IVec S16 32) : Prop :=
  (∀ a x, ((![v757, v796] : Fin 2 → IVec S16 32) a x).toNat < S128x16.size a)
theorem k1_idx142_inb : ∀ (v757 : IVec S16 32) (v796 : IVec S16 32) (k1_hw142 : k1_chk142 v757 v796), ∀ a x, ((![v757, v796] : Fin 2 → IVec S16 32) a x).toNat < S128x16.size a := fun v757 v796 k1_hw142 => k1_hw142

def k1_chk143 (v757 : IVec S16 32) (v799 : IVec S16 32) : Prop :=
  (∀ a x, ((![v757, v799] : Fin 2 → IVec S16 32) a x).toNat < S128x16.size a)
theorem k1_idx143_inb : ∀ (v757 : IVec S16 32) (v799 : IVec S16 32) (k1_hw143 : k1_chk143 v757 v799), ∀ a x, ((![v757, v799] : Fin 2 → IVec S16 32) a x).toNat < S128x16.size a := fun v757 v799 k1_hw143 => k1_hw143

def k1_chk144 (v757 : IVec S16 32) (v802 : IVec S16 32) : Prop :=
  (∀ a x, ((![v757, v802] : Fin 2 → IVec S16 32) a x).toNat < S128x16.size a)
theorem k1_idx144_inb : ∀ (v757 : IVec S16 32) (v802 : IVec S16 32) (k1_hw144 : k1_chk144 v757 v802), ∀ a x, ((![v757, v802] : Fin 2 → IVec S16 32) a x).toNat < S128x16.size a := fun v757 v802 k1_hw144 => k1_hw144

def k1_chk145 (v819 : IVec S16 32) (v820 : IVec S16 32) : Prop :=
  (∀ a x, ((![v819, v820] : Fin 2 → IVec S16 32) a x).toNat < S128x16.size a)
theorem k1_idx145_inb : ∀ (v819 : IVec S16 32) (v820 : IVec S16 32) (k1_hw145 : k1_chk145 v819 v820), ∀ a x, ((![v819, v820] : Fin 2 → IVec S16 32) a x).toNat < S128x16.size a := fun v819 v820 k1_hw145 => k1_hw145

def k1_chk146 (v819 : IVec S16 32) (v822 : IVec S16 32) : Prop :=
  (∀ a x, ((![v819, v822] : Fin 2 → IVec S16 32) a x).toNat < S128x16.size a)
theorem k1_idx146_inb : ∀ (v819 : IVec S16 32) (v822 : IVec S16 32) (k1_hw146 : k1_chk146 v819 v822), ∀ a x, ((![v819, v822] : Fin 2 → IVec S16 32) a x).toNat < S128x16.size a := fun v819 v822 k1_hw146 => k1_hw146

def k1_chk147 (v819 : IVec S16 32) (v825 : IVec S16 32) : Prop :=
  (∀ a x, ((![v819, v825] : Fin 2 → IVec S16 32) a x).toNat < S128x16.size a)
theorem k1_idx147_inb : ∀ (v819 : IVec S16 32) (v825 : IVec S16 32) (k1_hw147 : k1_chk147 v819 v825), ∀ a x, ((![v819, v825] : Fin 2 → IVec S16 32) a x).toNat < S128x16.size a := fun v819 v825 k1_hw147 => k1_hw147

def k1_chk148 (v819 : IVec S16 32) (v828 : IVec S16 32) : Prop :=
  (∀ a x, ((![v819, v828] : Fin 2 → IVec S16 32) a x).toNat < S128x16.size a)
theorem k1_idx148_inb : ∀ (v819 : IVec S16 32) (v828 : IVec S16 32) (k1_hw148 : k1_chk148 v819 v828), ∀ a x, ((![v819, v828] : Fin 2 → IVec S16 32) a x).toNat < S128x16.size a := fun v819 v828 k1_hw148 => k1_hw148

def k1_chk149 (v819 : IVec S16 32) (v831 : IVec S16 32) : Prop :=
  (∀ a x, ((![v819, v831] : Fin 2 → IVec S16 32) a x).toNat < S128x16.size a)
theorem k1_idx149_inb : ∀ (v819 : IVec S16 32) (v831 : IVec S16 32) (k1_hw149 : k1_chk149 v819 v831), ∀ a x, ((![v819, v831] : Fin 2 → IVec S16 32) a x).toNat < S128x16.size a := fun v819 v831 k1_hw149 => k1_hw149

def k1_chk150 (v819 : IVec S16 32) (v834 : IVec S16 32) : Prop :=
  (∀ a x, ((![v819, v834] : Fin 2 → IVec S16 32) a x).toNat < S128x16.size a)
theorem k1_idx150_inb : ∀ (v819 : IVec S16 32) (v834 : IVec S16 32) (k1_hw150 : k1_chk150 v819 v834), ∀ a x, ((![v819, v834] : Fin 2 → IVec S16 32) a x).toNat < S128x16.size a := fun v819 v834 k1_hw150 => k1_hw150

def k1_chk151 (v819 : IVec S16 32) (v837 : IVec S16 32) : Prop :=
  (∀ a x, ((![v819, v837] : Fin 2 → IVec S16 32) a x).toNat < S128x16.size a)
theorem k1_idx151_inb : ∀ (v819 : IVec S16 32) (v837 : IVec S16 32) (k1_hw151 : k1_chk151 v819 v837), ∀ a x, ((![v819, v837] : Fin 2 → IVec S16 32) a x).toNat < S128x16.size a := fun v819 v837 k1_hw151 => k1_hw151

def k1_chk152 (v819 : IVec S16 32) (v840 : IVec S16 32) : Prop :=
  (∀ a x, ((![v819, v840] : Fin 2 → IVec S16 32) a x).toNat < S128x16.size a)
theorem k1_idx152_inb : ∀ (v819 : IVec S16 32) (v840 : IVec S16 32) (k1_hw152 : k1_chk152 v819 v840), ∀ a x, ((![v819, v840] : Fin 2 → IVec S16 32) a x).toNat < S128x16.size a := fun v819 v840 k1_hw152 => k1_hw152

def k1_chk153 (v819 : IVec S16 32) (v843 : IVec S16 32) : Prop :=
  (∀ a x, ((![v819, v843] : Fin 2 → IVec S16 32) a x).toNat < S128x16.size a)
theorem k1_idx153_inb : ∀ (v819 : IVec S16 32) (v843 : IVec S16 32) (k1_hw153 : k1_chk153 v819 v843), ∀ a x, ((![v819, v843] : Fin 2 → IVec S16 32) a x).toNat < S128x16.size a := fun v819 v843 k1_hw153 => k1_hw153

def k1_chk154 (v819 : IVec S16 32) (v846 : IVec S16 32) : Prop :=
  (∀ a x, ((![v819, v846] : Fin 2 → IVec S16 32) a x).toNat < S128x16.size a)
theorem k1_idx154_inb : ∀ (v819 : IVec S16 32) (v846 : IVec S16 32) (k1_hw154 : k1_chk154 v819 v846), ∀ a x, ((![v819, v846] : Fin 2 → IVec S16 32) a x).toNat < S128x16.size a := fun v819 v846 k1_hw154 => k1_hw154

def k1_chk155 (v819 : IVec S16 32) (v849 : IVec S16 32) : Prop :=
  (∀ a x, ((![v819, v849] : Fin 2 → IVec S16 32) a x).toNat < S128x16.size a)
theorem k1_idx155_inb : ∀ (v819 : IVec S16 32) (v849 : IVec S16 32) (k1_hw155 : k1_chk155 v819 v849), ∀ a x, ((![v819, v849] : Fin 2 → IVec S16 32) a x).toNat < S128x16.size a := fun v819 v849 k1_hw155 => k1_hw155

def k1_chk156 (v819 : IVec S16 32) (v852 : IVec S16 32) : Prop :=
  (∀ a x, ((![v819, v852] : Fin 2 → IVec S16 32) a x).toNat < S128x16.size a)
theorem k1_idx156_inb : ∀ (v819 : IVec S16 32) (v852 : IVec S16 32) (k1_hw156 : k1_chk156 v819 v852), ∀ a x, ((![v819, v852] : Fin 2 → IVec S16 32) a x).toNat < S128x16.size a := fun v819 v852 k1_hw156 => k1_hw156

def k1_chk157 (v819 : IVec S16 32) (v855 : IVec S16 32) : Prop :=
  (∀ a x, ((![v819, v855] : Fin 2 → IVec S16 32) a x).toNat < S128x16.size a)
theorem k1_idx157_inb : ∀ (v819 : IVec S16 32) (v855 : IVec S16 32) (k1_hw157 : k1_chk157 v819 v855), ∀ a x, ((![v819, v855] : Fin 2 → IVec S16 32) a x).toNat < S128x16.size a := fun v819 v855 k1_hw157 => k1_hw157

def k1_chk158 (v819 : IVec S16 32) (v858 : IVec S16 32) : Prop :=
  (∀ a x, ((![v819, v858] : Fin 2 → IVec S16 32) a x).toNat < S128x16.size a)
theorem k1_idx158_inb : ∀ (v819 : IVec S16 32) (v858 : IVec S16 32) (k1_hw158 : k1_chk158 v819 v858), ∀ a x, ((![v819, v858] : Fin 2 → IVec S16 32) a x).toNat < S128x16.size a := fun v819 v858 k1_hw158 => k1_hw158

def k1_chk159 (v819 : IVec S16 32) (v861 : IVec S16 32) : Prop :=
  (∀ a x, ((![v819, v861] : Fin 2 → IVec S16 32) a x).toNat < S128x16.size a)
theorem k1_idx159_inb : ∀ (v819 : IVec S16 32) (v861 : IVec S16 32) (k1_hw159 : k1_chk159 v819 v861), ∀ a x, ((![v819, v861] : Fin 2 → IVec S16 32) a x).toNat < S128x16.size a := fun v819 v861 k1_hw159 => k1_hw159

def k1_chk160 (v819 : IVec S16 32) (v864 : IVec S16 32) : Prop :=
  (∀ a x, ((![v819, v864] : Fin 2 → IVec S16 32) a x).toNat < S128x16.size a)
theorem k1_idx160_inb : ∀ (v819 : IVec S16 32) (v864 : IVec S16 32) (k1_hw160 : k1_chk160 v819 v864), ∀ a x, ((![v819, v864] : Fin 2 → IVec S16 32) a x).toNat < S128x16.size a := fun v819 v864 k1_hw160 => k1_hw160
def k1_off47 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_352_r0 : BitVec 32 := 0#32
  ![v1.toNat, 0]
abbrev grid2 : Pipeline.Grid := .none

abbrev stage2_0 : Fin 1 → Memref sig .tc .smem S1x1 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S32x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .smem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "c_row" => some (((1 / 10) * (Real.log (319980⁻¹ * (387420489 / 1000000000))) : ℝ) : EReal)
  | "fill" => some ((1 / 319980 : ℝ) : EReal)
  | "fill_conf" => some ((-287981 / 319980 : ℝ) : EReal)
  | "neg_fill" => some ((-1 / 319980 : ℝ) : EReal)
  | _ => none
-- ==== ReferenceIdeal.lean ====
abbrev S4096x32000 : Shape := ⟨2, ![4096, 32000]⟩
abbrev S4096 : Shape := ⟨1, ![4096]⟩
abbrev S_ : Shape := ⟨0, ![]⟩
abbrev S4096x1 : Shape := ⟨2, ![4096, 1]⟩
abbrev S4096x2 : Shape := ⟨2, ![4096, 2]⟩
abbrev S1 : Shape := ⟨1, ![1]⟩

abbrev nBuf : Space → Nat
  | .hbm => 63
  | .vmem => 0
  | .smem => 0
  | _ => 0

abbrev bufTy : (tb : Table) → Fin (tcTables nBuf tb) → BufTy
  | .hbm, ⟨0, _⟩ => ⟨S4096x32000, .f32⟩
  | .hbm, ⟨1, _⟩ => ⟨S4096, .i32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4096x32000, .f32⟩
  | .hbm, ⟨10, _⟩ => ⟨S4096, .i32⟩
  | .hbm, ⟨11, _⟩ => ⟨S_, .i32⟩
  | .hbm, ⟨12, _⟩ => ⟨S4096, .i32⟩
  | .hbm, ⟨13, _⟩ => ⟨S4096, .i1⟩
  | .hbm, ⟨14, _⟩ => ⟨S_, .i32⟩
  | .hbm, ⟨15, _⟩ => ⟨S4096, .i32⟩
  | .hbm, ⟨16, _⟩ => ⟨S4096, .i32⟩
  | .hbm, ⟨17, _⟩ => ⟨S4096, .i32⟩
  | .hbm, ⟨18, _⟩ => ⟨S_, .i32⟩
  | .hbm, ⟨19, _⟩ => ⟨S4096, .i32⟩
  | .hbm, ⟨20, _⟩ => ⟨S4096, .i1⟩
  | .hbm, ⟨21, _⟩ => ⟨S_, .i32⟩
  | .hbm, ⟨22, _⟩ => ⟨S4096, .i32⟩
  | .hbm, ⟨23, _⟩ => ⟨S4096, .i32⟩
  | .hbm, ⟨24, _⟩ => ⟨S4096, .i32⟩
  | .hbm, ⟨25, _⟩ => ⟨S4096x1, .i32⟩
  | .hbm, ⟨26, _⟩ => ⟨S4096x1, .i32⟩
  | .hbm, ⟨27, _⟩ => ⟨S4096x2, .i32⟩
  | .hbm, ⟨28, _⟩ => ⟨S4096, .f32⟩
  | .hbm, ⟨29, _⟩ => ⟨S4096x32000, .f32⟩
  | .hbm, ⟨30, _⟩ => ⟨S_, .i32⟩
  | .hbm, ⟨31, _⟩ => ⟨S1, .i32⟩
  | .hbm, ⟨32, _⟩ => ⟨S_, .f32⟩
  | .hbm, ⟨33, _⟩ => ⟨S4096, .f32⟩
  | .hbm, ⟨34, _⟩ => ⟨S4096x32000, .f32⟩
  | .hbm, ⟨35, _⟩ => ⟨S_, .i32⟩
  | .hbm, ⟨36, _⟩ => ⟨S4096, .i32⟩
  | .hbm, ⟨37, _⟩ => ⟨S4096, .i1⟩
  | .hbm, ⟨38, _⟩ => ⟨S4096x1, .i1⟩
  | .hbm, ⟨39, _⟩ => ⟨S_, .f32⟩
  | .hbm, ⟨40, _⟩ => ⟨S_, .f32⟩
  | .hbm, ⟨41, _⟩ => ⟨S4096x32000, .i1⟩
  | .hbm, ⟨42, _⟩ => ⟨S4096x32000, .f32⟩
  | .hbm, ⟨43, _⟩ => ⟨S4096x32000, .f32⟩
  | .hbm, ⟨44, _⟩ => ⟨S_, .f32⟩
  | .hbm, ⟨45, _⟩ => ⟨S4096x32000, .f32⟩
  | .hbm, ⟨46, _⟩ => ⟨S4096x32000, .i1⟩
  | .hbm, ⟨47, _⟩ => ⟨S_, .f32⟩
  | .hbm, ⟨48, _⟩ => ⟨S4096x32000, .f32⟩
  | .hbm, ⟨49, _⟩ => ⟨S4096x32000, .i1⟩
  | .hbm, ⟨50, _⟩ => ⟨S_, .f32⟩
  | .hbm, ⟨51, _⟩ => ⟨S_, .f32⟩
  | .hbm, ⟨52, _⟩ => ⟨S4096x32000, .f32⟩
  | .hbm, ⟨53, _⟩ => ⟨S4096x32000, .f32⟩
  | .hbm, ⟨54, _⟩ => ⟨S4096x32000, .f32⟩
  | .hbm, ⟨55, _⟩ => ⟨S4096x32000, .f32⟩
  | .hbm, ⟨56, _⟩ => ⟨S4096x32000, .f32⟩
  | .hbm, ⟨57, _⟩ => ⟨S_, .f32⟩
  | .hbm, ⟨58, _⟩ => ⟨S_, .f32⟩
  | .hbm, ⟨59, _⟩ => ⟨S4096x32000, .f32⟩
  | .hbm, ⟨60, _⟩ => ⟨S4096x32000, .f32⟩
  | .hbm, ⟨61, _⟩ => ⟨S_, .f32⟩
  | .hbm, ⟨62, _⟩ => ⟨S_, .f32⟩
  | _, _ => ⟨S4096x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_cst_1 : Ref sig .tc := ⟨.hbm, 5, rfl⟩
abbrev main_v1 : Ref sig .tc := ⟨.hbm, 6, rfl⟩
abbrev main_cst_2 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_3 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_4 : Ref sig .tc := ⟨.hbm, 18, rfl⟩
abbrev main_v10 : Ref sig .tc := ⟨.hbm, 19, rfl⟩
abbrev main_v11 : Ref sig .tc := ⟨.hbm, 20, rfl⟩
abbrev main_c_5 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_6 : Ref sig .tc := ⟨.hbm, 30, rfl⟩
abbrev main_v20 : Ref sig .tc := ⟨.hbm, 31, rfl⟩
abbrev main_cst_7 : Ref sig .tc := ⟨.hbm, 32, rfl⟩
abbrev main_v21 : Ref sig .tc := ⟨.hbm, 33, rfl⟩
abbrev main_v22 : Ref sig .tc := ⟨.hbm, 34, rfl⟩
abbrev main_c_8 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_9 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v26 : Ref sig .tc := ⟨.hbm, 43, rfl⟩
abbrev main_cst_10 : Ref sig .tc := ⟨.hbm, 44, rfl⟩
abbrev main_v27 : Ref sig .tc := ⟨.hbm, 45, rfl⟩
abbrev main_v28 : Ref sig .tc := ⟨.hbm, 46, rfl⟩
abbrev main_cst_11 : Ref sig .tc := ⟨.hbm, 47, rfl⟩
abbrev main_v29 : Ref sig .tc := ⟨.hbm, 48, rfl⟩
abbrev main_v30 : Ref sig .tc := ⟨.hbm, 49, rfl⟩
abbrev main_cst_12 : Ref sig .tc := ⟨.hbm, 50, rfl⟩
abbrev main_call1_v0 : Ref sig .tc := ⟨.hbm, 51, rfl⟩
abbrev main_call1_v1 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_13 : Ref sig .tc := ⟨.hbm, 57, rfl⟩
abbrev main_call2_v0 : Ref sig .tc := ⟨.hbm, 58, rfl⟩
abbrev main_call2_v1 : Ref sig .tc := ⟨.hbm, 59, rfl⟩
abbrev main_v35 : Ref sig .tc := ⟨.hbm, 60, rfl⟩
abbrev main_cst_14 : Ref sig .tc := ⟨.hbm, 61, rfl⟩
abbrev main_v36 : Ref sig .tc := ⟨.hbm, 62, rfl⟩

abbrev nD : Nat := 1
abbrev τ : Topo := Topo.v7x

variable {F : FTy → Type} [FloatOps F]
-- ==== Proof.TileProgram.lean ====
/-
  The SparseCore task, told in its own blocks. The printed task is one long run of statements; here it is the same
  program written as what it does: fetch the tile's 128 targets, clear the two accumulators, then for each of ten
  128-column chunks of the tile's 128 rows pick the target's entry (`pickGroups`) and add the row sums (`rowSums`), and
  at the end combine per 16 rows (`finGroup`) and write one row of 16 partial sums. `tile_eq` says that this IS the
  printed task.
-/
module

public import proofs.«01_k».proof.Proof.Gen.KernelIdeal.Skeleton
public import Idealize.ShloMosaic.Lib.Pipeline.Regions

@[expose] public section

set_option synthInstance.maxSize 4096

noncomputable section

namespace Cert.KernelIdeal.Sparse

open Idealize.ShloMosaic Idealize.SL.Sem Cert.KernelIdeal Cert.KernelIdeal.Gen

variable {F : FTy → Type} [FloatOps F] [Named F]

/-- The memory operations of a tile's task at the grid point `i`. -/
abbrev TileProg (i : grid1.Coords) (α : Type) : Type 1 :=
  Prog (TpuEff nD τ sig (Elt F) Λ₀ (.scVector ((i 0).castLE hcore1) ((i 1).castLE hsub1))) α

/-! ## The buffers -/

/-- `x`, the targets and the array of partial sums, in HBM. -/
abbrev xArr : Memref sig .scVector .hbm S4096x32000 .f32 := Memref.whole main_arg0_scv
abbrev tArr : Memref sig .scVector .hbm S4096 .i32 := Memref.whole main_arg1_scv
abbrev oArr : Memref sig .scVector .hbm S32x16 .f32 := Memref.whole main_v2_scv
/-- The tile's targets, its two chunk buffers, the per-row accumulators, the picked entries, and the 16 results. -/
abbrev tBuf : Memref sig .scVector .vmem S128 .i32 := Memref.whole cc1_scratch0
abbrev bufA : Memref sig .scVector .vmem S128x128 .f32 := Memref.whole cc1_scratch1
abbrev bufB : Memref sig .scVector .vmem S128x128 .f32 := Memref.whole cc1_scratch2
abbrev accB : Memref sig .scVector .vmem S128x16 .f32 := Memref.whole cc1_scratch3
abbrev pickB : Memref sig .scVector .vmem S128 .f32 := Memref.whole cc1_scratch4
abbrev resB : Memref sig .scVector .vmem S16 .f32 := Memref.whole cc1_scratch5
/-- The semaphores of the two chunk buffers. -/
abbrev semA : DmaSem sig := ((cc1_scratch7.slice (Rect.unit (s := S2) ![0] S1.size inb_S2_S1_0)).squeeze S_ squeezes_S1_S_).sem
abbrev semB : DmaSem sig := ((cc1_scratch7.slice (Rect.unit (s := S2) ![1] S1.size inb_S2_S1_1)).squeeze S_ squeezes_S1_S_).sem
/-- A 128×128 block of `x`. -/
abbrev xBlk (off : Fin 2 → Nat) (h : ∀ a, off a + S128x128.size a ≤ S4096x32000.size a) : Memref sig .scVector .hbm S128x128 .f32 :=
  xArr.slice (Rect.unit (s := S4096x32000) off S128x128.size h) (fun _ => rfl)
/-- The tile's 128 targets in the array of targets. -/
abbrev tBlk (i : grid1.Coords) : Memref sig .scVector .hbm S128 .i32 :=
  tArr.slice (Rect.unit (s := S4096) (k1_off1 i) S128.size (k1_off1_inb i)) (fun _ => rfl)
/-- The tile's row of the partial sums. -/
abbrev oRow (i : grid1.Coords) : Memref sig .scVector .hbm S16 .f32 :=
  (oArr.slice (Rect.unit (s := S32x16) (k1_off47 i) S1x16.size (k1_off47_inb i)) (fun _ => rfl)).squeeze S16 squeezes_S1x16_S16

/-! ## The pure values -/

/-- Sixteen zeros. -/
def zero16 : FVec F S16 .f32 := broadcast S16 (Scalar.ofBits .f32 0x00000000#32)
/-- The sixteen row numbers from `o`. -/
def rowsFrom (o : BitVec 32) : IVec S16 32 := addi (broadcast S16 o) (iota .scVector S16 32 [0] iota_S16_d0_w32_scVector)
/-- The target's column within the chunk that starts at column `lo`. -/
def relCol (t : IVec S16 32) (lo : BitVec 32) : IVec S16 32 := subi t (broadcast S16 lo)
/-- That column clamped into the chunk. -/
def clampCol (t : IVec S16 32) (lo : BitVec 32) : IVec S16 32 :=
  minsi (maxsi (relCol t lo) (broadcast S16 0#32)) (broadcast S16 127#32)
/-- Whether it lies in the chunk. -/
def inChunk (t : IVec S16 32) (lo : BitVec 32) : IVec S16 1 :=
  andi (cmpi .sge (relCol t lo) (broadcast S16 0#32)) (cmpi .slt (relCol t lo) (broadcast S16 128#32))
/-- The picked entries after a chunk: what they were, plus the gathered entry where the target lies in the chunk. -/
def pickVal (t : IVec S16 32) (lo : BitVec 32) (g p : FVec F S16 .f32) : FVec F S16 .f32 :=
  addf p (select (inChunk t lo) g zero16)
/-- One 16-lane contribution: `neg_fill · row sums + fill_conf · picked`, where the target is not the padding. -/
def contrib (t : IVec S16 32) (s p : FVec F S16 .f32) : FVec F S16 .f32 :=
  select (cmpi .ne t (broadcast S16 0#32))
    (addf (mulf (broadcast S16 (Named.named κ "neg_fill" 0xB651BA72#32)) s)
      (mulf (broadcast S16 (Named.named κ "fill_conf" 0xBF666632#32)) p)) zero16

/-! ## The blocks -/

/-- Clear sixteen picked entries. -/
def clearPick (i : grid1.Coords) (o : Nat) (ho : ∀ a, (![o] : Fin 1 → Nat) a + S16.size a ≤ S128.size a) : TileProg (F := F) i PUnit := do
  let _ ← Prog.lift (.load pickB (Rect.unit (s := S128) ![o] S16.size ho).toLoadRect (View.loadsAt_vmem h_S16))
  Prog.lift (.store pickB (Rect.unit (s := S128) ![o] S16.size ho) zero16 Finset.univ (View.stores_vmem_bits_univ h_S16 rfl) (.inl rfl))

/-- Clear every picked entry. -/
def clearPicks (i : grid1.Coords) : TileProg (F := F) i PUnit := do
  clearPick i 0 inb_S128_S16_0
  clearPick i 16 inb_S128_S16_16
  clearPick i 32 inb_S128_S16_32
  clearPick i 48 inb_S128_S16_48
  clearPick i 64 inb_S128_S16_64
  clearPick i 80 inb_S128_S16_80
  clearPick i 96 inb_S128_S16_96
  clearPick i 112 inb_S128_S16_112

/-- Clear the accumulator of row `r`. -/
def clearRow (i : grid1.Coords) (r : Fin k1_t1_loop.trips) : TileProg (F := F) i PUnit := do
  let _ ← Prog.lift (.load accB (Rect.unit (s := S128x16) (k1_off2 r) S1x16.size (k1_off2_inb r)).toLoadRect (View.loadsAt_vmem h_S1x16))
  Prog.lift (.store accB (Rect.unit (s := S128x16) (k1_off2 r) S1x16.size (k1_off2_inb r)) (shapeCast S1x16 (zero16 (F := F)) shapeCasts_S16_S1x16) Finset.univ (View.stores_vmem_bits_univ h_S1x16 rfl) (.inl rfl))
  pure ⟨⟩

/-- Gather the targets' entries of sixteen rows from a chunk and add them to what was picked before. -/
def pickHead (i : grid1.Coords) (buf : Memref sig .scVector .vmem S128x128 .f32) (lo : BitVec 32)
    (o : Nat) (ho : ∀ a, (![o] : Fin 1 → Nat) a + S16.size a ≤ S128.size a) : TileProg (F := F) i (FVec F S16 .f32) := do
  let t : Vec F S16 .i32 ← Prog.lift (.load tBuf (Rect.unit (s := S128) ![o] S16.size ho).toLoadRect (View.loadsAt_vmem h_S16))
  have hw : k1_chk1 (rowsFrom (BitVec.ofNat 32 o)) (clampCol t lo) :=
    (← Prog.lift (TpuEff.assume (k1_chk1 (rowsFrom (BitVec.ofNat 32 o)) (clampCol t lo)) (k1_chk1.dec _ _))).down
  let g : Vec F S16 .f32 ← SparseCore.vectorLoadIdx buf ![rowsFrom (BitVec.ofNat 32 o), clampCol t lo] (k1_idx1_inb _ _ hw) (View.loads_vmem h_S128x128)
  let p : Vec F S16 .f32 ← Prog.lift (.load pickB (Rect.unit (s := S128) ![o] S16.size ho).toLoadRect (View.loadsAt_vmem h_S16))
  pure (pickVal t lo g p)

/-- Store them. -/
def pickTail (i : grid1.Coords) (o : Nat) (ho : ∀ a, (![o] : Fin 1 → Nat) a + S16.size a ≤ S128.size a) (v : FVec F S16 .f32) : TileProg (F := F) i PUnit := do
  let _ ← Prog.lift (.load pickB (Rect.unit (s := S128) ![o] S16.size ho).toLoadRect (View.loadsAt_vmem h_S16))
  Prog.lift (.store pickB (Rect.unit (s := S128) ![o] S16.size ho) v Finset.univ (View.stores_vmem_bits_univ h_S16 rfl) (.inl rfl))

/-- Sixteen rows of a chunk: pick and store. -/
def pickGroup (i : grid1.Coords) (buf : Memref sig .scVector .vmem S128x128 .f32) (lo : BitVec 32)
    (o : Nat) (ho : ∀ a, (![o] : Fin 1 → Nat) a + S16.size a ≤ S128.size a) : TileProg (F := F) i PUnit := do
  let v ← pickHead i buf lo o ho
  pickTail i o ho v

/-- The groups of rows 16 to 127. -/
def pickRest (i : grid1.Coords) (buf : Memref sig .scVector .vmem S128x128 .f32) (lo : BitVec 32) : TileProg (F := F) i PUnit := do
  pickGroup i buf lo 16 inb_S128_S16_16
  pickGroup i buf lo 32 inb_S128_S16_32
  pickGroup i buf lo 48 inb_S128_S16_48
  pickGroup i buf lo 64 inb_S128_S16_64
  pickGroup i buf lo 80 inb_S128_S16_80
  pickGroup i buf lo 96 inb_S128_S16_96
  pickGroup i buf lo 112 inb_S128_S16_112

/-- All eight groups of a chunk. -/
def pickGroups (i : grid1.Coords) (buf : Memref sig .scVector .vmem S128x128 .f32) (lo : BitVec 32) : TileProg (F := F) i PUnit := do
  pickGroup i buf lo 0 inb_S128_S16_0
  pickRest i buf lo

/-- Load one 16-lane piece of a chunk's row. -/
def piece (i : grid1.Coords) (buf : Memref sig .scVector .vmem S128x128 .f32) (off : Fin 2 → Nat)
    (h : ∀ a, off a + S1x16.size a ≤ S128x128.size a) : TileProg (F := F) i (Vec F S1x16 .f32) :=
  Prog.lift (.load buf (Rect.unit (s := S128x128) off S1x16.size h).toLoadRect (View.loadsAt_vmem h_S1x16))

/-- The accumulator's row after a chunk: what it was, plus the eight pieces added from the left. -/
def rowVal (v0 v1 v2 v3 v4 v5 v6 v7 a : Vec F S1x16 .f32) : Vec F S1x16 .f32 :=
  shapeCast S1x16 (addf (shapeCast S16 a shapeCasts_S1x16_S16)
    (addf (addf (addf (addf (addf (addf (addf (shapeCast S16 v0 shapeCasts_S1x16_S16) (shapeCast S16 v1 shapeCasts_S1x16_S16))
      (shapeCast S16 v2 shapeCasts_S1x16_S16)) (shapeCast S16 v3 shapeCasts_S1x16_S16)) (shapeCast S16 v4 shapeCasts_S1x16_S16))
      (shapeCast S16 v5 shapeCasts_S1x16_S16)) (shapeCast S16 v6 shapeCasts_S1x16_S16)) (shapeCast S16 v7 shapeCasts_S1x16_S16)))
    shapeCasts_S16_S1x16

/-- Row `r` of a chunk: its eight pieces added into the accumulator's row. -/
def rowStep (i : grid1.Coords) (buf : Memref sig .scVector .vmem S128x128 .f32) (r : Fin k1_t3_loop.trips) : TileProg (F := F) i PUnit := do
  let v0 ← piece i buf (k1_off6 r) (k1_off6_inb r)
  let v1 ← piece i buf (k1_off7 r) (k1_off7_inb r)
  let v2 ← piece i buf (k1_off8 r) (k1_off8_inb r)
  let v3 ← piece i buf (k1_off9 r) (k1_off9_inb r)
  let v4 ← piece i buf (k1_off10 r) (k1_off10_inb r)
  let v5 ← piece i buf (k1_off11 r) (k1_off11_inb r)
  let v6 ← piece i buf (k1_off12 r) (k1_off12_inb r)
  let v7 ← piece i buf (k1_off13 r) (k1_off13_inb r)
  let a : Vec F S1x16 .f32 ← Prog.lift (.load accB (Rect.unit (s := S128x16) (k1_off14 r) S1x16.size (k1_off14_inb r)).toLoadRect (View.loadsAt_vmem h_S1x16))
  let _ ← Prog.lift (.load accB (Rect.unit (s := S128x16) (k1_off14 r) S1x16.size (k1_off14_inb r)).toLoadRect (View.loadsAt_vmem h_S1x16))
  Prog.lift (.store accB (Rect.unit (s := S128x16) (k1_off14 r) S1x16.size (k1_off14_inb r)) (rowVal v0 v1 v2 v3 v4 v5 v6 v7 a) Finset.univ (View.stores_vmem_bits_univ h_S1x16 rfl) (.inl rfl))
  pure ⟨⟩

/-- Every row of a chunk. -/
def rowSums (i : grid1.Coords) (buf : Memref sig .scVector .vmem S128x128 .f32) : TileProg (F := F) i PUnit :=
  Scf.Loop.for k1_t3_loop k1_t3_ok ⟨⟩ fun r _ => rowStep i buf r

/-- Start fetching a chunk into the first buffer, and wait for it; -/
def fetchA (i : grid1.Coords) (off : Fin 2 → Nat) (h : ∀ a, off a + S128x128.size a ≤ S4096x32000.size a) : TileProg (F := F) i PUnit :=
  Prog.lift (.enqueueDma (xBlk off h) (.here bufA) (.dma semA) (View.wordExact_bits rfl) (Memref.isWhole_whole _).wordExact ⟨Or.inl rfl, trivial⟩)
def awaitA (i : grid1.Coords) (off : Fin 2 → Nat) (h : ∀ a, off a + S128x128.size a ≤ S4096x32000.size a) : TileProg (F := F) i PUnit :=
  Prog.lift (.waitDma2 semA (xBlk off h) bufA (View.wordExact_bits rfl) (Memref.isWhole_whole _).wordExact)
/-- and the same for the second buffer. -/
def fetchB (i : grid1.Coords) (off : Fin 2 → Nat) (h : ∀ a, off a + S128x128.size a ≤ S4096x32000.size a) : TileProg (F := F) i PUnit :=
  Prog.lift (.enqueueDma (xBlk off h) (.here bufB) (.dma semB) (View.wordExact_bits rfl) (Memref.isWhole_whole _).wordExact ⟨Or.inl rfl, trivial⟩)
def awaitB (i : grid1.Coords) (off : Fin 2 → Nat) (h : ∀ a, off a + S128x128.size a ≤ S4096x32000.size a) : TileProg (F := F) i PUnit :=
  Prog.lift (.waitDma2 semB (xBlk off h) bufB (View.wordExact_bits rfl) (Memref.isWhole_whole _).wordExact)

/-- The number of the first of a trip's two chunks, -/
def chunkNo (k : Fin k1_t2_loop.trips) : BitVec 32 := Scalar.addi 0#32 (Scalar.muli (Scf.iv 0#32 1#32 k) 2#32)
/-- and the column at which chunk `j` starts. -/
def chunkLo (j : BitVec 32) : BitVec 32 := Scalar.addi 30720#32 (Scalar.muli j 128#32)

/-- The row sums of a trip's first chunk, the next fetch, and the number of the second chunk. -/
def sumFetchA (i : grid1.Coords) (k : Fin k1_t2_loop.trips) : TileProg (F := F) i (BitVec 32) := do
  rowSums i bufA
  fetchA i (k1_off15 i k) (k1_off15_inb i k)
  pure (Scalar.addi (chunkNo k) 1#32)

/-- One trip of the steady loop: two chunks taken in, the next two fetched. -/
def steady (i : grid1.Coords) (k : Fin k1_t2_loop.trips) : TileProg (F := F) i PUnit := do
  awaitA i (k1_off5 i) (k1_off5_inb i)
  pickGroups i bufA (chunkLo (chunkNo k))
  let j ← sumFetchA i k
  awaitB i (k1_off16 i) (k1_off16_inb i)
  pickGroups i bufB (chunkLo j)
  rowSums i bufB
  fetchB i (k1_off26 i k) (k1_off26_inb i k)
  pure ⟨⟩

/-- One gathered column of the accumulators of sixteen rows. -/
def accCol (i : grid1.Coords) (rows c : IVec S16 32) : TileProg (F := F) i (FVec F S16 .f32) := do
  have hw : k1_chk33 rows c := (← Prog.lift (TpuEff.assume (k1_chk33 rows c) (k1_chk33.dec _ _))).down
  let g : Vec F S16 .f32 ← SparseCore.vectorLoadIdx accB ![rows, c] (k1_idx33_inb _ _ hw) (View.loads_vmem h_S128x16)
  pure g

/-- The first three columns added; -/
def finHead (i : grid1.Coords) (rows : IVec S16 32) : TileProg (F := F) i (FVec F S16 .f32) := do
  let g0 ← accCol i rows (broadcast S16 0#32)
  let g1 ← accCol i rows (broadcast S16 1#32)
  let g2 ← accCol i rows (broadcast S16 2#32)
  pure (addf (addf g0 g1) g2)

/-- then the other thirteen. -/
def finTail (i : grid1.Coords) (rows c3 : IVec S16 32) (s : FVec F S16 .f32) : TileProg (F := F) i (FVec F S16 .f32) := do
  let g3 ← accCol i rows c3
  let g4 ← accCol i rows (broadcast S16 4#32)
  let g5 ← accCol i rows (broadcast S16 5#32)
  let g6 ← accCol i rows (broadcast S16 6#32)
  let g7 ← accCol i rows (broadcast S16 7#32)
  let g8 ← accCol i rows (broadcast S16 8#32)
  let g9 ← accCol i rows (broadcast S16 9#32)
  let g10 ← accCol i rows (broadcast S16 10#32)
  let g11 ← accCol i rows (broadcast S16 11#32)
  let g12 ← accCol i rows (broadcast S16 12#32)
  let g13 ← accCol i rows (broadcast S16 13#32)
  let g14 ← accCol i rows (broadcast S16 14#32)
  let g15 ← accCol i rows (broadcast S16 15#32)
  pure (addf (addf (addf (addf (addf (addf (addf (addf (addf (addf (addf (addf (addf s g3) g4) g5) g6) g7) g8) g9) g10) g11) g12) g13) g14) g15)

/-- The contribution of sixteen rows, whose accumulators add up to `s`, added to what the earlier rows gave. -/
def finAdd (i : grid1.Coords) (o : Nat) (ho : ∀ a, (![o] : Fin 1 → Nat) a + S16.size a ≤ S128.size a) (s acc : FVec F S16 .f32) : TileProg (F := F) i (FVec F S16 .f32) := do
  let t : Vec F S16 .i32 ← Prog.lift (.load tBuf (Rect.unit (s := S128) ![o] S16.size ho).toLoadRect (View.loadsAt_vmem h_S16))
  let p : Vec F S16 .f32 ← Prog.lift (.load pickB (Rect.unit (s := S128) ![o] S16.size ho).toLoadRect (View.loadsAt_vmem h_S16))
  pure (addf acc (contrib t s p))

/-- Sixteen rows from `o`. -/
def finGroup (i : grid1.Coords) (o : Nat) (ho : ∀ a, (![o] : Fin 1 → Nat) a + S16.size a ≤ S128.size a) (acc : FVec F S16 .f32) : TileProg (F := F) i (FVec F S16 .f32) := do
  let s ← finHead i (rowsFrom (BitVec.ofNat 32 o))
  let s ← finTail i (rowsFrom (BitVec.ofNat 32 o)) (broadcast S16 3#32) s
  finAdd i o ho s acc

/-- The rows after the first sixteen. -/
def finRest (i : grid1.Coords) (acc : FVec F S16 .f32) : TileProg (F := F) i (FVec F S16 .f32) := do
  let a ← finGroup i 16 inb_S128_S16_16 acc
  let a ← finGroup i 32 inb_S128_S16_32 a
  let a ← finGroup i 48 inb_S128_S16_48 a
  let a ← finGroup i 64 inb_S128_S16_64 a
  let a ← finGroup i 80 inb_S128_S16_80 a
  let a ← finGroup i 96 inb_S128_S16_96 a
  finGroup i 112 inb_S128_S16_112 a

/-- Store the sixteen results and copy them to the tile's row of the partial sums. -/
def writeOut (i : grid1.Coords) (v : FVec F S16 .f32) : TileProg (F := F) i PUnit := do
  let _ ← Prog.lift (.load resB (Rect.unit (s := S16) ![0] S16.size inb_S16_S16_0).toLoadRect (View.loadsAt_vmem h_S16))
  Prog.lift (.store resB (Rect.unit (s := S16) ![0] S16.size inb_S16_S16_0) v Finset.univ (View.stores_vmem_bits_univ h_S16 rfl) (.inl rfl))
  Prog.lift (.enqueueDma resB (.here (oRow i)) (.dma cc1_scoped0.sem) (Memref.isWhole_whole _).wordExact ((View.wordExact_bits rfl).reshape _ _) ⟨Or.inl rfl, trivial⟩)
  Prog.lift (.waitDma2 cc1_scoped0.sem resB (oRow i) (Memref.isWhole_whole _).wordExact ((View.wordExact_bits rfl).reshape _ _))
  pure ⟨⟩

/-- Fetch the tile's targets. -/
def fetchT (i : grid1.Coords) : TileProg (F := F) i PUnit := do
  Prog.lift (.enqueueDma (tBlk i) (.here tBuf) (.dma cc1_scratch6.sem) (View.wordExact_bits rfl) (Memref.isWhole_whole _).wordExact ⟨Or.inl rfl, trivial⟩)
  Prog.lift (.waitDma2 cc1_scratch6.sem (tBlk i) tBuf (View.wordExact_bits rfl) (Memref.isWhole_whole _).wordExact)

/-- Clear both accumulators. -/
def clears (i : grid1.Coords) : TileProg (F := F) i PUnit := do
  Scf.Loop.for k1_t1_loop k1_t1_ok ⟨⟩ fun r _ => clearRow i r
  clearPicks i
  pure ⟨⟩

/-- Chunks 0 to 7, the last two left on their way; and the first sixteen rows of chunk 8 picked. -/
def mainPart (i : grid1.Coords) : TileProg (F := F) i (FVec F S16 .f32) := do
  fetchA i (k1_off3 i) (k1_off3_inb i)
  fetchB i (k1_off4 i) (k1_off4_inb i)
  Scf.Loop.for k1_t2_loop k1_t2_ok ⟨⟩ fun k _ => steady i k
  awaitA i (k1_off27 i) (k1_off27_inb i)
  pickHead i bufA 31744#32 0 inb_S128_S16_0

/-- The sum, before the last columns, as the printed program passes it on. -/
abbrev Carry (F : FTy → Type) := Σ' (_ : FVec F S16 .f32) (_ : IVec S16 32) (_ : FVec F S16 .f32), IVec S16 32

/-- Fetch the targets and clear the accumulators. -/
def fetchClear (i : grid1.Coords) : TileProg (F := F) i PUnit := do
  fetchT i
  clears i

/-- The row sums of the chunk in the first buffer. -/
def sumA (i : grid1.Coords) : TileProg (F := F) i PUnit := do
  rowSums i bufA
  pure ⟨⟩

/-- The row sums of the last chunk, and the first three accumulator columns of the first sixteen rows. -/
def sumHead (i : grid1.Coords) : TileProg (F := F) i (Carry F) := do
  rowSums i bufB
  let s ← finHead i (rowsFrom 0#32)
  pure ⟨zero16, rowsFrom 0#32, s, broadcast S16 3#32⟩

/-- The tile's task. -/
def tile (i : grid1.Coords) : TileProg (F := F) i PUnit := do
  fetchClear i
  let v ← mainPart i
  pickTail i 0 inb_S128_S16_0 v
  pickRest i bufA 31744#32
  sumA i
  awaitB i (k1_off37 i) (k1_off37_inb i)
  pickGroups i bufB 31872#32
  let w ← sumHead i
  let s ← finTail i w.2.1 w.2.2.2 w.2.2.1
  let a ← finAdd i 0 inb_S128_S16_0 s w.1
  let a ← finRest i a
  writeOut i a

/-- A coordinate map of the mesh, as the launch calls the task with it, is what its two coordinates say. -/
theorem tile_eq (i : grid1.Coords) :
    cc1__sc_body (F := F) i xArr (Memref.isWhole_whole _) tArr (Memref.isWhole_whole _) oArr (Memref.isWhole_whole _)
      tBuf (Memref.isWhole_whole _) bufA (Memref.isWhole_whole _) bufB (Memref.isWhole_whole _) accB (Memref.isWhole_whole _)
      pickB (Memref.isWhole_whole _) resB (Memref.isWhole_whole _) cc1_scratch6 cc1_scratch7 cc1_scoped0 = tile i := by
  chain_rfl

end Cert.KernelIdeal.Sparse

end
-- ==== Proof.Holding.lean ====
/-
  How a tile's task holds one of its own buffers: outright, at named contents read through the memref (`Holds`). Three
  rules: a load reads the contents through its rectangle, a store rewrites them, an indexed load gathers from them.
-/
module

public import proofs.«01_k».proof.Proof.TileProgram
public import Idealize.ShloMosaic.Lib.SparseCore.Quiescent
public import Idealize.ShloMosaic.Lib.SparseCore.Ops
public import Idealize.ShloMosaic.Lib.WritesUnit
public import Idealize.ShloMosaic.Lib.Transfers
public import Idealize.ShloMosaic.Lib.Tactic

@[expose] public section

noncomputable section

namespace Cert.KernelIdeal.Sparse

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
variable {U : Type} [URA U]

local notation "𝕄" => MT nD τ sig (HIx 1) (Elt F) ℕ U ℕ

abbrev cV (i : grid1.Coords) : Fin τ.nSC := (i 0).castLE hcore1
abbrev jV (i : grid1.Coords) : Fin τ.nSub := (i 1).castLE hsub1
/-- The thread of grid point `i` on device `d`. -/
abbrev thr (d : Dev nD) (i : grid1.Coords) : Thread nD τ := V d (cV i) (jV i)
abbrev 𝒱₀ : Variants := Variants.none

/-- What must hold for the task's program `p` to end in `Q`. -/
abbrev WP (d : Dev nD) (i : grid1.Coords) {α : Type} (p : TileProg (F := F) i α) (Q : α → sProp 𝕄) : sProp 𝕄 :=
  wp frame (wpE (defs₀ (F := F)) 𝒱₀ (thr d i) none) Set.univ p Q

/-- A program that has ended; -/
theorem WP_ret {d : Dev nD} {i : grid1.Coords} {α : Type} {a : α} {Q : α → sProp 𝕄} : Q a ⊢ WP d i (.ret a) Q := by
  unfold WP
  rw [wp_ret]
  iintro H
  imodintro
  iexact H

/-- and one that goes on with a fact that holds. -/
theorem WP_assume {d : Dev nD} {i : grid1.Coords} {α : Type} {P : Prop} {dec : Decidable P} {k : PLift P → TileProg (F := F) i α} {Q : α → sProp 𝕄} (h : P) :
    WP d i (k ⟨h⟩) Q ⊢ WP d i (.op (.assume P dec) k) Q :=
  Entails.of_eq (wp_assume_of _ _ _ _ h).symm

section
variable {s : Shape} {e : EltTy} (d : Dev nD) (i : grid1.Coords)

/-- The task holds the buffer of `m` outright, and read through `m` it is `B`. -/
def Holds (m : Memref sig .scVector .vmem s e) (B : s.Idx → Elt F e) : sProp 𝕄 :=
  iprop(∃ f : Buf (Elt F) (m.view.loc (thr d i)), ⌜m.view.read (Elt F) f = B⌝ ∗ m.view.loc (thr d i) ↦[Finset.univ]{fullShare} f)

variable {d i} {m : Memref sig .scVector .vmem s e} {B : s.Idx → Elt F e}

/-- A load of the rectangle `r` reads `B` there. -/
theorem load_holds {α : Type} {r : Rect s} {hl : m.view.LoadsAt r.toLoadRect} {k : (r.shape.Idx → Elt F e) → TileProg (F := F) i α} {Q : α → sProp 𝕄} :
    Holds d i m B ⊢ iprop((Holds d i m B -∗ WP d i (k fun x => B (r.emb x)) Q) -∗ WP d i (.op (.load m r.toLoadRect hl) k) Q) := by
  unfold Holds
  iintro ⟨%f, %hf, H⟩ Hk
  iapply (wp_load 𝒱₀ (thr d i) none Set.univ (m := m) (S := Finset.univ) (Finset.subset_univ _)) $$ H
  iintro H
  have hv : m.view.readAt (Elt F) r.toLoadRect f = fun x => B (r.emb x) := by
    funext x
    rw [View.readAt_apply, hf]
    rfl
  rw [hv]
  iapply Hk
  iexists f
  isplitr
  · ipureintro; exact hf
  iexact H

/-- A store over the rectangle `r` leaves `G`, where `G` is the payload on `r` and the old contents off it. -/
theorem store_holds {α : Type} {r : Rect s} {w : r.shape.Idx → Elt F e} {hx : (m.access r).Stores Finset.univ} {hm : Finset.univ = Finset.univ ∨ ∀ a, r.stride a = 1}
    {k : PUnit → TileProg (F := F) i α} {Q : α → sProp 𝕄} (G : s.Idx → Elt F e) (hon : ∀ x, G (r.emb x) = w x) (hoff : ∀ y, y ∉ r.set → G y = B y) :
    Holds d i m B ⊢ iprop((Holds d i m G -∗ WP d i (k ⟨⟩) Q) -∗ WP d i (.op (.store m r w Finset.univ hx hm) k) Q) := by
  unfold Holds
  iintro ⟨%f, %hf, H⟩ Hk
  iapply (wp_store_writes₀ 𝒱₀ (thr d i) none Set.univ (m := m) (r := r) (w := w) (hx := hx) (hm := hm) (k := k) (Q := Q) (f := f) (S := Finset.univ) (Finset.subset_univ _)) $$ H
  iintro H
  iapply Hk
  iexists (m.view.writes (Elt F) f [⟨r, w⟩])
  isplitr
  rotate_left
  · iexact H
  ipureintro
  funext y
  by_cases hy : y ∈ r.set
  · obtain ⟨x, rfl⟩ := r.exists_idx_of_mem hy
    exact (m.view.read_writes_cons_emb f r w [] x).trans (hon x).symm
  · rw [View.read_writes_apply_of_forall_not_mem, hf, hoff y hy]
    intro p hp
    rw [List.mem_singleton.mp hp]
    exact hy

/-- An indexed load gathers from `B`. -/
theorem gather_holds {t : Shape} {α : Type} {idxs : Fin s.rank → IVec t 32} {h : ∀ a x, (idxs a x).toNat < s.size a} {hl : m.view.Loads}
    {k : Vec F t e → TileProg (F := F) i α} {Q : α → sProp 𝕄} :
    Holds d i m B ⊢ iprop((Holds d i m B -∗ WP d i (k (loadIdx B idxs h)) Q)
      -∗ WP d i (SparseCore.vectorLoadIdx m idxs h hl >>= k) Q) := by
  unfold Holds
  iintro ⟨%f, %hf, H⟩ Hk
  iapply (SparseCore.wp_vectorLoadIdx 𝒱₀ (thr d i) none Set.univ (base := m) (S := Finset.univ) (q := fullShare) (Finset.subset_univ _)) $$ H
  iintro H
  have hv : (m.access (.whole s)).read (Elt F) f = B := by
    rw [← hf]
    funext x
    show m.view.read (Elt F) f ((Rect.whole s).emb x) = _
    rw [Rect.emb_whole_apply]
  rw [hv]
  iapply Hk
  iexists f
  isplitr
  · ipureintro; exact hf
  iexact H

end

end Cert.KernelIdeal.Sparse

end
-- ==== Proof.TileValue.lean ====
/-
  What a tile computes, element by element: the picked entry of a row after a chunk (`pickAt`), the sixteen running
  sums of a row after a chunk (`rowAt`), a row's contribution (`laneAt`), and the sixteen results (`outVal`), all in
  the order in which the task adds.
-/
module

public import proofs.«01_k».proof.Proof.TileProgram
public import Idealize.ShloMosaic.Lib.ValueIdx
public import Idealize.ShloMosaic.Lib.ValueLayout

@[expose] public section

noncomputable section

namespace Cert.KernelIdeal.Sparse

open Cert.KernelIdeal Cert.KernelIdeal.Gen Idealize.ShloMosaic
open Idealize.ShloMosaic.ValueIdx

variable {F : FTy → Type} [FloatOps F] [Named F]

/-- The zero that the task clears with. -/
def zeroF : F .f32 := Scalar.ofBits .f32 0x00000000#32

/-- A target's column in the chunk from `lo`, clamped; -/
def clampW (lo t : BitVec 32) : BitVec 32 := IntOp.minsi (IntOp.maxsi (t - lo) 0#32) 127#32
/-- and whether the chunk has it. -/
def inW (lo t : BitVec 32) : BitVec 1 := IntOp.cmpi .sge (t - lo) 0#32 &&& IntOp.cmpi .slt (t - lo) 128#32

theorem clampW_lt (lo t : BitVec 32) : (clampW lo t).toNat < 128 := by
  have h : ∀ z : BitVec 32, (IntOp.minsi (IntOp.maxsi z 0#32) 127#32).toNat < 128 := by
    intro z
    unfold IntOp.minsi IntOp.maxsi
    by_cases hz : (0#32 : BitVec 32).slt z <;> simp only [hz, if_true, if_false, Bool.false_eq_true]
    · by_cases h2 : z.slt 127#32 <;> simp only [h2, if_true, if_false, Bool.false_eq_true]
      · simp only [BitVec.slt, decide_eq_true_eq] at hz h2
        have h127 : (127#32 : BitVec 32).toInt = 127 := by decide
        have h0 : (0#32 : BitVec 32).toInt = 0 := by decide
        rw [h127] at h2; rw [h0] at hz
        rw [BitVec.toInt_eq_toNat_cond] at hz h2
        split at hz <;> omega
      · decide
    · decide
  exact h _

/-- The picked entry `p` of a row after the chunk from `lo`, whose columns are `row`. -/
def pickAt (lo t : BitVec 32) (row : Fin 128 → F .f32) (p : F .f32) : F .f32 :=
  FloatOps.addf p (Scalar.select (inW lo t) (row ⟨(clampW lo t).toNat, clampW_lt lo t⟩) zeroF)

/-- Lane `l` of the sum of a chunk's eight pieces. -/
def rowAt (row : Fin 128 → F .f32) (l : Fin 16) : F .f32 :=
  FloatOps.addf (FloatOps.addf (FloatOps.addf (FloatOps.addf (FloatOps.addf (FloatOps.addf (FloatOps.addf
    (row ⟨0 + l.val, by omega⟩) (row ⟨16 + l.val, by omega⟩)) (row ⟨32 + l.val, by omega⟩)) (row ⟨48 + l.val, by omega⟩))
    (row ⟨64 + l.val, by omega⟩)) (row ⟨80 + l.val, by omega⟩)) (row ⟨96 + l.val, by omega⟩)) (row ⟨112 + l.val, by omega⟩)

/-- The sixteen running sums of a row, added from the left. -/
def accSum (a : Fin 16 → F .f32) : F .f32 :=
  FloatOps.addf (FloatOps.addf (FloatOps.addf (FloatOps.addf (FloatOps.addf (FloatOps.addf (FloatOps.addf (FloatOps.addf
    (FloatOps.addf (FloatOps.addf (FloatOps.addf (FloatOps.addf (FloatOps.addf (FloatOps.addf (FloatOps.addf
      (a 0) (a 1)) (a 2)) (a 3)) (a 4)) (a 5)) (a 6)) (a 7)) (a 8)) (a 9)) (a 10)) (a 11)) (a 12)) (a 13)) (a 14)) (a 15)

/-- What a row with target `t`, sum `s` and picked entry `p` contributes. -/
def contribAt (t : BitVec 32) (s p : F .f32) : F .f32 :=
  Scalar.select (IntOp.cmpi .ne t 0#32)
    (FloatOps.addf (FloatOps.mulf (Named.named κ "neg_fill" 0xB651BA72#32) s)
      (FloatOps.mulf (Named.named κ "fill_conf" 0xBF666632#32) p)) zeroF

/-- The picked entries, the chunk taken in for the rows below `n`. -/
def pickTo (n : ℕ) (lo : BitVec 32) (T : S128.Idx → BitVec 32) (B : S128x128.Idx → F .f32) (P : S128.Idx → F .f32) : S128.Idx → F .f32 :=
  fun y => if (y 0).val < n then pickAt lo (T y) (fun c => B (ix2 (y 0) c)) (P y) else P y

/-- The running sums, the chunk taken in for the rows below `n`. -/
def rowTo (n : ℕ) (B : S128x128.Idx → F .f32) (A : S128x16.Idx → F .f32) : S128x16.Idx → F .f32 :=
  fun y => if (y 0).val < n then FloatOps.addf (A y) (rowAt (fun c => B (ix2 (y 0) c)) (y 1)) else A y

/-- Row `r`'s contribution. -/
def laneAt (A : S128x16.Idx → F .f32) (T : S128.Idx → BitVec 32) (P : S128.Idx → F .f32) (r : Fin 128) : F .f32 :=
  contribAt (T (ix1 r)) (accSum fun c => A (ix2 r c)) (P (ix1 r))

/-- The sixteen contributions of the rows from `o`. -/
def lanes (o : ℕ) (ho : o + 16 ≤ 128) (A : S128x16.Idx → F .f32) (T : S128.Idx → BitVec 32) (P : S128.Idx → F .f32) : S16.Idx → F .f32 :=
  fun l => laneAt A T P ⟨o + (l 0).val, by have := (l 0).isLt; simp only [Matrix.cons_val_zero] at this; omega⟩

/-- The sixteen results. -/
def outVal (A : S128x16.Idx → F .f32) (T : S128.Idx → BitVec 32) (P : S128.Idx → F .f32) : S16.Idx → F .f32 :=
  fun l => FloatOps.addf (FloatOps.addf (FloatOps.addf (FloatOps.addf (FloatOps.addf (FloatOps.addf (FloatOps.addf (FloatOps.addf zeroF
    (lanes 0 (by omega) A T P l)) (lanes 16 (by omega) A T P l)) (lanes 32 (by omega) A T P l)) (lanes 48 (by omega) A T P l))
    (lanes 64 (by omega) A T P l)) (lanes 80 (by omega) A T P l)) (lanes 96 (by omega) A T P l)) (lanes 112 (by omega) A T P l)

/-- Chunk `j` of tile `w`: the tile's 128 rows at columns `30720 + 128 j`. -/
def blk (X : S4096x32000.Idx → F .f32) (w j : ℕ) : S128x128.Idx → F .f32 :=
  fun y => X (ix2 ⟨(128 * w + (y 0).val) % 4096, Nat.mod_lt _ (by decide)⟩ ⟨(30720 + 128 * j + (y 1).val) % 32000, Nat.mod_lt _ (by decide)⟩)

/-- The tile's targets. -/
def tgt (T : S4096.Idx → BitVec 32) (w : ℕ) : S128.Idx → BitVec 32 :=
  fun y => T (ix1 ⟨(128 * w + (y 0).val) % 4096, Nat.mod_lt _ (by decide)⟩)

/-- The first column of chunk `j`, as a word. -/
def loW (j : ℕ) : BitVec 32 := BitVec.ofNat 32 (30720 + 128 * j)

/-- The picked entries after `j` chunks; -/
def pickN (X : S4096x32000.Idx → F .f32) (T : S4096.Idx → BitVec 32) (w : ℕ) : ℕ → S128.Idx → F .f32
  | 0 => fun _ => zeroF
  | j + 1 => pickTo 128 (loW j) (tgt T w) (blk X w j) (pickN X T w j)

/-- the running sums after `j` chunks; -/
def accN (X : S4096x32000.Idx → F .f32) (w : ℕ) : ℕ → S128x16.Idx → F .f32
  | 0 => fun _ => zeroF
  | j + 1 => rowTo 128 (blk X w j) (accN X w j)

/-- and the tile's results: its row of the array of partial sums. -/
def tileOut (X : S4096x32000.Idx → F .f32) (T : S4096.Idx → BitVec 32) (w : ℕ) : S16.Idx → F .f32 :=
  outVal (accN X w 10) (tgt T w) (pickN X T w 10)

omit [Named F] in
theorem pickTo_zero (lo : BitVec 32) (T : S128.Idx → BitVec 32) (B : S128x128.Idx → F .f32) (P : S128.Idx → F .f32) : pickTo 0 lo T B P = P :=
  funext fun _ => if_neg (Nat.not_lt_zero _)

omit [Named F] in
theorem rowTo_zero (B : S128x128.Idx → F .f32) (A : S128x16.Idx → F .f32) : rowTo 0 B A = A := funext fun _ => if_neg (Nat.not_lt_zero _)

omit [Named F] in
/-- A group's picked values are those of its rows. -/
theorem pickVal_eq (o : ℕ) (ho : o + 16 ≤ 128) (lo : BitVec 32) (T : S128.Idx → BitVec 32) (B : S128x128.Idx → F .f32) (P : S128.Idx → F .f32)
    (l : S16.Idx) (r : Fin 128) (hr : r.val = o + (l 0).val) (t : IVec S16 32) (g p : FVec F S16 .f32)
    (ht : t l = T (ix1 r)) (hg : g l = B (ix2 r ⟨(clampW lo (T (ix1 r))).toNat, clampW_lt _ _⟩)) (hp : p l = P (ix1 r)) :
    pickVal t lo g p l = pickTo (o + 16) lo T B P (ix1 r) := by
  have hl : (l 0).val < 16 := (l 0).isLt
  unfold pickTo
  rw [if_pos (show ((ix1 r : S128.Idx) 0).val < o + 16 from by show r.val < o + 16; omega)]
  show FloatOps.addf (p l) (Scalar.select (inW lo (t l)) (g l) zeroF) = _
  rw [ht, hg, hp]
  rfl

end Cert.KernelIdeal.Sparse

end
-- ==== Proof.TileSteps.lean ====
/-
  The blocks of a tile's task that touch only its own buffers, each from what the buffers hold before to what they hold
  after: clearing, picking sixteen targets' entries, adding a chunk's row sums, and a row group's contribution.
-/
module

public import proofs.«01_k».proof.Proof.Holding
public import proofs.«01_k».proof.Proof.TileValue

@[expose] public section

noncomputable section

namespace Cert.KernelIdeal.Sparse

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F] [Named F]
variable {U : Type} [URA U]

local notation "𝕄" => MT nD τ sig (HIx 1) (Elt F) ℕ U ℕ

variable {d : Dev nD} {i : grid1.Coords}

/-! ## Where the rectangles lie -/

theorem emb_16 {o : ℕ} (ho : ∀ a, (![o] : Fin 1 → Nat) a + S16.size a ≤ S128.size a) (x : S16.Idx) (h : o + (x 0).val < 128) :
    (Rect.unit (s := S128) ![o] S16.size ho).emb x = ix1 ⟨o + (x 0).val, h⟩ := by
  funext a
  match a with
  | ⟨0, _⟩ => exact Fin.ext (by show o + 1 * (x 0).val = o + (x 0).val; omega)

theorem mem_16 {o : ℕ} {ho : ∀ a, (![o] : Fin 1 → Nat) a + S16.size a ≤ S128.size a} {y : S128.Idx} :
    y ∈ (Rect.unit (s := S128) ![o] S16.size ho).set ↔ o ≤ (y 0).val ∧ (y 0).val < o + 16 := by
  rw [Rect.mem_set_unit]
  exact ⟨fun h => h 0, fun h a => by match a with | ⟨0, _⟩ => exact h⟩

theorem emb_row {C r c : ℕ} {off : Fin 2 → ℕ} (h : ∀ a, off a + S1x16.size a ≤ (⟨2, ![128, C]⟩ : Shape).size a) (ho : off = ![r, c])
    (hr : r < 128) (x : S1x16.Idx) (hc : c + (x 1).val < C) :
    (Rect.unit (s := (⟨2, ![128, C]⟩ : Shape)) off S1x16.size h).emb x = ix2 ⟨r, hr⟩ ⟨c + (x 1).val, hc⟩ := by
  subst ho
  have h0 : (x 0).val = 0 := by have := (x 0).isLt; simp only [Matrix.cons_val_zero] at this; omega
  funext a
  match a with
  | ⟨0, _⟩ => exact Fin.ext (by show r + 1 * (x 0).val = r; omega)
  | ⟨1, _⟩ => exact Fin.ext (by show c + 1 * (x 1).val = c + (x 1).val; omega)

theorem mem_row {r : ℕ} {off : Fin 2 → ℕ} {h : ∀ a, off a + S1x16.size a ≤ S128x16.size a} (ho : off = ![r, 0]) {y : S128x16.Idx} :
    y ∈ (Rect.unit (s := S128x16) off S1x16.size h).set ↔ (y 0).val = r := by
  subst ho
  rw [Rect.mem_set_unit]
  constructor
  · intro h
    have := h 0
    simp only [Matrix.cons_val_zero] at this
    omega
  · intro hy a
    match a with
    | ⟨0, _⟩ => exact ⟨by show r ≤ (y 0).val; omega, by show (y 0).val < r + 1; omega⟩
    | ⟨1, _⟩ => exact ⟨Nat.zero_le _, by show (y 1).val < 0 + 16; have := (y 1).isLt; simpa using this⟩

/-! ## Clearing -/

/-- Zeros in the rows below `n`. -/
def clearTo1 (n : ℕ) (P : S128.Idx → F .f32) : S128.Idx → F .f32 := fun y => if (y 0).val < n then zeroF else P y
def clearTo2 (n : ℕ) (A : S128x16.Idx → F .f32) : S128x16.Idx → F .f32 := fun y => if (y 0).val < n then zeroF else A y

theorem clearPick_wp (o : ℕ) (ho : ∀ a, (![o] : Fin 1 → Nat) a + S16.size a ≤ S128.size a) (P : S128.Idx → F .f32) {Q : PUnit → sProp 𝕄} :
    Holds d i pickB (clearTo1 o P) ⊢ iprop((Holds d i pickB (clearTo1 (o + 16) P) -∗ Q ⟨⟩) -∗ WP d i (clearPick i o ho) Q) := by
  unfold clearPick
  simp only [Prog.lift, Prog.bind_op, Prog.bind_ret]
  iintro H Hk
  iapply load_holds $$ H
  iintro H
  iapply (store_holds (clearTo1 (o + 16) P) ?hon ?hoff) $$ H
  case hon =>
    intro x
    have hx : (x 0).val < 16 := (x 0).isLt
    have hb : o + 16 ≤ 128 := ho 0
    rw [emb_16 ho x (by omega)]
    exact if_pos (show o + (x 0).val < o + 16 by omega)
  case hoff =>
    intro y hy
    rw [mem_16] at hy
    unfold clearTo1
    by_cases h : (y 0).val < o
    · rw [if_pos h, if_pos (by omega)]
    · rw [if_neg h, if_neg (by omega)]
  iintro H
  iapply WP_ret
  iapply Hk
  iexact H

theorem clearPicks_wp (P : S128.Idx → F .f32) {Q : PUnit → sProp 𝕄} :
    Holds d i pickB P ⊢ iprop((Holds d i pickB (fun _ => (zeroF : F .f32)) -∗ Q ⟨⟩) -∗ WP d i (clearPicks i) Q) := by
  have h0 : clearTo1 0 P = P := funext fun _ => if_neg (Nat.not_lt_zero _)
  have h1 : clearTo1 128 P = fun _ => zeroF := funext fun y => if_pos (y 0).isLt
  unfold clearPicks
  simp only [wp_bind]
  iintro H Hk
  rw [← h0, ← h1]
  iapply (clearPick_wp 0 _ P) $$ H; iintro H
  iapply (clearPick_wp 16 _ P) $$ H; iintro H
  iapply (clearPick_wp 32 _ P) $$ H; iintro H
  iapply (clearPick_wp 48 _ P) $$ H; iintro H
  iapply (clearPick_wp 64 _ P) $$ H; iintro H
  iapply (clearPick_wp 80 _ P) $$ H; iintro H
  iapply (clearPick_wp 96 _ P) $$ H; iintro H
  iapply (clearPick_wp 112 _ P) $$ H; iintro H
  iapply Hk
  iexact H

theorem clearRow_wp (r : Fin k1_t1_loop.trips) (A : S128x16.Idx → F .f32) {Q : PUnit → sProp 𝕄} :
    Holds d i accB (clearTo2 r.val A) ⊢ iprop((Holds d i accB (clearTo2 (r.val + 1) A) -∗ Q ⟨⟩) -∗ WP d i (clearRow i r) Q) := by
  have hr : r.val < 128 := r.isLt
  unfold clearRow
  simp only [Prog.lift, Prog.bind_op, Prog.bind_ret, Prog.pure_eq_ret]
  iintro H Hk
  iapply load_holds $$ H
  iintro H
  iapply (store_holds (clearTo2 (r.val + 1) A) ?hon ?hoff) $$ H
  case hon =>
    intro x
    have hx : (x 1).val < 16 := (x 1).isLt
    rw [emb_row (C := 16) _ (k1_off2_eq r) hr x (by omega)]
    exact if_pos (show r.val < r.val + 1 by omega)
  case hoff =>
    intro y hy
    rw [mem_row (k1_off2_eq r)] at hy
    unfold clearTo2
    by_cases h : (y 0).val < r.val
    · rw [if_pos h, if_pos (by omega)]
    · rw [if_neg h, if_neg (by omega)]
  iintro H
  iapply WP_ret
  iapply Hk
  iexact H

/-- Both accumulators are cleared. -/
theorem clears_wp {Q : PUnit → sProp 𝕄} (A : S128x16.Idx → F .f32) (P : S128.Idx → F .f32) :
    iprop(Holds d i accB A ∗ Holds d i pickB P)
      ⊢ iprop(((Holds d i accB (fun _ => (zeroF : F .f32)) ∗ Holds d i pickB (fun _ => (zeroF : F .f32))) -∗ Q ⟨⟩) -∗ WP d i (clears i) Q) := by
  have h0 : clearTo2 0 A = A := funext fun _ => if_neg (Nat.not_lt_zero _)
  have h1 : clearTo2 128 A = fun _ => zeroF := funext fun y => if_pos (y 0).isLt
  unfold clears
  simp only [wp_bind, wp_pure]
  iintro ⟨HA, HP⟩ Hk
  iapply (Scf.wp_for _ _ _ _ _ _ _ _ _ (fun n (_ : PUnit) => (Holds d i accB (clearTo2 n A) : sProp 𝕄)) ?body)
  case body =>
    intro r acc
    iintro H
    iapply (clearRow_wp r A) $$ H
    iintro H
    iexact H
  rw [h0]
  isplitl [HA]; · iexact HA
  iintro %acc HA
  iapply (clearPicks_wp P) $$ HP
  iintro HP
  imodintro
  iapply Hk
  rw [← h1]
  isplitl [HA]
  · iexact HA
  · iexact HP

/-! ## Picking -/

section Pick

variable {buf : Memref sig .scVector .vmem S128x128 .f32} {lo : BitVec 32} {T : S128.Idx → BitVec 32} {B : S128x128.Idx → F .f32} {P : S128.Idx → F .f32}

theorem iota_16 (x : S16.Idx) : iota .scVector S16 32 [0] iota_S16_d0_w32_scVector x = BitVec.ofNat 32 (x 0).val := by
  show BitVec.ofNat 32 (0 * 16 + (x 0).val) = _
  rw [Nat.zero_mul, Nat.zero_add]

theorem rowsFrom_toNat {o : ℕ} (ho : o + 16 ≤ 128) (x : S16.Idx) : (rowsFrom (BitVec.ofNat 32 o) x).toNat = o + (x 0).val := by
  have hx : (x 0).val < 16 := (x 0).isLt
  show (BitVec.ofNat 32 o + iota .scVector S16 32 [0] iota_S16_d0_w32_scVector x).toNat = _
  rw [iota_16, BitVec.toNat_add, BitVec.toNat_ofNat, BitVec.toNat_ofNat]
  omega

/-- The indices of a pick are inside the chunk, whatever the targets. -/
theorem chk_pick {o : ℕ} (ho : o + 16 ≤ 128) (lo : BitVec 32) (t : IVec S16 32) : k1_chk1 (rowsFrom (BitVec.ofNat 32 o)) (clampCol t lo) := by
  intro a x
  match a with
  | ⟨0, _⟩ =>
    show (rowsFrom (BitVec.ofNat 32 o) x).toNat < 128
    rw [rowsFrom_toNat ho]
    have hx : (x 0).val < 16 := (x 0).isLt
    omega
  | ⟨1, _⟩ => exact clampW_lt lo (t x)

/-- What a group's pick leads to, as a vector. -/
def headVal (o : ℕ) (ho : ∀ a, (![o] : Fin 1 → Nat) a + S16.size a ≤ S128.size a) (lo : BitVec 32) (T : S128.Idx → BitVec 32) (B : S128x128.Idx → F .f32)
    (P : S128.Idx → F .f32) : FVec F S16 .f32 := fun x => pickTo (o + 16) lo T B P ((Rect.unit (s := S128) ![o] S16.size ho).emb x)

theorem post_congr {α : Type} {Q : α → sProp 𝕄} {a b : α} (h : b = a) : Q a ⊢ Q b := Entails.of_eq (congrArg Q h.symm)

theorem pickHead_wp (o : ℕ) (ho : ∀ a, (![o] : Fin 1 → Nat) a + S16.size a ≤ S128.size a) {Q : FVec F S16 .f32 → sProp 𝕄} :
    iprop(Holds (F := F) d i tBuf T ∗ Holds d i buf B ∗ Holds d i pickB (pickTo o lo T B P))
      ⊢ iprop(((Holds (F := F) d i tBuf T ∗ Holds d i buf B ∗ Holds d i pickB (pickTo o lo T B P))
          -∗ Q (headVal o ho lo T B P)) -∗ WP d i (pickHead i buf lo o ho) Q) := by
  have hb : o + 16 ≤ 128 := ho 0
  unfold pickHead
  simp only [Prog.lift, Prog.bind_op, Prog.bind_ret, Prog.pure_eq_ret]
  iintro ⟨HT, HB, HP⟩ Hk
  iapply load_holds $$ HT
  iintro HT
  iapply (WP_assume (chk_pick hb lo _))
  iapply gather_holds $$ HB
  iintro HB
  iapply load_holds $$ HP
  iintro HP
  iapply WP_ret
  have hv : pickVal (F := F) (fun x => T ((Rect.unit (s := S128) ![o] S16.size ho).emb x)) lo
      (loadIdx (F := F) (s := S128x128) (t := S16) (e := .f32) B ![rowsFrom (BitVec.ofNat 32 o), clampCol (fun x => T ((Rect.unit (s := S128) ![o] S16.size ho).emb x)) lo]
        (k1_idx1_inb _ _ (chk_pick hb lo _)))
      (fun x => pickTo o lo T B P ((Rect.unit (s := S128) ![o] S16.size ho).emb x))
      = headVal o ho lo T B P := by
    funext x
    unfold headVal
    have hx : (x 0).val < 16 := (x 0).isLt
    have he := emb_16 ho x (by omega)
    rw [he]
    refine pickVal_eq o hb lo T B P x ⟨o + (x 0).val, by omega⟩ rfl _ _ _ ?_ ?_ ?_
    · exact congrArg T he
    · refine congrArg B (funext fun a => Fin.ext ?_)
      match a with
      | ⟨0, _⟩ => exact rowsFrom_toNat hb x
      | ⟨1, _⟩ =>
        show (clampW lo (T ((Rect.unit (s := S128) ![o] S16.size ho).emb x))).toNat = (clampW lo (T (ix1 ⟨o + (x 0).val, by omega⟩))).toNat
        rw [he]
    · rw [he]
      unfold pickTo
      rw [if_neg]
      show ¬ o + (x 0).val < o
      omega
  ihave Hk' := Hk $$ [HT HB HP]
  · isplitl [HT]; · iexact HT
    isplitl [HB]; · iexact HB
    iexact HP
  iapply (post_congr ?hpost) $$ Hk'
  case hpost => exact hv

theorem pickTail_wp (o : ℕ) (ho : ∀ a, (![o] : Fin 1 → Nat) a + S16.size a ≤ S128.size a) {Q : PUnit → sProp 𝕄} :
    Holds d i pickB (pickTo o lo T B P)
      ⊢ iprop((Holds d i pickB (pickTo (o + 16) lo T B P) -∗ Q ⟨⟩)
          -∗ WP d i (pickTail i o ho (headVal o ho lo T B P)) Q) := by
  unfold pickTail
  simp only [Prog.lift, Prog.bind_op, Prog.bind_ret]
  iintro H Hk
  iapply load_holds $$ H
  iintro H
  iapply (store_holds (pickTo (o + 16) lo T B P) ?hon ?hoff) $$ H
  case hon => intro x; rfl
  case hoff =>
    intro y hy
    rw [mem_16] at hy
    unfold pickTo
    by_cases h : (y 0).val < o
    · rw [if_pos h, if_pos (by omega)]
    · rw [if_neg h, if_neg (by omega)]
  iintro H
  iapply WP_ret
  iapply Hk
  iexact H

theorem pickGroup_wp (o : ℕ) (ho : ∀ a, (![o] : Fin 1 → Nat) a + S16.size a ≤ S128.size a) {Q : PUnit → sProp 𝕄} :
    iprop(Holds (F := F) d i tBuf T ∗ Holds d i buf B ∗ Holds d i pickB (pickTo o lo T B P))
      ⊢ iprop(((Holds (F := F) d i tBuf T ∗ Holds d i buf B ∗ Holds d i pickB (pickTo (o + 16) lo T B P)) -∗ Q ⟨⟩)
        -∗ WP d i (pickGroup i buf lo o ho) Q) := by
  unfold pickGroup
  simp only [wp_bind]
  iintro H Hk
  iapply (pickHead_wp o ho) $$ H
  iintro ⟨HT, HB, HP⟩
  iapply (pickTail_wp o ho) $$ HP
  iintro HP
  iapply Hk
  isplitl [HT]; · iexact HT
  isplitl [HB]; · iexact HB
  iexact HP

theorem pickRest_wp {Q : PUnit → sProp 𝕄} :
    iprop(Holds (F := F) d i tBuf T ∗ Holds d i buf B ∗ Holds d i pickB (pickTo 16 lo T B P))
      ⊢ iprop(((Holds (F := F) d i tBuf T ∗ Holds d i buf B ∗ Holds d i pickB (pickTo 128 lo T B P)) -∗ Q ⟨⟩)
        -∗ WP d i (pickRest i buf lo) Q) := by
  unfold pickRest
  simp only [wp_bind]
  iintro H Hk
  iapply (pickGroup_wp 16 _) $$ H; iintro H
  iapply (pickGroup_wp 32 _) $$ H; iintro H
  iapply (pickGroup_wp 48 _) $$ H; iintro H
  iapply (pickGroup_wp 64 _) $$ H; iintro H
  iapply (pickGroup_wp 80 _) $$ H; iintro H
  iapply (pickGroup_wp 96 _) $$ H; iintro H
  iapply (pickGroup_wp 112 _) $$ H; iintro H
  iapply Hk
  iexact H

/-- A chunk's picks: every row's. -/
theorem pickGroups_wp {Q : PUnit → sProp 𝕄} :
    iprop(Holds (F := F) d i tBuf T ∗ Holds d i buf B ∗ Holds d i pickB P)
      ⊢ iprop(((Holds (F := F) d i tBuf T ∗ Holds d i buf B ∗ Holds d i pickB (pickTo 128 lo T B P)) -∗ Q ⟨⟩)
        -∗ WP d i (pickGroups i buf lo) Q) := by
  unfold pickGroups
  simp only [wp_bind]
  iintro H Hk
  iapply (pickGroup_wp 0 _ (lo := lo) (P := P)) $$ [H]
  · rw [pickTo_zero]; iexact H
  iintro H
  iapply pickRest_wp $$ H; iintro H
  iapply Hk
  iexact H

end Pick

/-! ## Row sums -/

section Rows

variable {buf : Memref sig .scVector .vmem S128x128 .f32} {B : S128x128.Idx → F .f32} {A : S128x16.Idx → F .f32}

/-- One piece of a chunk's row. -/
theorem piece_wp (r c : ℕ) (hr : r < 128) (hc : c + 16 ≤ 128) {off : Fin 2 → Nat} (h : ∀ a, off a + S1x16.size a ≤ S128x128.size a) (ho : off = ![r, c])
    {Q : Vec F S1x16 .f32 → sProp 𝕄} :
    Holds d i buf B ⊢ iprop((Holds d i buf B -∗ Q fun x => B (ix2 ⟨r, hr⟩ ⟨c + (x 1).val, by have : (x 1).val < 16 := (x 1).isLt; omega⟩)) -∗ WP d i (piece i buf off h) Q) := by
  unfold piece
  simp only [Prog.lift]
  iintro H Hk
  iapply load_holds $$ H
  iintro H
  iapply WP_ret
  have hv : (fun x => B ((Rect.unit (s := S128x128) off S1x16.size h).emb x))
      = fun x : S1x16.Idx => B (ix2 ⟨r, hr⟩ ⟨c + (x 1).val, by have : (x 1).val < 16 := (x 1).isLt; omega⟩) :=
    funext fun x => congrArg B (emb_row (C := 128) h ho hr x _)
  ihave Hk' := Hk $$ H
  ihave Hk := (Entails.of_eq (congrArg Q hv.symm)) $$ Hk'
  iexact Hk

theorem cast_in {α : Type} (v : S1x16.Idx → α) (x : S16.Idx) : shapeCast S16 v shapeCasts_S1x16_S16 x = v (ix2 0 (x 0)) := by
  rw [eq_ix1 x]
  exact shapeCast_1a_a_apply v _ _

theorem cast_out {α : Type} (v : S16.Idx → α) (x : S1x16.Idx) : shapeCast S1x16 v shapeCasts_S16_S1x16 x = v (ix1 (x 1)) := by
  rw [eq_ix2 x]
  exact shapeCast_a_1a_apply v _ _ _

theorem addfV_apply {s : Shape} (a b : FVec F s .f32) (x : s.Idx) : addf a b x = FloatOps.addf (a x) (b x) := rfl

theorem cast_at {α : Type} (v : S1x16.Idx → α) (l : Fin 16) : shapeCast S16 v shapeCasts_S1x16_S16 (ix1 l) = v (ix2 0 l) := cast_in v (ix1 l)

theorem cast_to {α : Type} (v : S16.Idx → α) (z : Fin 1) (l : Fin 16) : shapeCast S1x16 v shapeCasts_S16_S1x16 (ix2 z l) = v (ix1 l) := cast_out v (ix2 z l)

theorem rowVal_apply (v0 v1 v2 v3 v4 v5 v6 v7 a : Vec F S1x16 .f32) (z : Fin 1) (l : Fin 16) :
    rowVal v0 v1 v2 v3 v4 v5 v6 v7 a (ix2 z l) = FloatOps.addf (a (ix2 0 l)) (FloatOps.addf (FloatOps.addf (FloatOps.addf (FloatOps.addf (FloatOps.addf (FloatOps.addf (FloatOps.addf
      (v0 (ix2 0 l)) (v1 (ix2 0 l))) (v2 (ix2 0 l))) (v3 (ix2 0 l))) (v4 (ix2 0 l))) (v5 (ix2 0 l))) (v6 (ix2 0 l))) (v7 (ix2 0 l))) := by
  unfold rowVal
  rw [cast_to]
  simp only [addfV_apply, cast_at]

theorem rowStep_wp (r : Fin k1_t3_loop.trips) {Q : PUnit → sProp 𝕄} :
    iprop(Holds d i buf B ∗ Holds d i accB (rowTo r.val B A))
      ⊢ iprop(((Holds d i buf B ∗ Holds d i accB (rowTo (r.val + 1) B A)) -∗ Q ⟨⟩) -∗ WP d i (rowStep i buf r) Q) := by
  have hr : r.val < 128 := r.isLt
  unfold rowStep
  simp only [wp_bind]
  iintro ⟨HB, HA⟩ Hk
  iapply (piece_wp r.val 0 hr (by omega) _ (k1_off6_eq r)) $$ HB; iintro HB
  iapply (piece_wp r.val 16 hr (by omega) _ (k1_off7_eq r)) $$ HB; iintro HB
  iapply (piece_wp r.val 32 hr (by omega) _ (k1_off8_eq r)) $$ HB; iintro HB
  iapply (piece_wp r.val 48 hr (by omega) _ (k1_off9_eq r)) $$ HB; iintro HB
  iapply (piece_wp r.val 64 hr (by omega) _ (k1_off10_eq r)) $$ HB; iintro HB
  iapply (piece_wp r.val 80 hr (by omega) _ (k1_off11_eq r)) $$ HB; iintro HB
  iapply (piece_wp r.val 96 hr (by omega) _ (k1_off12_eq r)) $$ HB; iintro HB
  iapply (piece_wp r.val 112 hr (by omega) _ (k1_off13_eq r)) $$ HB; iintro HB
  simp only [Prog.lift, Prog.pure_eq_ret]
  iapply load_holds $$ HA; iintro HA
  iapply WP_ret
  iapply load_holds $$ HA; iintro HA
  iapply WP_ret
  iapply (store_holds (rowTo (r.val + 1) B A) ?hon ?hoff) $$ HA
  case hon =>
    intro x
    have hx : (x 1).val < 16 := (x 1).isLt
    rw [emb_row (C := 16) _ (k1_off14_eq r) hr x (by omega)]
    have hA : ∀ y : S1x16.Idx, rowTo r.val B A ((Rect.unit (s := S128x16) (k1_off14 r) S1x16.size (k1_off14_inb r)).emb y) = A (ix2 ⟨r.val, hr⟩ (y 1)) := by
      intro y
      have hy : (y 1).val < 16 := (y 1).isLt
      rw [emb_row (C := 16) _ (k1_off14_eq r) hr y (by omega)]
      refine (if_neg (show ¬ r.val < r.val by omega)).trans (congrArg A ?_)
      exact congrArg (ix2 (⟨r.val, hr⟩ : Fin 128)) (Fin.ext (Nat.zero_add _))
    refine Eq.trans ?_ ((congrArg _ (eq_ix2 x)).trans (rowVal_apply _ _ _ _ _ _ _ _ _ (x 0) (x 1))).symm
    refine (if_pos (show r.val < r.val + 1 by omega)).trans ?_
    refine congrArg₂ FloatOps.addf (Eq.trans ?_ (hA (ix2 0 (x 1))).symm) ?_
    · exact congrArg A (congrArg (ix2 (⟨r.val, hr⟩ : Fin 128)) (Fin.ext (Nat.zero_add _)))
    · show rowAt (fun c => B (ix2 ⟨r.val, hr⟩ c)) (⟨0 + (x 1).val, by omega⟩ : Fin 16) = rowAt (fun c => B (ix2 ⟨r.val, hr⟩ c)) (x 1)
      exact congrArg (rowAt _) (Fin.ext (Nat.zero_add _))
  case hoff =>
    intro y hy
    rw [mem_row (k1_off14_eq r)] at hy
    unfold rowTo
    by_cases h : (y 0).val < r.val
    · rw [if_pos h, if_pos (by omega)]
    · rw [if_neg h, if_neg (by omega)]
  iintro HA
  iapply WP_ret
  iapply WP_ret
  iapply Hk
  isplitl [HB]; · iexact HB
  iexact HA

/-- A chunk's row sums: every row's. -/
theorem rowSums_wp {Q : PUnit → sProp 𝕄} :
    iprop(Holds d i buf B ∗ Holds d i accB A)
      ⊢ iprop(((Holds d i buf B ∗ Holds d i accB (rowTo 128 B A)) -∗ Q ⟨⟩) -∗ WP d i (rowSums i buf) Q) := by
  unfold rowSums
  iintro ⟨HB, HA⟩ Hk
  iapply (Scf.wp_for _ _ _ _ _ _ _ _ _ (fun n (_ : PUnit) => (iprop(Holds d i buf B ∗ Holds d i accB (rowTo n B A)) : sProp 𝕄)) ?body)
  case body =>
    intro r acc
    iintro H
    iapply (rowStep_wp r) $$ H
    iintro H
    iexact H
  rw [rowTo_zero]
  isplitl [HB HA]
  · isplitl [HB]; · iexact HB
    iexact HA
  iintro %acc H
  iapply Hk
  iexact H

end Rows

end Cert.KernelIdeal.Sparse

end
-- ==== Proof.TileFinish.lean ====
/-
  The end of a tile's task, from the running sums, the targets and the picked entries to the sixteen results.
-/
module

public import proofs.«01_k».proof.Proof.TileSteps

@[expose] public section

noncomputable section

namespace Cert.KernelIdeal.Sparse

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F] [Named F]
variable {U : Type} [URA U]

local notation "𝕄" => MT nD τ sig (HIx 1) (Elt F) ℕ U ℕ

variable {d : Dev nD} {i : grid1.Coords} {T : S128.Idx → BitVec 32} {A : S128x16.Idx → F .f32} {P : S128.Idx → F .f32}

/-- Column `c` of the running sums of the sixteen rows from `o`. -/
def colV (A : S128x16.Idx → F .f32) (o : ℕ) (ho : o + 16 ≤ 128) (c : Fin 16) : FVec F S16 .f32 :=
  fun l => A (ix2 ⟨o + (l 0).val, by have h : (l 0).val < 16 := (l 0).isLt; omega⟩ c)

theorem chk_col {o : ℕ} (ho : o + 16 ≤ 128) {c : ℕ} (hc : c < 16) : k1_chk33 (rowsFrom (BitVec.ofNat 32 o)) (broadcast S16 (BitVec.ofNat 32 c)) := by
  intro a x
  match a with
  | ⟨0, _⟩ =>
    show (rowsFrom (BitVec.ofNat 32 o) x).toNat < 128
    rw [rowsFrom_toNat ho]
    have hx : (x 0).val < 16 := (x 0).isLt
    omega
  | ⟨1, _⟩ =>
    show (BitVec.ofNat 32 c).toNat < 16
    rw [BitVec.toNat_ofNat]
    omega

theorem WP_bind_pure {α : Type} {p : TileProg (F := F) i α} {Q : α → sProp 𝕄} : WP d i (p >>= fun a => .ret a) Q ⊢ WP d i p Q := by
  have h : (p >>= fun a => .ret a) = p := bind_pure p
  rw [h]

/-- One gathered column. -/
theorem accCol_wp {o : ℕ} (ho : o + 16 ≤ 128) {c : ℕ} (hc : c < 16) {Q : FVec F S16 .f32 → sProp 𝕄} :
    Holds d i accB A ⊢ iprop((Holds d i accB A -∗ Q (colV A o ho ⟨c, hc⟩))
      -∗ WP d i (accCol i (rowsFrom (BitVec.ofNat 32 o)) (broadcast S16 (BitVec.ofNat 32 c))) Q) := by
  unfold accCol
  simp only [Prog.lift, Prog.bind_op, Prog.bind_ret, Prog.pure_eq_ret]
  iintro H Hk
  iapply (WP_assume (chk_col ho hc))
  iapply WP_bind_pure
  iapply gather_holds $$ H
  iintro H
  iapply WP_ret
  ihave Hk' := Hk $$ H
  iapply (post_congr ?hpost) $$ Hk'
  case hpost =>
    funext x
    refine congrArg A (funext fun a => Fin.ext ?_)
    match a with
    | ⟨0, _⟩ => exact rowsFrom_toNat ho x
    | ⟨1, _⟩ =>
      show (BitVec.ofNat 32 c).toNat = c
      rw [BitVec.toNat_ofNat]
      omega

/-- The first three columns; -/
theorem finHead_wp {o : ℕ} (ho : o + 16 ≤ 128) {Q : FVec F S16 .f32 → sProp 𝕄} :
    Holds d i accB A ⊢ iprop((Holds d i accB A -∗ Q (addf (addf (colV A o ho 0) (colV A o ho 1)) (colV A o ho 2)))
      -∗ WP d i (finHead i (rowsFrom (BitVec.ofNat 32 o))) Q) := by
  unfold finHead
  simp only [wp_bind, wp_pure]
  iintro H Hk
  iapply (accCol_wp ho (c := 0) (by omega)) $$ H; iintro H
  iapply (accCol_wp ho (c := 1) (by omega)) $$ H; iintro H
  iapply (accCol_wp ho (c := 2) (by omega)) $$ H; iintro H
  imodintro
  ihave Hk' := Hk $$ H
  iapply (post_congr ?hpost) $$ Hk'
  case hpost => rfl

/-- The sums of sixteen rows. -/
def sumV (A : S128x16.Idx → F .f32) (o : ℕ) (ho : o + 16 ≤ 128) : FVec F S16 .f32 :=
  fun l => accSum fun c => colV A o ho c l

/-- and all sixteen. -/
theorem finTail_wp {o : ℕ} (ho : o + 16 ≤ 128) {Q : FVec F S16 .f32 → sProp 𝕄} :
    Holds d i accB A ⊢ iprop((Holds d i accB A -∗ Q (sumV A o ho))
      -∗ WP d i (finTail i (rowsFrom (BitVec.ofNat 32 o)) (broadcast S16 3#32) (addf (addf (colV A o ho 0) (colV A o ho 1)) (colV A o ho 2))) Q) := by
  unfold finTail
  simp only [wp_bind, wp_pure]
  iintro H Hk
  iapply (accCol_wp ho (c := 3) (by omega)) $$ H; iintro H
  iapply (accCol_wp ho (c := 4) (by omega)) $$ H; iintro H
  iapply (accCol_wp ho (c := 5) (by omega)) $$ H; iintro H
  iapply (accCol_wp ho (c := 6) (by omega)) $$ H; iintro H
  iapply (accCol_wp ho (c := 7) (by omega)) $$ H; iintro H
  iapply (accCol_wp ho (c := 8) (by omega)) $$ H; iintro H
  iapply (accCol_wp ho (c := 9) (by omega)) $$ H; iintro H
  iapply (accCol_wp ho (c := 10) (by omega)) $$ H; iintro H
  iapply (accCol_wp ho (c := 11) (by omega)) $$ H; iintro H
  iapply (accCol_wp ho (c := 12) (by omega)) $$ H; iintro H
  iapply (accCol_wp ho (c := 13) (by omega)) $$ H; iintro H
  iapply (accCol_wp ho (c := 14) (by omega)) $$ H; iintro H
  iapply (accCol_wp ho (c := 15) (by omega)) $$ H; iintro H
  imodintro
  ihave Hk' := Hk $$ H
  iapply (post_congr ?hpost) $$ Hk'
  case hpost => rfl

/-- What the earlier rows gave, plus the contributions of the sixteen rows from `o`. -/
def addLanes (o : ℕ) (ho : o + 16 ≤ 128) (A : S128x16.Idx → F .f32) (T : S128.Idx → BitVec 32) (P : S128.Idx → F .f32) (acc : FVec F S16 .f32) : FVec F S16 .f32 :=
  fun l => FloatOps.addf (acc l) (lanes o ho A T P l)

theorem finAdd_wp (o : ℕ) (ho : ∀ a, (![o] : Fin 1 → Nat) a + S16.size a ≤ S128.size a) (hb : o + 16 ≤ 128) (acc : FVec F S16 .f32) {Q : FVec F S16 .f32 → sProp 𝕄} :
    iprop(Holds (F := F) d i tBuf T ∗ Holds d i pickB P)
      ⊢ iprop(((Holds (F := F) d i tBuf T ∗ Holds d i pickB P) -∗ Q (addLanes o hb A T P acc))
        -∗ WP d i (finAdd i o ho (sumV A o hb) acc) Q) := by
  unfold finAdd
  simp only [Prog.lift, Prog.bind_op, Prog.bind_ret, Prog.pure_eq_ret]
  iintro ⟨HT, HP⟩ Hk
  iapply load_holds $$ HT; iintro HT
  iapply load_holds $$ HP; iintro HP
  iapply WP_ret
  ihave Hk' := Hk $$ [HT HP]
  · isplitl [HT]; · iexact HT
    iexact HP
  iapply (post_congr ?hpost) $$ Hk'
  case hpost =>
    funext l
    have hl : (l 0).val < 16 := (l 0).isLt
    have he := emb_16 ho l (by omega)
    show FloatOps.addf (acc l) (contribAt (T ((Rect.unit (s := S128) ![o] S16.size ho).emb l)) (sumV A o hb l)
      (P ((Rect.unit (s := S128) ![o] S16.size ho).emb l))) = _
    rw [he]
    rfl

theorem finGroup_wp (o : ℕ) (ho : ∀ a, (![o] : Fin 1 → Nat) a + S16.size a ≤ S128.size a) (hb : o + 16 ≤ 128) (acc : FVec F S16 .f32) {Q : FVec F S16 .f32 → sProp 𝕄} :
    iprop(Holds d i accB A ∗ Holds (F := F) d i tBuf T ∗ Holds d i pickB P)
      ⊢ iprop(((Holds d i accB A ∗ Holds (F := F) d i tBuf T ∗ Holds d i pickB P) -∗ Q (addLanes o hb A T P acc))
        -∗ WP d i (finGroup i o ho acc) Q) := by
  unfold finGroup
  simp only [wp_bind]
  iintro ⟨HA, H⟩ Hk
  iapply (finHead_wp hb) $$ HA; iintro HA
  iapply (finTail_wp hb) $$ HA; iintro HA
  iapply (finAdd_wp o ho hb acc) $$ H; iintro H
  iapply Hk
  isplitl [HA]; · iexact HA
  iexact H

/-- The rows after the first sixteen: the results. -/
theorem finRest_wp {Q : FVec F S16 .f32 → sProp 𝕄} :
    iprop(Holds d i accB A ∗ Holds (F := F) d i tBuf T ∗ Holds d i pickB P)
      ⊢ iprop(((Holds d i accB A ∗ Holds (F := F) d i tBuf T ∗ Holds d i pickB P) -∗ Q (outVal A T P))
        -∗ WP d i (finRest i (addLanes 0 (by omega) A T P zero16)) Q) := by
  unfold finRest
  simp only [wp_bind]
  iintro H Hk
  iapply (finGroup_wp 16 _ (by omega)) $$ H; iintro H
  iapply (finGroup_wp 32 _ (by omega)) $$ H; iintro H
  iapply (finGroup_wp 48 _ (by omega)) $$ H; iintro H
  iapply (finGroup_wp 64 _ (by omega)) $$ H; iintro H
  iapply (finGroup_wp 80 _ (by omega)) $$ H; iintro H
  iapply (finGroup_wp 96 _ (by omega)) $$ H; iintro H
  iapply (finGroup_wp 112 _ (by omega)) $$ H; iintro H
  ihave Hk' := Hk $$ H
  iapply (post_congr ?hpost) $$ Hk'
  case hpost => rfl

end Cert.KernelIdeal.Sparse

end
-- ==== Proof.TileCopies.lean ====
/-
  A tile's copies: the chunks of `x` and the targets it fetches, and the row of results it writes.
-/
module

public import proofs.«01_k».proof.Proof.TileFinish
public import Idealize.ShloMosaic.Lib.SparseCore.FromWhole

@[expose] public section

noncomputable section

namespace Cert.KernelIdeal.Sparse

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Transfers (Flight)

variable {F : FTy → Type} [FloatOps F] [Named F]
variable {U : Type} [URA U] [CountersIn U]

local notation "𝕄" => MT nD τ sig (HIx 1) (Elt F) ℕ U ℕ

/-- The launch, as the library sees it. -/
abbrev ΛP : Labels := Pipeline.Sig Λ₀ (Fin 2) fun p => (pcfgs (F := F) p).Adm
abbrev K : SparseCore.Cfg τ sig (ΛP (F := F)) 1 := sc (F := F)

section
variable (d : Dev nD) (i : grid1.Coords)

/-- What the thread still owes, and the waits it has made: `W`, and waits of its own. -/
def Owing (O : CellTallies nD τ sig (HIx 1)) (W : Waits sig (HIx 1)) : sProp 𝕄 :=
  iprop(∃ W', ⌜∀ p ∈ W', p ∈ W ∨ p.2 = none⌝ ∗ owes (thr d i) O W')

/-- A copy on its way into `dst`: at its wait it delivers `dst` at `B`, and its source whole. -/
def Coming {s : Shape} {e : EltTy} (dst : Memref sig .scVector .vmem s e) (sem : DmaSem sig) (ℓ : Loc nD τ sig) (q : PosShare TreeShare)
    (X : Buf (Elt F) ℓ) (B : s.Idx → Elt F e) : sProp 𝕄 :=
  Flight countersEmb (thr d i) (.dma sem) none dst.view.dmaCredit iprop(Holds d i dst B ∗ ℓ ↦{q} X)
end

variable {d : Dev nD} {i : grid1.Coords} {s : Shape} {e : EltTy} {O : CellTallies nD τ sig (HIx 1)} {W : Waits sig (HIx 1)}

/-- Starting a fetch. -/
theorem fetch_wp {src : Memref sig .scVector .hbm s e} {dst : Memref sig .scVector .vmem s e} {sem : DmaSem sig} {q : PosShare TreeShare}
    {X : Buf (Elt F) (src.view.loc (thr d i))} {B B₀ : s.Idx → Elt F e} {hs : src.view.WordExact} {hd : dst.view.WordExact}
    {ht : DmaTarget.Typed (nD := nD) .hbm (.dma sem) (DmaTarget.here (p := (thr d i).2) dst)} {α : Type} {Q : α → sProp 𝕄} {k : PUnit → TileProg (F := F) i α}
    (hpos : 0 < dst.view.dmaCredit) (hB : src.view.read (Elt F) X = B) :
    iprop((src.view.loc (thr d i) ↦{q} X) ∗ Holds d i dst B₀ ∗ semVal (thr d i, .dma sem) 0)
      ⊢ iprop((Coming (U := U) d i dst sem (src.view.loc (thr d i)) q X B -∗ WP d i (k ⟨⟩) Q)
        -∗ WP d i (.op (.enqueueDma src (.here dst) (.dma sem) hs hd ht) k) Q) := by
  unfold Holds
  iintro ⟨Hx, ⟨%f, -, Hd⟩, Hv⟩ Hk
  iapply (Transfers.wp_dmaFromWhole countersEmb 𝒱₀ (thr d i) none none dst.view.dmaCredit rfl hpos (Finset.subset_univ _)) $$ [Hx Hd Hv]
  · isplitl [Hx]; · iexact Hx
    isplitl [Hd]; · iexact Hd
    iexact Hv
  iintro Hf
  iapply Hk
  unfold Coming
  iapply (Transfers.Flight_mono countersEmb (thr d i) ?hm) $$ Hf
  case hm =>
    unfold Holds
    iintro ⟨Hd, Hx⟩
    isplitl [Hd]
    · iexists (dst.view.write (Elt F) f (ReadAs.same.apply (src.view.read (Elt F) X)) Finset.univ)
      isplitr [Hd]
      · ipureintro
        exact (View.read_write_univ _ _).trans hB
      · iexact Hd
    · iexact Hx

/-- Waiting for it. -/
theorem await_wp {srcw : Memref sig .scVector .hbm s e} {dst : Memref sig .scVector .vmem s e} {sem : DmaSem sig} {ℓ : Loc nD τ sig} {q : PosShare TreeShare}
    {X : Buf (Elt F) ℓ} {B : s.Idx → Elt F e} {hs : srcw.view.WordExact} {hd : dst.view.WordExact} {α : Type} {Q : α → sProp 𝕄} {k : PUnit → TileProg (F := F) i α}
    (hO : ∀ g, O g none = 0) :
    iprop(levAts (K (F := F)).L (K (F := F)).lev ∗ Coming (U := U) d i dst sem ℓ q X B ∗ Owing d i O W)
      ⊢ iprop(((Holds d i dst B ∗ (ℓ ↦{q} X) ∗ semVal (thr d i, .dma sem) 0 ∗ Owing d i O W) -∗ WP d i (k ⟨⟩) Q)
        -∗ WP d i (.op (.waitDma2 sem srcw dst hs hd) k) Q) := by
  unfold Coming Owing
  iintro ⟨#Hlv, Hf, ⟨%W', %hW, HO⟩⟩ Hk
  iapply (Transfers.wp_waitLocalO countersEmb 𝒱₀ (thr d i) none none rfl (O := O) (W := W')) $$ [Hf HO]
  · isplitl [Hf]; · iexact Hf
    isplitl [HO]; · iexact HO
    iapply ((K (F := F)).mayWait_none (SemLoc.dma sem) hO)
    iexact Hlv
  iintro ⟨⟨Hd, Hx⟩, Hv, HO⟩
  iapply Hk
  isplitl [Hd]; · iexact Hd
  isplitl [Hx]; · iexact Hx
  isplitl [Hv]; · iexact Hv
  iexists (insert (SemLoc.dma sem, none) W')
  isplitr [HO]
  · ipureintro
    intro p hp
    rcases Finset.mem_insert.mp hp with rfl | hp
    · exact .inr rfl
    · exact hW p hp
  · iexact HO

end Cert.KernelIdeal.Sparse

end
-- ==== Proof.TileBody.lean ====
/-
  Where a tile's chunks lie, and each of its fetches, waits and its write-out.
-/
module

public import proofs.«01_k».proof.Proof.TileCopies

@[expose] public section

noncomputable section

namespace Cert.KernelIdeal.Sparse

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Transfers (Flight)

variable {F : FTy → Type} [FloatOps F] [Named F]
variable {U : Type} [URA U] [CountersIn U]

local notation "𝕄" => MT nD τ sig (HIx 1) (Elt F) ℕ U ℕ

/-- The number of the tile. -/
def tileNo (i : grid1.Coords) : ℕ := 2 * (i 1).val + (i 0).val

theorem tileNo_lt (i : grid1.Coords) : tileNo i < 32 := by
  have h0 : (i 0).val < 2 := (i 0).isLt
  have h1 : (i 1).val < 16 := (i 1).isLt
  unfold tileNo
  omega

section
variable (d : Dev nD) (i : grid1.Coords)
/-- Where `x`, the targets and the partial sums lie. -/
abbrev xAt : Loc nD τ sig := xArr.view.loc (thr d i)
abbrev tAt : Loc nD τ sig := tArr.view.loc (thr d i)
abbrev oAt : Loc nD τ sig := (oRow i).view.loc (thr d i)
/-- The copy semaphore `sem` of the tile, at rest. -/
abbrev Rest (sem : DmaSem sig) : sProp 𝕄 := semVal (thr d i, .dma sem) 0
end

/-- What a fetched block reads. -/
theorem read_xBlk {off : Fin 2 → Nat} (h : ∀ a, off a + S128x128.size a ≤ S4096x32000.size a) (X : S4096x32000.Idx → F .f32) {w j : ℕ}
    (ho : off = ![128 * w, 30720 + 128 * j]) (hw : w < 32) (hj : j < 10) : (xBlk off h).view.read (Elt F) X = blk X w j := by
  subst ho
  funext y
  have h0 : (y 0).val < 128 := (y 0).isLt
  have h1 : (y 1).val < 128 := (y 1).isLt
  show X ((Rect.unit (s := S4096x32000) ![128 * w, 30720 + 128 * j] S128x128.size h).emb y) = _
  unfold blk
  refine congrArg X (funext fun a => Fin.ext ?_)
  match a with
  | ⟨0, _⟩ =>
    show 128 * w + 1 * (y 0).val = (128 * w + (y 0).val) % 4096
    rw [Nat.mod_eq_of_lt (by omega)]; omega
  | ⟨1, _⟩ =>
    show 30720 + 128 * j + 1 * (y 1).val = (30720 + 128 * j + (y 1).val) % 32000
    rw [Nat.mod_eq_of_lt (by omega)]; omega

theorem read_tBlk (i : grid1.Coords) (T : S4096.Idx → BitVec 32) : (tBlk i).view.read (Elt F) T = tgt T (tileNo i) := by
  have hw := tileNo_lt i
  have ho : k1_off1 i = ![128 * tileNo i] := by
    rw [k1_off1_eq]
    unfold tileNo
    congr 1
    omega
  have key : ∀ (off : Fin 1 → Nat) (h : ∀ a, off a + S128.size a ≤ S4096.size a), off = ![128 * tileNo i] →
      ((tArr.slice (Rect.unit (s := S4096) off S128.size h) (fun _ => rfl) : Memref sig .scVector .hbm S128 .i32).view.read (Elt F) T) = tgt T (tileNo i) := by
    intro off h ho
    subst ho
    funext y
    have h0 : (y 0).val < 128 := (y 0).isLt
    show T ((Rect.unit (s := S4096) ![128 * tileNo i] S128.size h).emb y) = _
    unfold tgt
    refine congrArg T (funext fun a => Fin.ext ?_)
    match a with
    | ⟨0, _⟩ =>
      show 128 * tileNo i + 1 * (y 0).val = (128 * tileNo i + (y 0).val) % 4096
      rw [Nat.mod_eq_of_lt (by omega)]; omega
  exact key _ _ ho

/-- The chunks' offsets. -/
theorem off_pair (i : grid1.Coords) (c j : ℕ) (hc : c = 30720 + 128 * j) :
    (![256 * (i 1).val + 128 * (i 0).val, c] : Fin 2 → Nat) = ![128 * tileNo i, 30720 + 128 * j] := by
  subst hc
  unfold tileNo
  congr 1
  omega

variable {d : Dev nD} {i : grid1.Coords}
variable {O : CellTallies nD τ sig (HIx 1)} {W : Waits sig (HIx 1)}

theorem fetchA_wp {off : Fin 2 → Nat} (h : ∀ a, off a + S128x128.size a ≤ S4096x32000.size a) {q : PosShare TreeShare} {X : S4096x32000.Idx → F .f32}
    {B₀ : S128x128.Idx → F .f32} {j : ℕ} (ho : off = ![128 * tileNo i, 30720 + 128 * j]) (hj : j < 10) {Q : PUnit → sProp 𝕄} :
    iprop((xAt d i ↦{q} X) ∗ Holds d i bufA B₀ ∗ Rest d i semA)
      ⊢ iprop((Coming (U := U) d i bufA semA (xAt d i) q X (blk X (tileNo i) j) -∗ Q ⟨⟩) -∗ WP d i (fetchA i off h) Q) := by
  unfold fetchA
  simp only [Prog.lift]
  iintro H Hk
  iapply (fetch_wp (src := xBlk off h) (X := X) (View.dmaCredit_pos _ (by decide)) (read_xBlk h X ho (tileNo_lt i) hj)) $$ H
  iintro H
  iapply WP_ret
  iapply Hk
  iexact H

theorem fetchB_wp {off : Fin 2 → Nat} (h : ∀ a, off a + S128x128.size a ≤ S4096x32000.size a) {q : PosShare TreeShare} {X : S4096x32000.Idx → F .f32}
    {B₀ : S128x128.Idx → F .f32} {j : ℕ} (ho : off = ![128 * tileNo i, 30720 + 128 * j]) (hj : j < 10) {Q : PUnit → sProp 𝕄} :
    iprop((xAt d i ↦{q} X) ∗ Holds d i bufB B₀ ∗ Rest d i semB)
      ⊢ iprop((Coming (U := U) d i bufB semB (xAt d i) q X (blk X (tileNo i) j) -∗ Q ⟨⟩) -∗ WP d i (fetchB i off h) Q) := by
  unfold fetchB
  simp only [Prog.lift]
  iintro H Hk
  iapply (fetch_wp (src := xBlk off h) (X := X) (View.dmaCredit_pos _ (by decide)) (read_xBlk h X ho (tileNo_lt i) hj)) $$ H
  iintro H
  iapply WP_ret
  iapply Hk
  iexact H

theorem awaitA_wp (hO : ∀ g, O g none = 0) {off : Fin 2 → Nat} (h : ∀ a, off a + S128x128.size a ≤ S4096x32000.size a) {ℓ : Loc nD τ sig} {q : PosShare TreeShare}
    {X : Buf (Elt F) ℓ} {B : S128x128.Idx → F .f32} {Q : PUnit → sProp 𝕄} :
    iprop(levAts (K (F := F)).L (K (F := F)).lev ∗ Coming (U := U) d i bufA semA ℓ q X B ∗ Owing d i O W)
      ⊢ iprop(((Holds d i bufA B ∗ (ℓ ↦{q} X) ∗ Rest d i semA ∗ Owing d i O W) -∗ Q ⟨⟩) -∗ WP d i (awaitA i off h) Q) := by
  unfold awaitA
  simp only [Prog.lift]
  iintro H Hk
  iapply (await_wp hO) $$ H
  iintro H
  iapply WP_ret
  iapply Hk
  iexact H

theorem awaitB_wp (hO : ∀ g, O g none = 0) {off : Fin 2 → Nat} (h : ∀ a, off a + S128x128.size a ≤ S4096x32000.size a) {ℓ : Loc nD τ sig} {q : PosShare TreeShare}
    {X : Buf (Elt F) ℓ} {B : S128x128.Idx → F .f32} {Q : PUnit → sProp 𝕄} :
    iprop(levAts (K (F := F)).L (K (F := F)).lev ∗ Coming (U := U) d i bufB semB ℓ q X B ∗ Owing d i O W)
      ⊢ iprop(((Holds d i bufB B ∗ (ℓ ↦{q} X) ∗ Rest d i semB ∗ Owing d i O W) -∗ Q ⟨⟩) -∗ WP d i (awaitB i off h) Q) := by
  unfold awaitB
  simp only [Prog.lift]
  iintro H Hk
  iapply (await_wp hO) $$ H
  iintro H
  iapply WP_ret
  iapply Hk
  iexact H

/-- The targets are fetched. -/
theorem fetchT_wp (hO : ∀ g, O g none = 0) {q : PosShare TreeShare} {T : S4096.Idx → BitVec 32} {T₀ : S128.Idx → BitVec 32} {Q : PUnit → sProp 𝕄} :
    iprop(levAts (K (F := F)).L (K (F := F)).lev ∗ ((tAt d i ↦{q} T) ∗ Holds (F := F) d i tBuf T₀ ∗ Rest d i cc1_scratch6.sem) ∗ Owing d i O W)
      ⊢ iprop(((Holds (F := F) d i tBuf (tgt T (tileNo i)) ∗ (tAt d i ↦{q} T) ∗ Rest d i cc1_scratch6.sem ∗ Owing d i O W) -∗ Q ⟨⟩) -∗ WP d i (fetchT i) Q) := by
  unfold fetchT
  simp only [Prog.lift, Prog.bind_op, Prog.bind_ret]
  iintro ⟨#Hlv, H, HO⟩ Hk
  iapply (fetch_wp (src := tBlk i) (X := T) (View.dmaCredit_pos _ (by decide)) (read_tBlk i T)) $$ H
  iintro H
  iapply (await_wp hO) $$ [H HO]
  · isplitr; · iexact Hlv
    isplitl [H]; · iexact H
    iexact HO
  iintro H
  iapply WP_ret
  iapply Hk
  iexact H

/-- The results are stored and copied out. -/
theorem writeOut_wp (hO : ∀ g, O g none = 0) {v R₀ : S16.Idx → F .f32} {f₀ : Buf (Elt F) (oAt d i)} {Q : PUnit → sProp 𝕄} :
    iprop(levAts (K (F := F)).L (K (F := F)).lev ∗ Holds d i resB R₀ ∗ (oAt d i ↦[(oRow i).view.set]{fullShare} f₀) ∗ Rest d i cc1_scoped0.sem ∗ Owing d i O W)
      ⊢ iprop(((Holds d i resB v ∗ (∃ f, ⌜(oRow i).view.read (Elt F) f = v⌝ ∗ oAt d i ↦[(oRow i).view.set]{fullShare} f) ∗ Rest d i cc1_scoped0.sem ∗ Owing d i O W)
          -∗ Q ⟨⟩) -∗ WP d i (writeOut i v) Q) := by
  unfold writeOut
  simp only [Prog.lift, Prog.bind_op, Prog.bind_ret, Prog.pure_eq_ret]
  iintro ⟨#Hlv, HR, Ho, Hv, HO⟩ Hk
  iapply load_holds $$ HR
  iintro HR
  iapply (store_holds v ?hon ?hoff) $$ HR
  case hon =>
    intro x
    refine congrArg v (funext fun a => Fin.ext ?_)
    match a with
    | ⟨0, _⟩ =>
      show 0 + 1 * (x 0).val = (x 0).val
      omega
  case hoff =>
    intro y hy
    refine absurd ?_ hy
    rw [Rect.mem_set_unit]
    intro a
    match a with
    | ⟨0, _⟩ => exact ⟨Nat.zero_le _, by show (y 0).val < 0 + 16; have h : (y 0).val < 16 := (y 0).isLt; omega⟩
  unfold Holds Owing
  iintro ⟨%f, %hf, HR⟩
  icases HO with ⟨%W', %hW, HO⟩
  iapply (Transfers.wp_dmaFromWhole countersEmb 𝒱₀ (thr d i) none none (oRow i).view.dmaCredit rfl (View.dmaCredit_pos _ (by decide)) subset_rfl) $$ [HR Ho Hv]
  · isplitl [HR]; · iexact HR
    isplitl [Ho]; · iexact Ho
    iexact Hv
  iintro Hf
  iapply (Transfers.wp_waitLocalO countersEmb 𝒱₀ (thr d i) none none rfl (O := O) (W := W')) $$ [Hf HO]
  · isplitl [Hf]; · iexact Hf
    isplitl [HO]; · iexact HO
    iapply ((K (F := F)).mayWait_none (SemLoc.dma cc1_scoped0.sem) hO)
    iexact Hlv
  iintro ⟨⟨Ho, HR⟩, Hv, HO⟩
  iapply WP_ret
  iapply Hk
  isplitl [HR]
  · iexists f
    isplitr; · ipureintro; exact hf
    iexact HR
  isplitl [Ho]
  · iexists ((oRow i).view.write (Elt F) f₀ (ReadAs.same.apply (resB.view.read (Elt F) f)) Finset.univ)
    isplitr
    · ipureintro
      exact (View.read_write_univ _ _).trans hf
    iexact Ho
  isplitl [Hv]; · iexact Hv
  iexists (insert (SemLoc.dma cc1_scoped0.sem, none) W')
  isplitr
  · ipureintro
    intro p hp
    rcases Finset.mem_insert.mp hp with rfl | hp
    · exact .inr rfl
    · exact hW p hp
  iexact HO

end Cert.KernelIdeal.Sparse

end
-- ==== Proof.TileMain.lean ====
/-
  A tile's task from start to end: its row of the partial sums ends at `tileOut` of the tile.
-/
module

public import proofs.«01_k».proof.Proof.TileBody

@[expose] public section

noncomputable section

namespace Cert.KernelIdeal.Sparse

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Transfers (Flight)

variable {F : FTy → Type} [FloatOps F] [Named F]
variable {U : Type} [URA U] [CountersIn U]

local notation "𝕄" => MT nD τ sig (HIx 1) (Elt F) ℕ U ℕ

theorem lo_first : ∀ k : Fin k1_t2_loop.trips, chunkLo (chunkNo k) = loW (2 * k.val) := by decide +kernel
theorem lo_second : ∀ k : Fin k1_t2_loop.trips, chunkLo (Scalar.addi (chunkNo k) 1#32) = loW (2 * k.val + 1) := by decide +kernel
theorem lo_8 : (31744#32 : BitVec 32) = loW 8 := by decide +kernel
theorem lo_9 : (31872#32 : BitVec 32) = loW 9 := by decide +kernel

variable {d : Dev nD} {i : grid1.Coords} {X : S4096x32000.Idx → F .f32} {T : S4096.Idx → BitVec 32} {qa qb : PosShare TreeShare}
variable {O : CellTallies nD τ sig (HIx 1)} {W : Waits sig (HIx 1)}

section
variable (d i X T qa qb O W)
/-- After `n` trips: `2 n` chunks taken in, the next two on their way. -/
def Between (n : ℕ) : sProp 𝕄 :=
  iprop(levAts (K (F := F)).L (K (F := F)).lev ∗ Holds (F := F) d i tBuf (tgt T (tileNo i)) ∗ Holds d i accB (accN X (tileNo i) (2 * n))
    ∗ Holds d i pickB (pickN X T (tileNo i) (2 * n)) ∗ Coming (U := U) d i bufA semA (xAt d i) qa X (blk X (tileNo i) (2 * n))
    ∗ Coming (U := U) d i bufB semB (xAt d i) qb X (blk X (tileNo i) (2 * n + 1)) ∗ Owing d i O W)
end

theorem sumFetchA_wp (k : Fin k1_t2_loop.trips) {B : S128x128.Idx → F .f32} {A : S128x16.Idx → F .f32} {Q : BitVec 32 → sProp 𝕄} :
    iprop(Holds d i bufA B ∗ Holds d i accB A ∗ (xAt d i ↦{qa} X) ∗ Rest d i semA)
      ⊢ iprop(((Holds d i accB (rowTo 128 B A) ∗ Coming (U := U) d i bufA semA (xAt d i) qa X (blk X (tileNo i) (2 * (k.val + 1))))
        -∗ Q (Scalar.addi (chunkNo k) 1#32)) -∗ WP d i (sumFetchA i k) Q) := by
  have hk : k.val < 4 := k.isLt
  unfold sumFetchA
  simp only [wp_bind, wp_pure]
  iintro ⟨HB, HA, Hx, Hv⟩ Hk
  iapply rowSums_wp $$ [HB HA]
  · isplitl [HB]; · iexact HB
    iexact HA
  iintro ⟨HB, HA⟩
  iapply (fetchA_wp (k1_off15_inb i k) (j := 2 * (k.val + 1)) ((k1_off15_eq i k).trans (off_pair i _ _ (by omega))) (by omega)) $$ [HB Hx Hv]
  · isplitl [Hx]; · iexact Hx
    isplitl [HB]; · iexact HB
    iexact Hv
  iintro Hf
  imodintro
  iapply Hk
  isplitl [HA]; · iexact HA
  iexact Hf

/-- One trip. -/
theorem steady_wp (hO : ∀ g, O g none = 0) (k : Fin k1_t2_loop.trips) {Q : PUnit → sProp 𝕄} :
    Between (U := U) d i X T qa qb O W k.val
      ⊢ iprop((Between (U := U) d i X T qa qb O W (k.val + 1) -∗ Q ⟨⟩) -∗ WP d i (steady i k) Q) := by
  have hk : k.val < 4 := k.isLt
  unfold steady
  simp only [wp_bind, wp_pure]
  unfold Between
  iintro ⟨#Hlv, HT, HA, HP, Ha, Hb, HO⟩ Hk
  iapply (awaitA_wp hO (k1_off5_inb i)) $$ [Ha HO]
  · isplitr; · iexact Hlv
    isplitl [Ha]; · iexact Ha
    iexact HO
  iintro ⟨Ha, Hx, Hv, HO⟩
  iapply pickGroups_wp $$ [HT Ha HP]
  · isplitl [HT]; · iexact HT
    isplitl [Ha]; · iexact Ha
    iexact HP
  iintro ⟨HT, Ha, HP⟩
  iapply (sumFetchA_wp k) $$ [Ha HA Hx Hv]
  · isplitl [Ha]; · iexact Ha
    isplitl [HA]; · iexact HA
    isplitl [Hx]; · iexact Hx
    iexact Hv
  iintro ⟨HA, Ha⟩
  iapply (awaitB_wp hO (k1_off16_inb i)) $$ [Hb HO]
  · isplitr; · iexact Hlv
    isplitl [Hb]; · iexact Hb
    iexact HO
  iintro ⟨Hb, Hx, Hv, HO⟩
  iapply pickGroups_wp $$ [HT Hb HP]
  · isplitl [HT]; · iexact HT
    isplitl [Hb]; · iexact Hb
    iexact HP
  iintro ⟨HT, Hb, HP⟩
  iapply rowSums_wp $$ [Hb HA]
  · isplitl [Hb]; · iexact Hb
    iexact HA
  iintro ⟨Hb, HA⟩
  iapply (fetchB_wp (k1_off26_inb i k) (j := 2 * (k.val + 1) + 1) ((k1_off26_eq i k).trans (off_pair i _ _ (by omega))) (by omega)) $$ [Hb Hx Hv]
  · isplitl [Hx]; · iexact Hx
    isplitl [Hb]; · iexact Hb
    iexact Hv
  iintro Hb
  imodintro
  iapply Hk
  rw [lo_first, lo_second]
  isplitr; · iexact Hlv
  isplitl [HT]; · iexact HT
  isplitl [HA]; · iexact HA
  isplitl [HP]; · iexact HP
  isplitl [Ha]; · iexact Ha
  isplitl [Hb]; · iexact Hb
  iexact HO

/-- The first eight chunks, and the first sixteen rows of the ninth. -/
theorem mainPart_wp (hO : ∀ g, O g none = 0) {A₀ B₀ : S128x128.Idx → F .f32} {Q : FVec F S16 .f32 → sProp 𝕄} :
    iprop(levAts (K (F := F)).L (K (F := F)).lev ∗ Holds (F := F) d i tBuf (tgt T (tileNo i)) ∗ Holds d i accB (fun _ => (zeroF : F .f32))
      ∗ Holds d i pickB (fun _ => (zeroF : F .f32)) ∗ ((xAt d i ↦{qa} X) ∗ Holds d i bufA A₀ ∗ Rest d i semA)
      ∗ ((xAt d i ↦{qb} X) ∗ Holds d i bufB B₀ ∗ Rest d i semB) ∗ Owing d i O W)
      ⊢ iprop(((Holds (F := F) d i tBuf (tgt T (tileNo i)) ∗ Holds d i accB (accN X (tileNo i) 8)
          ∗ Holds d i pickB (pickTo 0 (loW 8) (tgt T (tileNo i)) (blk X (tileNo i) 8) (pickN X T (tileNo i) 8))
          ∗ Holds d i bufA (blk X (tileNo i) 8) ∗ (xAt d i ↦{qa} X) ∗ Rest d i semA
          ∗ Coming (U := U) d i bufB semB (xAt d i) qb X (blk X (tileNo i) 9) ∗ Owing d i O W)
        -∗ Q (headVal 0 inb_S128_S16_0 (loW 8) (tgt T (tileNo i)) (blk X (tileNo i) 8) (pickN X T (tileNo i) 8))) -∗ WP d i (mainPart i) Q) := by
  unfold mainPart
  simp only [wp_bind, wp_pure]
  iintro ⟨#Hlv, HT, HA, HP, Ha, Hb, HO⟩ Hk
  iapply (fetchA_wp (k1_off3_inb i) (j := 0) ((k1_off3_eq i).trans (off_pair i _ _ (by omega))) (by omega)) $$ Ha
  iintro Ha
  iapply (fetchB_wp (k1_off4_inb i) (j := 1) ((k1_off4_eq i).trans (off_pair i _ _ (by omega))) (by omega)) $$ Hb
  iintro Hb
  iapply (Scf.wp_for _ _ _ _ _ _ _ _ _ (fun n (_ : PUnit) => (Between (U := U) d i X T qa qb O W n : sProp 𝕄)) ?body)
  case body =>
    intro k acc
    iintro H
    iapply (steady_wp hO k) $$ H
    iintro H
    iexact H
  isplitl [HT HA HP Ha Hb HO]
  · unfold Between
    isplitr; · iexact Hlv
    isplitl [HT]; · iexact HT
    isplitl [HA]; · iexact HA
    isplitl [HP]; · iexact HP
    isplitl [Ha]; · iexact Ha
    isplitl [Hb]; · iexact Hb
    iexact HO
  iintro %acc H
  unfold Between
  rw [show 2 * Scf.trips k1_t2_loop.lb k1_t2_loop.ub k1_t2_loop.st = 8 from by decide]
  icases H with ⟨-, HT, HA, HP, Ha, Hb, HO⟩
  iapply (awaitA_wp hO (k1_off27_inb i)) $$ [Ha HO]
  · isplitr; · iexact Hlv
    isplitl [Ha]; · iexact Ha
    iexact HO
  iintro ⟨Ha, Hx, Hv, HO⟩
  rw [lo_8]
  iapply (pickHead_wp 0 _ (lo := loW 8) (P := pickN X T (tileNo i) 8)) $$ [HT Ha HP]
  · isplitl [HT]; · iexact HT
    isplitl [Ha]; · iexact Ha
    rw [pickTo_zero]
    iexact HP
  iintro ⟨HT, Ha, HP⟩
  iapply Hk
  isplitl [HT]; · iexact HT
  isplitl [HA]; · iexact HA
  isplitl [HP]; · iexact HP
  isplitl [Ha]; · iexact Ha
  isplitl [Hx]; · iexact Hx
  isplitl [Hv]; · iexact Hv
  isplitl [Hb]; · iexact Hb
  iexact HO

/-- The last two chunks' end: what the finish starts from. -/
theorem sumHead_wp {B : S128x128.Idx → F .f32} {A : S128x16.Idx → F .f32} {Q : Carry F → sProp 𝕄} :
    iprop(Holds d i bufB B ∗ Holds d i accB A)
      ⊢ iprop(((Holds d i bufB B ∗ Holds d i accB (rowTo 128 B A))
        -∗ Q ⟨zero16, rowsFrom 0#32, addf (addf (colV (rowTo 128 B A) 0 (by omega) 0) (colV (rowTo 128 B A) 0 (by omega) 1)) (colV (rowTo 128 B A) 0 (by omega) 2), broadcast S16 3#32⟩)
        -∗ WP d i (sumHead i) Q) := by
  unfold sumHead
  simp only [wp_bind, wp_pure]
  iintro H Hk
  iapply rowSums_wp $$ H
  iintro ⟨HB, HA⟩
  iapply (finHead_wp (o := 0) (by omega)) $$ HA
  iintro HA
  imodintro
  iapply Hk
  isplitl [HB]; · iexact HB
  iexact HA

theorem sumA_wp {B : S128x128.Idx → F .f32} {A : S128x16.Idx → F .f32} {Q : PUnit → sProp 𝕄} :
    iprop(Holds d i bufA B ∗ Holds d i accB A)
      ⊢ iprop(((Holds d i bufA B ∗ Holds d i accB (rowTo 128 B A)) -∗ Q ⟨⟩) -∗ WP d i (sumA i) Q) := by
  unfold sumA
  simp only [wp_bind, wp_pure]
  iintro H Hk
  iapply rowSums_wp $$ H
  iintro H
  imodintro
  iapply Hk
  iexact H

/-- What the task starts from: its targets' and chunks' sources, its buffers, its copy semaphores at rest, its row of the partial sums; -/
def Start (d : Dev nD) (i : grid1.Coords) (qt qa qb : PosShare TreeShare) (X : S4096x32000.Idx → F .f32) (T : S4096.Idx → BitVec 32) : sProp 𝕄 :=
  iprop((tAt d i ↦{qt} T) ∗ (xAt d i ↦{qa} X) ∗ (xAt d i ↦{qb} X)
    ∗ (∃ B, Holds (F := F) d i tBuf B) ∗ (∃ B, Holds d i bufA B) ∗ (∃ B, Holds d i bufB B) ∗ (∃ B, Holds d i accB B) ∗ (∃ B, Holds d i pickB B) ∗ (∃ B, Holds d i resB B)
    ∗ Rest d i cc1_scratch6.sem ∗ Rest d i semA ∗ Rest d i semB ∗ Rest d i cc1_scoped0.sem)

/-- The task, with the results it leaves. -/
theorem tile_wp (hO : ∀ g, O g none = 0) {qt : PosShare TreeShare} {f₀ : Buf (Elt F) (oAt d i)} {Q : PUnit → sProp 𝕄} :
    iprop(levAts (K (F := F)).L (K (F := F)).lev ∗ Start d i qt qa qb X T ∗ (oAt d i ↦[(oRow i).view.set]{fullShare} f₀) ∗ Owing d i O W)
      ⊢ iprop(((Start d i qt qa qb X T
          ∗ (∃ f, ⌜(oRow i).view.read (Elt F) f = tileOut X T (tileNo i)⌝ ∗ oAt d i ↦[(oRow i).view.set]{fullShare} f) ∗ Owing d i O W) -∗ Q ⟨⟩)
        -∗ WP d i (tile i) Q) := by
  unfold tile fetchClear
  simp only [wp_bind]
  unfold Start
  iintro ⟨#Hlv, ⟨Ht, Hx, Hy, ⟨%T₀, HT⟩, ⟨%A₀, Ha⟩, ⟨%B₀, Hb⟩, ⟨%C₀, HA⟩, ⟨%P₀, HP⟩, ⟨%R₀, HR⟩, Hv0, Hv1, Hv2, Hv3⟩, Ho, HO⟩ Hk
  iapply (fetchT_wp hO) $$ [Ht HT Hv0 HO]
  · isplitr; · iexact Hlv
    isplitl [Ht HT Hv0]
    · isplitl [Ht]; · iexact Ht
      isplitl [HT]; · iexact HT
      iexact Hv0
    iexact HO
  iintro ⟨HT, Ht, Hv0, HO⟩
  iapply (clears_wp C₀ P₀) $$ [HA HP]
  · isplitl [HA]; · iexact HA
    iexact HP
  iintro ⟨HA, HP⟩
  iapply (mainPart_wp hO) $$ [HT HA HP Hx Ha Hv1 Hy Hb Hv2 HO]
  · isplitr; · iexact Hlv
    isplitl [HT]; · iexact HT
    isplitl [HA]; · iexact HA
    isplitl [HP]; · iexact HP
    isplitl [Hx Ha Hv1]
    · isplitl [Hx]; · iexact Hx
      isplitl [Ha]; · iexact Ha
      iexact Hv1
    isplitl [Hy Hb Hv2]
    · isplitl [Hy]; · iexact Hy
      isplitl [Hb]; · iexact Hb
      iexact Hv2
    iexact HO
  iintro ⟨HT, HA, HP, Ha, Hx, Hv1, Hb, HO⟩
  iapply (pickTail_wp 0 inb_S128_S16_0) $$ HP
  iintro HP
  rw [lo_8]
  iapply pickRest_wp $$ [HT Ha HP]
  · isplitl [HT]; · iexact HT
    isplitl [Ha]; · iexact Ha
    iexact HP
  iintro ⟨HT, Ha, HP⟩
  iapply sumA_wp $$ [Ha HA]
  · isplitl [Ha]; · iexact Ha
    iexact HA
  iintro ⟨Ha, HA⟩
  iapply (awaitB_wp hO (k1_off37_inb i)) $$ [Hb HO]
  · isplitr; · iexact Hlv
    isplitl [Hb]; · iexact Hb
    iexact HO
  iintro ⟨Hb, Hy, Hv2, HO⟩
  rw [lo_9]
  iapply pickGroups_wp $$ [HT Hb HP]
  · isplitl [HT]; · iexact HT
    isplitl [Hb]; · iexact Hb
    iexact HP
  iintro ⟨HT, Hb, HP⟩
  iapply sumHead_wp $$ [Hb HA]
  · isplitl [Hb]; · iexact Hb
    iexact HA
  iintro ⟨Hb, HA⟩
  iapply (finTail_wp (o := 0) _) $$ HA
  iintro HA
  iapply (finAdd_wp 0 inb_S128_S16_0 _) $$ [HT HP]
  · isplitl [HT]; · iexact HT
    iexact HP
  iintro ⟨HT, HP⟩
  iapply finRest_wp $$ [HA HT HP]
  · isplitl [HA]; · iexact HA
    isplitl [HT]; · iexact HT
    iexact HP
  iintro ⟨HA, HT, HP⟩
  iapply (writeOut_wp hO) $$ [HR Ho Hv3 HO]
  · isplitr; · iexact Hlv
    isplitl [HR]; · iexact HR
    isplitl [Ho]; · iexact Ho
    isplitl [Hv3]; · iexact Hv3
    iexact HO
  iintro ⟨HR, Ho, Hv3, HO⟩
  iapply Hk
  isplitr [Ho HO]
  · isplitl [Ht]; · iexact Ht
    isplitl [Hx]; · iexact Hx
    isplitl [Hy]; · iexact Hy
    isplitl [HT]; · iexists _; iexact HT
    isplitl [Ha]; · iexists _; iexact Ha
    isplitl [Hb]; · iexists _; iexact Hb
    isplitl [HA]; · iexists _; iexact HA
    isplitl [HP]; · iexists _; iexact HP
    isplitl [HR]; · iexists _; iexact HR
    isplitl [Hv0]; · iexact Hv0
    isplitl [Hv1]; · iexact Hv1
    isplitl [Hv2]; · iexact Hv2
    iexact Hv3
  isplitl [Ho]; · iexact Ho
  iexact HO

end Cert.KernelIdeal.Sparse

end
-- ==== Proof.Handed.lean ====
/-
  What the SparseCore call hands out and brings back: to every tile a read share of the targets, two read shares of `x`
  and its row of the partial sums; back come the same shares and the row at the tile's result. The tiles' parts join to
  the core's, the cores' to the whole arrays.
-/
module

public import proofs.«01_k».proof.Proof.TileMain

@[expose] public section

noncomputable section

namespace Cert.KernelIdeal.Launch

open Cert.KernelIdeal Cert.KernelIdeal.Gen Cert.KernelIdeal.Sparse
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (dealOf pointsTo_deal)

variable {F : FTy → Type}

/-! ## The resource algebra: the handshakes' rounds, the pipelines' rounds, the copies' counters -/

abbrev UH : Type := URounds (GSem nD τ sig) ℕ
abbrev UK : Type := URounds (GSem nD τ sig) Unit
abbrev UU : Type := UH × (UK × Counters)

local notation "𝕄" => MT nD τ sig (HIx 1) (Elt F) ℕ UU ℕ

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def EK : Emb UK (MT nD τ sig (HIx 1) (Elt F) ℕ UU ℕ) :=
  ((Emb.inl : Emb UK (UK × Counters)).trans (Emb.inr : Emb (UK × Counters) UU)).trans
    (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance EK_landsIn : (EK : Emb UK 𝕄).LandsIn (upEmb : UEmb _ 𝕄) := by unfold EK; infer_instance

/-! ## Rows and shares -/

abbrev xLoc (d : Dev nD) : Loc nD τ sig := (SparseCore.T d).loc main_arg0
abbrev tLoc (d : Dev nD) : Loc nD τ sig := (SparseCore.T d).loc main_arg1
abbrev oLoc (d : Dev nD) : Loc nD τ sig := (SparseCore.T d).loc main_v2

/-- Row `w` of the partial sums. -/
def rowSet (w : ℕ) : Finset S32x16.Idx := Finset.univ.filter fun y => (y 0).val = w
/-- The rows of core `c`'s tiles. -/
def coreSet (c : ℕ) : Finset S32x16.Idx := Finset.univ.filter fun y => (y 0).val % 2 = c

theorem cores_cover : (Finset.univ : Finset (Fin 2)).biUnion (fun c => coreSet c.val) = Finset.univ := by
  refine Finset.eq_univ_iff_forall.mpr fun y => Finset.mem_biUnion.mpr ⟨⟨(y 0).val % 2, Nat.mod_lt _ (by omega)⟩, Finset.mem_univ _, ?_⟩
  exact Finset.mem_filter.mpr ⟨Finset.mem_univ _, rfl⟩

theorem cores_disjoint : ∀ c ∈ (Finset.univ : Finset (Fin 2)), ∀ c' ∈ (Finset.univ : Finset (Fin 2)), c ≠ c' → Disjoint (coreSet c.val) (coreSet c'.val) := by
  intro c _ c' _ h
  refine Finset.disjoint_left.mpr fun y hy hy' => h (Fin.ext ?_)
  exact ((Finset.mem_filter.mp hy).2).symm.trans (Finset.mem_filter.mp hy').2

theorem rows_cover (c : Fin 2) : (Finset.univ : Finset (Fin 16)).biUnion (fun i => rowSet (2 * i.val + c.val)) = coreSet c.val := by
  ext y
  have hy : (y 0).val < 32 := (y 0).isLt
  have hc : c.val < 2 := c.isLt
  simp only [Finset.mem_biUnion, Finset.mem_univ, true_and, rowSet, coreSet, Finset.mem_filter]
  constructor
  · rintro ⟨i, h⟩; omega
  · intro h; exact ⟨⟨(y 0).val / 2, by omega⟩, by show (y 0).val = 2 * ((y 0).val / 2) + c.val; omega⟩

theorem rows_disjoint (c : Fin 2) : ∀ i ∈ (Finset.univ : Finset (Fin 16)), ∀ j ∈ (Finset.univ : Finset (Fin 16)), i ≠ j →
    Disjoint (rowSet (2 * i.val + c.val)) (rowSet (2 * j.val + c.val)) := by
  intro i _ j _ h
  refine Finset.disjoint_left.mpr fun y hy hy' => h (Fin.ext ?_)
  have := (Finset.mem_filter.mp hy).2
  have := (Finset.mem_filter.mp hy').2
  omega

/-- Core `c`'s read share, its tile `i`'s part of it, and the two halves of that. -/
def coreShare (c : Fin 2) : PosShare TreeShare := dealOf fullShare Finset.univ c
def tileShare (c : Fin 2) (i : Fin 16) : PosShare TreeShare := dealOf (coreShare c) Finset.univ i
def halfShare (c : Fin 2) (i : Fin 16) (h : Fin 2) : PosShare TreeShare := dealOf (tileShare c i) Finset.univ h

section
variable (m : (ℓ : Loc nD τ sig) → Buf (Elt F) ℓ) (d : Dev nD)

/-- The partial sums when every tile has left its row. -/
def outArr [FloatOps F] [Named F] (X : S4096x32000.Idx → F .f32) (T : S4096.Idx → BitVec 32) : S32x16.Idx → F .f32 :=
  fun y => tileOut X T (y 0).val (ValueIdx.ix1 (y 1))

/-- What tile `(c, i)` is handed, its row at `g`. -/
def Given (c : Fin 2) (i : Fin 16) (g : Buf (Elt F) (oLoc d)) : sProp 𝕄 :=
  iprop((tLoc d ↦{tileShare c i} m (tLoc d)) ∗ ((xLoc d ↦{halfShare c i 0} m (xLoc d)) ∗ (xLoc d ↦{halfShare c i 1} m (xLoc d)))
    ∗ oLoc d ↦[rowSet (2 * i.val + c.val)]{fullShare} g)

/-- What core `c` is handed, its rows at `g`. -/
def GivenCore (c : Fin 2) (g : Buf (Elt F) (oLoc d)) : sProp 𝕄 :=
  iprop((tLoc d ↦{coreShare c} m (tLoc d)) ∗ (xLoc d ↦{coreShare c} m (xLoc d)) ∗ oLoc d ↦[coreSet c.val]{fullShare} g)

theorem halves (c : Fin 2) (i : Fin 16) :
    (xLoc d ↦{tileShare c i} m (xLoc d) : sProp 𝕄)
      = iprop((xLoc d ↦{halfShare c i 0} m (xLoc d)) ∗ (xLoc d ↦{halfShare c i 1} m (xLoc d))) := by
  rw [pointsTo_deal (Finset.univ : Finset (Fin 2)) Finset.univ_nonempty (tileShare c i),
    show (Finset.univ : Finset (Fin 2)) = {0, 1} from rfl, SparseCore.bigSep_insert' (by decide), bigSep_singleton]
  rfl

theorem core_tiles (c : Fin 2) (g : Buf (Elt F) (oLoc d)) :
    (GivenCore m d c g : sProp 𝕄) = bigSep Finset.univ fun i : Fin 16 => Given m d c i g := by
  unfold GivenCore Given
  rw [bigSep_sep', bigSep_sep', ← rows_cover c, pointsTo_biUnion Finset.univ (ℓ := oLoc d) _ (rows_disjoint c),
    pointsTo_deal (Finset.univ : Finset (Fin 16)) Finset.univ_nonempty (coreShare c),
    pointsTo_deal (ℓ := xLoc d) (Finset.univ : Finset (Fin 16)) Finset.univ_nonempty (coreShare c)]
  congr 2
  exact bigSep_congr fun i _ => halves m d c i

theorem all_cores (g : Buf (Elt F) (oLoc d)) :
    (iprop((tLoc d ↦{fullShare} m (tLoc d)) ∗ (xLoc d ↦{fullShare} m (xLoc d)) ∗ oLoc d ↦{fullShare} g) : sProp 𝕄)
      = bigSep Finset.univ fun c : Fin 2 => GivenCore m d c g := by
  unfold GivenCore
  rw [bigSep_sep', bigSep_sep', ← pointsTo_biUnion Finset.univ (ℓ := oLoc d) (fun c : Fin 2 => coreSet c.val) cores_disjoint, cores_cover,
    pointsTo_deal (Finset.univ : Finset (Fin 2)) Finset.univ_nonempty fullShare,
    pointsTo_deal (ℓ := xLoc d) (Finset.univ : Finset (Fin 2)) Finset.univ_nonempty fullShare]
  rfl

end

/-! ## The call's payloads -/

section
variable [FloatOps F] [Named F] (m : (ℓ : Loc nD τ sig) → Buf (Elt F) ℓ)

/-- The partial sums of device `d`. -/
abbrev sums (d : Dev nD) : Buf (Elt F) (oLoc d) := outArr (F := F) (m (xLoc d)) (m (tLoc d))

theorem nCore_zero : (K (F := F)).nCore 0 = 2 := rfl
theorem nSub_zero : (K (F := F)).nSub 0 = 16 := rfl

def P : (K (F := F)).Pay (nD := nD) (Val := Elt F) (Name := ℕ) (U := UU) where
  st := fun q d c => match q with | 0 => GivenCore m d (Fin.cast nCore_zero c) (m (oLoc d))
  dn := fun q d c => match q with | 0 => GivenCore m d (Fin.cast nCore_zero c) (sums m d)
  go := fun q d c i => match q with | 0 => Given m d (Fin.cast nCore_zero c) (Fin.cast nSub_zero i) (m (oLoc d))
  td := fun q d c i => match q with | 0 => Given m d (Fin.cast nCore_zero c) (Fin.cast nSub_zero i) (sums m d)
  x := fun _ _ => iprop(emp)

instance core_storable (d : Dev nD) (c : Fin 2) (g : Buf (Elt F) (oLoc d)) : BI.Storable (upEmb : UEmb _ 𝕄) (GivenCore m d c g) := by
  unfold GivenCore; infer_instance
instance tile_storable (d : Dev nD) (c : Fin 2) (i : Fin 16) (g : Buf (Elt F) (oLoc d)) : BI.Storable (upEmb : UEmb _ 𝕄) (Given m d c i g) := by
  unfold Given; infer_instance

instance P_storable : (P (F := F) m).IsStorable where
  st q d _ := match q with | 0 => core_storable m d _ _
  dn q d _ := match q with | 0 => core_storable m d _ _
  go q d _ _ := match q with | 0 => tile_storable m d _ _ _
  td q d _ _ := match q with | 0 => tile_storable m d _ _ _

theorem tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show (GivenCore m d (Fin.cast nCore_zero c) (m (oLoc d)) : sProp 𝕄) ⊢ |={Set.univ}=> iprop(
      (bigSep Finset.univ fun i : Fin ((K (F := F)).nSub 0) => Given m d (Fin.cast nCore_zero c) (Fin.cast nSub_zero i) (m (oLoc d)))
      ∗ ((bigSep Finset.univ fun i : Fin ((K (F := F)).nSub 0) => Given m d (Fin.cast nCore_zero c) (Fin.cast nSub_zero i) (sums m d))
          -∗ GivenCore m d (Fin.cast nCore_zero c) (sums m d)))
  rw [tasks (F := F) (fun i => Given m d (Fin.cast nCore_zero c) i (m (oLoc d))), tasks (F := F) (fun i => Given m d (Fin.cast nCore_zero c) i (sums m d)),
    ← core_tiles, ← core_tiles]
  iintro H
  imodintro
  isplitl [H]; · iexact H
  iintro H
  iexact H

end

end Cert.KernelIdeal.Launch

end
-- ==== Proof.TileTask.lean ====
/-
  A tile's task, as the launch asks for it: from the tile's share of the operands and the tile's own scratch and
  semaphores, to the row at its result, everything else handed back.
-/
module

public import proofs.«01_k».proof.Proof.Handed
public import Idealize.ShloMosaic.Lib.SparseCore.Quiescent

@[expose] public section

noncomputable section

namespace Cert.KernelIdeal.Launch

open Cert.KernelIdeal Cert.KernelIdeal.Gen Cert.KernelIdeal.Sparse
open Idealize.ShloMosaic
open Idealize.ShloMosaic.SparseCore (S V T)
open Idealize.ShloMosaic.SparseCore.Cfg (HIx ownBufs ownSems0 ownCells ownRefs mem_ownCells mem_ownRefs_of_owner)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (dealOf pointsTo_deal)

variable {F : FTy → Type}

local notation "𝕄" => MT nD τ sig (HIx 1) (Elt F) ℕ UU ℕ

abbrev D [FloatOps F] [Named F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The tile's own scratch and semaphores -/

section
variable (d : Dev nD) (c : Fin τ.nSC) (j : Fin τ.nSub)

theorem cell_mem {s : DmaSem sig} (h : (SemLoc.dma s : SemLoc sig).isScoped .scVector = true) :
    ((V d c j, .dma s) : GSem nD τ sig) ∈ ownCells (V d c j) := mem_ownCells.mpr ⟨rfl, h⟩

theorem cell_later {S : Finset (GSem nD τ sig)} {s s' : DmaSem sig} (hne : s' ≠ s) (h : ((V d c j, .dma s') : GSem nD τ sig) ∈ S) :
    ((V d c j, .dma s') : GSem nD τ sig) ∈ S.erase (V d c j, .dma s) :=
  Finset.mem_erase.mpr ⟨fun e => hne (SemLoc.dma.inj (Prod.mk.inj e).2), h⟩

theorem ref_mem {b : Ref sig .scVector} (h : ((Proc.scVector c j).devRef b).owner = .proc (.scVector c j)) :
    (Proc.scVector c j).devRef b ∈ ownRefs (τ := τ) (sig := sig) (.scVector c j) := mem_ownRefs_of_owner h

theorem ref_later {S : Finset (DevRef τ sig)} {b b' : Ref sig .scVector} (hne : b' ≠ b) (h : (Proc.scVector c j).devRef b' ∈ S) :
    (Proc.scVector c j).devRef b' ∈ S.erase ((Proc.scVector c j).devRef b) :=
  Finset.mem_erase.mpr ⟨fun e => hne (Proc.devRef_injective _ e), h⟩

/-- The other semaphores of the tile. -/
def otherSems : sProp 𝕄 :=
  bigSep (((((ownCells (V d c j)).erase (V d c j, .dma cc1_scratch6.sem)).erase (V d c j, .dma semA)).erase (V d c j, .dma semB)).erase
    (V d c j, .dma cc1_scoped0.sem)) fun g => semVal g 0

theorem ownSems0_V :
    (ownSems0 (V d c j) : sProp 𝕄)
      = iprop(semVal (V d c j, .dma cc1_scratch6.sem) 0 ∗ semVal (V d c j, .dma semA) 0 ∗ semVal (V d c j, .dma semB) 0
          ∗ semVal (V d c j, .dma cc1_scoped0.sem) 0 ∗ otherSems d c j) := by
  unfold SparseCore.Cfg.ownSems0 otherSems
  rw [SparseCore.bigSep_erase' (cell_mem d c j (s := cc1_scratch6.sem) (by decide)),
    SparseCore.bigSep_erase' (cell_later d c j (s' := semA) (by decide) (cell_mem d c j (by decide))),
    SparseCore.bigSep_erase' (cell_later d c j (s' := semB) (by decide) (cell_later d c j (by decide) (cell_mem d c j (by decide)))),
    SparseCore.bigSep_erase' (cell_later d c j (s' := cc1_scoped0.sem) (by decide) (cell_later d c j (by decide) (cell_later d c j (by decide) (cell_mem d c j (by decide)))))]

/-- A scratch buffer of the tile at some contents. -/
def Some' (b : Ref sig .scVector) : sProp 𝕄 := iprop(∃ f, (V d c j).loc b ↦{fullShare} f)

/-- The other buffers of the tile. -/
def otherBufs : sProp 𝕄 :=
  bigSep (((((((ownRefs (τ := τ) (sig := sig) (.scVector c j)).erase ((Proc.scVector c j).devRef cc1_scratch0)).erase ((Proc.scVector c j).devRef cc1_scratch1)).erase
    ((Proc.scVector c j).devRef cc1_scratch2)).erase ((Proc.scVector c j).devRef cc1_scratch3)).erase ((Proc.scVector c j).devRef cc1_scratch4)).erase
    ((Proc.scVector c j).devRef cc1_scratch5)) fun b => iprop(∃ f, ((d, b) : Loc nD τ sig) ↦{fullShare} f)

theorem ownBufs_V :
    (ownBufs (V d c j) : sProp 𝕄)
      = iprop(Some' d c j cc1_scratch0 ∗ Some' d c j cc1_scratch1 ∗ Some' d c j cc1_scratch2 ∗ Some' d c j cc1_scratch3 ∗ Some' d c j cc1_scratch4
          ∗ Some' d c j cc1_scratch5 ∗ otherBufs d c j) := by
  unfold SparseCore.Cfg.ownBufs otherBufs
  have m0 := ref_mem c j (b := cc1_scratch0) rfl
  have m1 := ref_later c j (b := cc1_scratch0) (b' := cc1_scratch1) (by decide) (ref_mem c j rfl)
  have m2 := ref_later c j (b := cc1_scratch1) (b' := cc1_scratch2) (by decide) (ref_later c j (b := cc1_scratch0) (by decide) (ref_mem c j rfl))
  have m3 := ref_later c j (b := cc1_scratch2) (b' := cc1_scratch3) (by decide) (ref_later c j (b := cc1_scratch1) (by decide)
    (ref_later c j (b := cc1_scratch0) (by decide) (ref_mem c j rfl)))
  have m4 := ref_later c j (b := cc1_scratch3) (b' := cc1_scratch4) (by decide) (ref_later c j (b := cc1_scratch2) (by decide)
    (ref_later c j (b := cc1_scratch1) (by decide) (ref_later c j (b := cc1_scratch0) (by decide) (ref_mem c j rfl))))
  have m5 := ref_later c j (b := cc1_scratch4) (b' := cc1_scratch5) (by decide) (ref_later c j (b := cc1_scratch3) (by decide)
    (ref_later c j (b := cc1_scratch2) (by decide) (ref_later c j (b := cc1_scratch1) (by decide) (ref_later c j (b := cc1_scratch0) (by decide) (ref_mem c j rfl)))))
  refine (SparseCore.bigSep_erase' m0).trans ?_
  rw [SparseCore.bigSep_erase' m1, SparseCore.bigSep_erase' m2, SparseCore.bigSep_erase' m3, SparseCore.bigSep_erase' m4, SparseCore.bigSep_erase' m5]
  rfl
end

variable [FloatOps F] [Named F]

section
variable (d : Dev nD) (i : grid1.Coords)

theorem holds_of {s : Shape} {e : EltTy} {m : Memref sig .scVector .vmem s e} :
    (iprop(∃ f, m.view.loc (thr d i) ↦[Finset.univ]{fullShare} f) : sProp 𝕄) ⊢ ∃ B, Holds (F := F) d i m B := by
  unfold Holds
  iintro ⟨%f, H⟩
  iexists (m.view.read (Elt F) f)
  iexists f
  isplitr
  · ipureintro; rfl
  · iexact H

theorem of_holds {s : Shape} {e : EltTy} {m : Memref sig .scVector .vmem s e} :
    (iprop(∃ B, Holds (F := F) d i m B) : sProp 𝕄) ⊢ ∃ f, m.view.loc (thr d i) ↦[Finset.univ]{fullShare} f := by
  unfold Holds
  iintro ⟨%B, %f, -, H⟩
  iexists f
  iexact H

/-! ## The tile's row -/

theorem oRow_emb (z : S16.Idx) : (oRow i).view.emb z = ValueIdx.ix2 (⟨tileNo i, tileNo_lt i⟩ : Fin 32) (z 0) := by
  have hw := tileNo_lt i
  have hz : (z 0).val < 16 := (z 0).isLt
  have ho : k1_off47 i = ![tileNo i, 0] := by rw [k1_off47_eq]; unfold tileNo; rfl
  have he : Shape.reshapeEquiv squeezes_S1x16_S16.numel_eq z = ValueIdx.ix2 0 (z 0) := cast_in (fun y => y) z
  show (Rect.unit (s := S32x16) (k1_off47 i) S1x16.size (k1_off47_inb i)).emb (Shape.reshapeEquiv squeezes_S1x16_S16.numel_eq z) = _
  rw [he]
  funext a
  refine Fin.ext ?_
  show k1_off47 i a + 1 * (ValueIdx.ix2 (0 : Fin 1) (z 0) a).val = _
  rw [ho]
  match a with
  | ⟨0, _⟩ => show tileNo i + 1 * 0 = tileNo i; omega
  | ⟨1, _⟩ => show 0 + 1 * (z 0).val = (z 0).val; omega

theorem oRow_set : (oRow i).view.set = rowSet (tileNo i) := by
  ext y
  unfold View.set rowSet
  rw [Finset.mem_map, Finset.mem_filter]
  constructor
  · rintro ⟨z, -, rfl⟩
    exact ⟨Finset.mem_univ _, congrArg (fun w : S32x16.Idx => (w 0).val) (oRow_emb i z)⟩
  · rintro ⟨-, h⟩
    refine ⟨ValueIdx.ix1 (y 1), Finset.mem_univ _, (oRow_emb i _).trans ?_⟩
    funext a
    match a with
    | ⟨0, _⟩ => exact Fin.ext h.symm
    | ⟨1, _⟩ => rfl

theorem row_done {X : S4096x32000.Idx → F .f32} {Tg : S4096.Idx → BitVec 32} {f : Buf (Elt F) (oAt d i)}
    (h : (oRow i).view.read (Elt F) f = tileOut X Tg (tileNo i)) :
    ((oAt d i ↦[(oRow i).view.set]{fullShare} f : sProp 𝕄) = (oLoc d ↦[rowSet (tileNo i)]{fullShare} (outArr X Tg : Buf (Elt F) (oLoc d)))) := by
  rw [← oRow_set i]
  refine pointsTo_congr fun y hy => ?_
  obtain ⟨z, -, rfl⟩ := Finset.mem_map.mp hy
  refine (congrFun h z).trans ?_
  have e := oRow_emb i z
  show _ = outArr X Tg ((oRow i).view.emb z)
  rw [e]
  unfold outArr
  exact congrArg _ (ValueIdx.eq_ix1 z)
end

/-! ## The task -/

section
variable (m : (ℓ : Loc nD τ sig) → Buf (Elt F) ℓ) (d : Dev nD) (i : grid1.Coords)

/-- The tile's core and its number on that core. -/
abbrev coreOf (i : grid1.Coords) : Fin 2 := i 0
abbrev placeOf (i : grid1.Coords) : Fin 16 := i 1

theorem task (O : CellTallies nD τ sig (HIx 1)) (W : Waits sig (HIx 1)) (hO : ∀ g, O g none = 0) :
    iprop(levAts (K (F := F)).L (K (F := F)).lev ∗ emp ∗ Given m d (coreOf i) (placeOf i) (m (oLoc d))
        ∗ scopedBufs (thr d i) ∗ scopedSems0 (thr d i) ∗ owes (thr d i) O W)
      ⊢ wp frame (wpE (defs₀ (F := F)) 𝒱₀ (thr d i) none) Set.univ (tile (F := F) i)
          fun _ => iprop(Given m d (coreOf i) (placeOf i) (sums m d) ∗ scopedBufs (thr d i) ∗ scopedSems0 (thr d i)
            ∗ ∃ W', ⌜∀ p ∈ W', p ∈ W ∨ p.2 = none ∨ p.2 = some (0 : Fin 1)⌝ ∗ owes (thr d i) O W') := by
  rw [(K (F := F)).scopedBufs_V facts d (cV i) (jV i), SparseCore.Cfg.scopedSems0_V (Val := Elt F) d (cV i) (jV i), ownSems0_V, ownBufs_V]
  unfold Given Some'
  iintro ⟨#Hlv, -, ⟨Ht, ⟨Hxa, Hxb⟩, Ho⟩, ⟨B0, B1, B2, B3, B4, B5, Hbufs⟩, ⟨S0, S1, S2, S3, Hsems⟩, HO⟩
  iapply (tile_wp (U := UU) (d := d) (i := i) (X := m (xLoc d)) (T := m (tLoc d)) (qt := tileShare (coreOf i) (placeOf i)) (qa := halfShare (coreOf i) (placeOf i) 0)
    (qb := halfShare (coreOf i) (placeOf i) 1) (O := O) (W := W) (f₀ := m (oLoc d)) hO) $$ [Ht Hxa Hxb Ho B0 B1 B2 B3 B4 B5 S0 S1 S2 S3 HO]
  · isplitr; · iexact Hlv
    isplitl [Ht Hxa Hxb B0 B1 B2 B3 B4 B5 S0 S1 S2 S3]
    · unfold Start
      isplitl [Ht]; · iexact Ht
      isplitl [Hxa]; · iexact Hxa
      isplitl [Hxb]; · iexact Hxb
      isplitl [B0]; · iapply (holds_of d i (m := tBuf)) $$ B0
      isplitl [B1]; · iapply (holds_of d i (m := bufA)) $$ B1
      isplitl [B2]; · iapply (holds_of d i (m := bufB)) $$ B2
      isplitl [B3]; · iapply (holds_of d i (m := accB)) $$ B3
      isplitl [B4]; · iapply (holds_of d i (m := pickB)) $$ B4
      isplitl [B5]; · iapply (holds_of d i (m := resB)) $$ B5
      isplitl [S0]; · iexact S0
      isplitl [S1]; · iexact S1
      isplitl [S2]; · iexact S2
      iexact S3
    isplitl [Ho]
    · rw [oRow_set]
      iexact Ho
    · unfold Owing
      iexists W
      isplitr
      · ipureintro; exact fun p hp => .inl hp
      · iexact HO
  unfold Start Owing
  iintro ⟨⟨Ht, Hxa, Hxb, B0, B1, B2, B3, B4, B5, S0, S1, S2, S3⟩, ⟨%f, %hf, Ho⟩, ⟨%W', %hW, HO⟩⟩
  isplitl [Ht Hxa Hxb Ho]
  · isplitl [Ht]; · iexact Ht
    isplitl [Hxa Hxb]
    · isplitl [Hxa]; · iexact Hxa
      iexact Hxb
    iapply (Entails.of_eq (row_done d i hf)) $$ Ho
  isplitl [B0 B1 B2 B3 B4 B5 Hbufs]
  · isplitl [B0]; · iapply (of_holds d i (m := tBuf)) $$ B0
    isplitl [B1]; · iapply (of_holds d i (m := bufA)) $$ B1
    isplitl [B2]; · iapply (of_holds d i (m := bufB)) $$ B2
    isplitl [B3]; · iapply (of_holds d i (m := accB)) $$ B3
    isplitl [B4]; · iapply (of_holds d i (m := pickB)) $$ B4
    isplitl [B5]; · iapply (of_holds d i (m := resB)) $$ B5
    iexact Hbufs
  isplitl [S0 S1 S2 S3 Hsems]
  · isplitl [S0]; · iexact S0
    isplitl [S1]; · iexact S1
    isplitl [S2]; · iexact S2
    isplitl [S3]; · iexact S3
    iexact Hsems
  iexists W'
  isplitr
  · ipureintro
    intro p hp
    exact (hW p hp).elim .inl fun h => .inr (.inl h)
  · iexact HO

end

/-! ## The obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__sc_body (coordsV c s)
          xArr (Memref.isWhole_whole _) tArr (Memref.isWhole_whole _) oArr (Memref.isWhole_whole _)
          tBuf (Memref.isWhole_whole _) bufA (Memref.isWhole_whole _) bufB (Memref.isWhole_whole _) accB (Memref.isWhole_whole _)
          pickB (Memref.isWhole_whole _) resB (Memref.isWhole_whole _) cc1_scratch6 cc1_scratch7 cc1_scoped0) ⟨⟩ c s := rfl

theorem tileObl (m : (ℓ : Loc nD τ sig) → Buf (Elt F) ℓ) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte, tile_eq]
  exact task m d (coordsV ⟨_, hci.1⟩ ⟨_, hci.2⟩) O W hO

end Cert.KernelIdeal.Launch

end
-- ==== Proof.DenseOps.lean ====
/-
  How the TensorCore holds a buffer (`owns`: outright, at what the memref reads), and the three memory operations its two
  kernels use: a load of a rectangle, a store over all of a buffer, a load of the one word of a 1×1 buffer.
-/
module

public import proofs.«01_k».proof.Proof.TileProgram
public import Idealize.ShloMosaic.Lib.SparseCore.Quiescent
public import Idealize.ShloMosaic.Lib.WritesUnit
public import Idealize.ShloMosaic.Lib.VecWindow
public import Idealize.ShloMosaic.Lib.Pointwise.Index
public import Idealize.ShloMosaic.Lib.Tactic

@[expose] public section

noncomputable section

namespace Cert.KernelIdeal.Dense

open Cert.KernelIdeal Cert.KernelIdeal.Gen
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
variable {U : Type} [URA U]

local notation "𝕄" => MT nD τ sig (HIx 1) (Elt F) ℕ U ℕ

/-- The TensorCore's programs, and what must hold for one on device `c` to end in `Q`. -/
abbrev CoreProg (α : Type) : Type 1 := Prog (TpuEff nD τ sig (Elt F) Λ₀ .tc) α
abbrev WP (c : Dev nD) {α : Type} (p : CoreProg (F := F) α) (Q : α → sProp 𝕄) : sProp 𝕄 :=
  wp frame (wpE (defs₀ (F := F)) Variants.none (c : Thread nD τ) none) Set.univ p Q

/-- The TensorCore holds the buffer of `m`, and read through `m` it is `B`. -/
abbrev Has (c : Dev nD) {sp : Space} {s : Shape} {e : EltTy} (m : Memref sig .tc sp s e) (B : s.Idx → Elt F e) : sProp 𝕄 :=
  owns (c : Thread nD τ) m fullShare B

/-- A program that has ended. -/
theorem WP_ret {c : Dev nD} {α : Type} {a : α} {Q : α → sProp 𝕄} : Q a ⊢ WP c (.ret a) Q := by
  unfold WP
  rw [wp_ret]
  iintro H
  imodintro
  iexact H

section
variable {s : Shape} {e : EltTy} {c : Dev nD} {cs : CoreSpace} {m : Memref sig .tc cs s e} {B : s.Idx → Elt F e}

/-- A load of the rectangle `r` reads `B` there. -/
theorem load_has {α : Type} {r : Rect s} {hl : m.view.LoadsAt r.toLoadRect} {k : (r.shape.Idx → Elt F e) → CoreProg (F := F) α} {Q : α → sProp 𝕄} :
    Has (U := U) c m B ⊢ iprop((Has c m B -∗ WP c (k fun x => B (r.emb x)) Q) -∗ WP c (.op (.load m r.toLoadRect hl) k) Q) := by
  unfold Has owns
  iintro ⟨%f, %hf, H⟩ Hk
  iapply (wp_load Variants.none (c : Thread nD τ) none Set.univ (m := m) (S := m.view.set) (m.view.setOn_subset_set _)) $$ H
  iintro H
  have hv : m.view.readAt (Elt F) r.toLoadRect f = fun x => B (r.emb x) := by
    funext x
    rw [View.readAt_apply, hf]
    rfl
  rw [hv]
  iapply Hk
  iexists f
  isplitr
  · ipureintro; exact hf
  iexact H

/-- A load of the whole buffer reads `B`. -/
theorem load_all {α : Type} {off : Fin s.rank → ℕ} {inb : ∀ a, off a + s.size a ≤ s.size a} {hl : m.view.LoadsAt (Rect.unit off s.size inb).toLoadRect}
    {k : (s.Idx → Elt F e) → CoreProg (F := F) α} {Q : α → sProp 𝕄} :
    Has (U := U) c m B ⊢ iprop((Has c m B -∗ WP c (k B) Q) -∗ WP c (.op (.load m (Rect.unit off s.size inb).toLoadRect hl) k) Q) := by
  have h := load_has (U := U) (c := c) (m := m) (B := B) (r := Rect.unit off s.size inb) (hl := hl) (k := k) (Q := Q)
  have he : (fun x : s.Idx => B ((Rect.unit off s.size inb).emb x)) = B := funext fun x => congrArg B (Rect.emb_unit_full inb x)
  rwa [show (fun x => B ((Rect.unit off s.size inb).emb x)) = B from he] at h

/-- A store over the whole buffer leaves the stored contents. -/
theorem store_all {α : Type} {off : Fin s.rank → ℕ} {inb : ∀ a, off a + s.size a ≤ s.size a} {w : s.Idx → Elt F e}
    {hx : (m.access (Rect.unit off s.size inb)).Stores Finset.univ} {hm : Finset.univ = Finset.univ ∨ ∀ a, (Rect.unit off s.size inb).stride a = 1}
    {k : PUnit → CoreProg (F := F) α} {Q : α → sProp 𝕄} :
    Has (U := U) c m B ⊢ iprop((Has c m w -∗ WP c (k ⟨⟩) Q) -∗ WP c (.op (.store m (Rect.unit off s.size inb) w Finset.univ hx hm) k) Q) := by
  unfold Has owns
  iintro ⟨%f, %hf, H⟩ Hk
  iapply (wp_store_writes₀ Variants.none (c : Thread nD τ) none Set.univ (m := m) (r := Rect.unit off s.size inb) (w := w) (hx := hx) (hm := hm) (k := k) (Q := Q) (f := f)
    (S := m.view.set) (by rw [View.set_slice]; exact m.view.setOn_subset_set _)) $$ H
  iintro H
  iapply Hk
  iexists (m.view.writes (Elt F) f [⟨Rect.unit off s.size inb, w⟩])
  isplitr
  rotate_left
  · iexact H
  ipureintro
  funext y
  have h := m.view.read_writes_cons_emb f (Rect.unit off s.size inb) w [] y
  rwa [Rect.emb_unit_full inb y] at h

end

/-- The one index of a 1×1 buffer. -/
def only : S1x1.Idx := ix2 0 0

theorem eq_only (x : S1x1.Idx) : x = only := by
  funext a
  match a with
  | ⟨0, _⟩ => exact Subsingleton.elim (α := Fin 1) _ _
  | ⟨1, _⟩ => exact Subsingleton.elim (α := Fin 1) _ _

/-- A load of the word of a 1×1 buffer. -/
theorem word_has {e : EltTy} {c : Dev nD} {m : Memref sig .tc .smem S1x1 e} {B : S1x1.Idx → Elt F e} {α : Type} {hp : e.packing = 1}
    {k : Elt F e → CoreProg (F := F) α} {Q : α → sProp 𝕄} :
    Has (U := U) c m B ⊢ iprop((Has c m B -∗ WP c (k (B only)) Q)
      -∗ WP c (smemLoad m (Rect.unit (s := S1x1) ![0, 0] S1x1.size inb_S1x1_S1x1_0_0) numel1_S1x1 hp >>= k) Q) := by
  have h := load_has (U := U) (c := c) (m := m) (B := B) (r := Rect.unit (s := S1x1) ![0, 0] S1x1.size inb_S1x1_S1x1_0_0)
    (hl := View.loadsAt_rect (View.loads_smem_one hp numel1_S1x1)) (k := fun f => k (f (Shape.Idx.first (numel1_S1x1.symm ▸ Nat.one_pos)))) (Q := Q)
  have he : B ((Rect.unit (s := S1x1) ![0, 0] S1x1.size inb_S1x1_S1x1_0_0).emb (Shape.Idx.first (numel1_S1x1.symm ▸ Nat.one_pos))) = B only :=
    congrArg B (eq_only _)
  dsimp only at h
  rw [he] at h
  exact h

end Cert.KernelIdeal.Dense

end
-- ==== Proof.Partial.lean ====
/-
  The first TensorCore kernel at one grid point. It keeps a 4096×128 sum of the columns seen so far, a 4096×128 sum of
  the entries whose column is the row's target, and column 0 of `x`; the last point turns them into one word. Here: what
  one point computes (`sumStep`, `pickStep`, `lastWord`), and that a run of the body does that.
-/
module

public import proofs.«01_k».proof.Proof.DenseOps

@[expose] public section

noncomputable section

namespace Cert.KernelIdeal.Dense

open Cert.KernelIdeal Cert.KernelIdeal.Gen
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
variable {U : Type} [URA U]

local notation "𝕄" => MT nD τ sig (HIx 1) (Elt F) ℕ U ℕ

/-- The running sum of columns after a point whose block is `B`. -/
def sumStep (B : S4096x640.Idx → F .f32) (A : S4096x128.Idx → F .f32) : S4096x128.Idx → F .f32 :=
  k0_pay2 B (k0_pay12 B) (k0_pay14 B) A

/-- The running sum of picked entries after the point `i`, whose block is `B`. -/
def pickStep (i : grid0.Coords) (T : S4096x1.Idx → BitVec 32) (B : S4096x640.Idx → F .f32) (P : S4096x128.Idx → F .f32) : S4096x128.Idx → F .f32 :=
  k0_pay3 (k0_pay8 (F := F) T) (Scalar.muli (BitVec.ofNat 32 (i 0).val) 640#32) B (k0_pay13 i T B) (k0_pay14 B) (k0_pay15 i) (k0_pay16 (F := F) T) P

/-- Column 0 of the first block. -/
def firstCol (B : S4096x640.Idx → F .f32) : S4096x1.Idx → F .f32 :=
  k0_pay7 fun x => B ((Rect.unit (s := S4096x640) ![0, 0] S4096x1.size inb_S4096x640_S4096x1_0_0).emb x)

/-- The word the last point stores. -/
def lastWord (T : S4096x1.Idx → BitVec 32) (Z : S4096x1.Idx → F .f32) (A P : S4096x128.Idx → F .f32) : F .f32 :=
  k0_pay4 (k0_pay8 (F := F) T) Z A P

theorem first_iff (i : grid0.Coords) : Iff (Scalar.cmpi .ne (Scalar.extui (Scalar.cmpi .eq (BitVec.ofNat 32 (i 0).val) 0#32) : BitVec 32) 0#32 = 1#1) ((i 0).val = 0) := by
  have h : ∀ a : Fin 48, Iff (Scalar.cmpi .ne (Scalar.extui (Scalar.cmpi .eq (BitVec.ofNat 32 a.val) 0#32) : BitVec 32) 0#32 = 1#1) (a.val = 0) := by decide
  exact h (i 0)

theorem last_iff (i : grid0.Coords) : Iff (k0_cond2 i = 1#1) ((i 0).val = 47) := by
  have h : ∀ a : Fin 48, Iff (Scalar.cmpi .ne (Scalar.extui (Scalar.cmpi .eq (BitVec.ofNat 32 a.val) 47#32) : BitVec 32) 0#32 = 1#1) (a.val = 47) := by decide
  exact h (i 0)

section
variable {c : Dev nD} (i : grid0.Coords) (arg1 : Memref sig .tc .vmem S4096x640 .f32) (harg1 : arg1.IsWhole) (arg2 : Memref sig .tc .vmem S4096x1 .i32) (harg2 : arg2.IsWhole)
  (arg3 : Memref sig .tc .smem S1x1 .f32) (harg3 : arg3.IsWhole) (arg4 : Memref sig .tc .vmem S4096x128 .f32) (harg4 : arg4.IsWhole)
  (arg5 : Memref sig .tc .vmem S4096x128 .f32) (harg5 : arg5.IsWhole) (arg6 : Memref sig .tc .vmem S4096x1 .f32) (harg6 : arg6.IsWhole)
  {B : S4096x640.Idx → F .f32} {T : S4096x1.Idx → BitVec 32} {O : S1x1.Idx → F .f32} {A P : S4096x128.Idx → F .f32} {Z : S4096x1.Idx → F .f32}

/-- The kernel's three scratch buffers. -/
def Scratch (c : Dev nD) (arg4 : Memref sig .tc .vmem S4096x128 .f32) (arg5 : Memref sig .tc .vmem S4096x128 .f32) (arg6 : Memref sig .tc .vmem S4096x1 .f32)
    (A P : S4096x128.Idx → F .f32) (Z : S4096x1.Idx → F .f32) : sProp 𝕄 :=
  iprop(Has c arg4 A ∗ Has c arg5 P ∗ Has c arg6 Z)

theorem part1_wp {β : Type} {k} {Q : β → sProp 𝕄} :
    iprop(Has c arg1 B ∗ Has c arg2 T ∗ Scratch c arg4 arg5 arg6 A P Z)
      ⊢ iprop((iprop(Has c arg1 B ∗ Has c arg2 T ∗ Scratch c arg4 arg5 arg6 (if (i 0).val = 0 then k0_pay5 else A) (if (i 0).val = 0 then k0_pay6 else P)
            (if (i 0).val = 0 then firstCol B else Z))
          -∗ WP c (k ⟨BitVec.ofNat 32 (i 0).val, k0_pay8 (F := F) T, Scalar.muli (BitVec.ofNat 32 (i 0).val) 640#32, B, k0_pay12 B, k0_pay13 i T B, k0_pay14 B, k0_pay15 i, k0_pay16 (F := F) T⟩) Q)
        -∗ WP c (k0_part1 (F := F) i arg1 harg1 arg2 harg2 arg3 harg3 arg4 harg4 arg5 harg5 arg6 harg6 >>= k) Q) := by
  rw [k0_part1_eq_skeleton]
  unfold k0_part1_skel Scratch
  have h1 := first_iff i
  iintro ⟨HB, HT, HA, HP, HZ⟩ Hk
  by_cases h : (i 0).val = 0
  · rw [if_pos h, if_pos h, if_pos h]
    simp only [dif_pos (h1.mpr h)]
    iapply load_all $$ HA
    iintro HA
    iapply store_all $$ HA
    iintro HA
    iapply load_all $$ HP
    iintro HP
    iapply store_all $$ HP
    iintro HP
    iapply load_has $$ HB
    iintro HB
    iapply load_all $$ HZ
    iintro HZ
    iapply store_all $$ HZ
    iintro HZ
    iapply load_all $$ HT
    iintro HT
    iapply load_all $$ HB
    iintro HB
    iapply Hk
    isplitl [HB]; · iexact HB
    isplitl [HT]; · iexact HT
    isplitl [HA]; · iexact HA
    isplitl [HP]; · iexact HP
    iexact HZ
  · rw [if_neg h, if_neg h, if_neg h]
    simp only [dif_neg (h1.not.mpr h)]
    iapply load_all $$ HT
    iintro HT
    iapply load_all $$ HB
    iintro HB
    iapply Hk
    isplitl [HB]; · iexact HB
    isplitl [HT]; · iexact HT
    isplitl [HA]; · iexact HA
    isplitl [HP]; · iexact HP
    iexact HZ

/-- One run of the body: the three scratch buffers move on, and at the last point the word is stored. -/
theorem body_wp {Q : PUnit → sProp 𝕄} {A' P' : S4096x128.Idx → F .f32} {Z' : S4096x1.Idx → F .f32}
    (hA : (if (i 0).val = 0 then k0_pay5 else A) = A') (hP : (if (i 0).val = 0 then k0_pay6 else P) = P') (hZ : (if (i 0).val = 0 then firstCol B else Z) = Z') :
    iprop(Has c arg1 B ∗ Has c arg2 T ∗ Has c arg3 O ∗ Scratch c arg4 arg5 arg6 A P Z)
      ⊢ iprop((iprop(Has c arg1 B ∗ Has c arg2 T
            ∗ Has c arg3 (if (i 0).val = 47 then (fun _ => lastWord T Z' (sumStep B A') (pickStep i T B P')) else O)
            ∗ Scratch c arg4 arg5 arg6 (sumStep B A') (pickStep i T B P') Z') -∗ Q ⟨⟩)
        -∗ WP c (cc0__partial_body (F := F) i arg1 harg1 arg2 harg2 arg3 harg3 arg4 harg4 arg5 harg5 arg6 harg6) Q) := by
  rw [cc0__partial_body_eq_skeleton]
  unfold cc0__partial_body_skel
  have h2 := last_iff i
  iintro ⟨HB, HT, HO, HS⟩ Hk
  iapply (part1_wp i arg1 harg1 arg2 harg2 arg3 harg3 arg4 harg4 arg5 harg5 arg6 harg6 (B := B) (T := T) (A := A) (P := P) (Z := Z)) $$ [HB HT HS]
  · isplitl [HB]; · iexact HB
    isplitl [HT] <;> iassumption
  rw [hA, hP, hZ]
  unfold Scratch
  iintro ⟨HB, HT, HA, HP, HZ⟩
  iapply load_all $$ HA
  iintro HA
  iapply load_all $$ HA
  iintro HA
  iapply store_all $$ HA
  iintro HA
  iapply load_all $$ HP
  iintro HP
  iapply load_all $$ HP
  iintro HP
  iapply store_all $$ HP
  iintro HP
  by_cases h : (i 0).val = 47
  · rw [if_pos h]
    simp only [dif_pos (h2.mpr h)]
    iapply load_all $$ HZ
    iintro HZ
    iapply load_all $$ HA
    iintro HA
    iapply load_all $$ HP
    iintro HP
    iapply (word_has (hp := rfl)) $$ HO
    iintro HO
    iapply store_all $$ HO
    iintro HO
    iapply WP_ret
    iapply Hk
    isplitl [HB]; · iexact HB
    isplitl [HT]; · iexact HT
    isplitl [HO]; · iexact HO
    isplitl [HA]; · iexact HA
    isplitl [HP]; · iexact HP
    iexact HZ
  · rw [if_neg h]
    simp only [dif_neg (h2.not.mpr h)]
    iapply WP_ret
    iapply Hk
    isplitl [HB]; · iexact HB
    isplitl [HT]; · iexact HT
    isplitl [HO]; · iexact HO
    isplitl [HA]; · iexact HA
    isplitl [HP]; · iexact HP
    iexact HZ

end

end Cert.KernelIdeal.Dense

end
-- ==== Proof.PartialRegion.lean ====
/-
  The first TensorCore kernel over its whole grid: what its scratch buffers hold before each point, and the word it
  leaves, as functions of `x` and the targets.
-/
module

public import proofs.«01_k».proof.Proof.Partial
public import proofs.«01_k».proof.Proof.Gen.KernelIdeal.Launch
public import proofs.«01_k».proof.Proof.Gen.KernelIdeal.Points
public import Idealize.ShloMosaic.Lib.Pipeline.ValueKit
public import Idealize.ShloMosaic.Lib.SparseCore.Quiescent

@[expose] public section

noncomputable section

namespace Cert.KernelIdeal.Dense

open Cert.KernelIdeal Cert.KernelIdeal.Gen
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]
variable {U : Type} [URA U]

local notation "𝕄" => MT nD τ sig (HIx 1) (Elt F) ℕ U ℕ

/-! ## Values -/

/-- Point `n` of the grid (of points `0 … 47`). -/
def pointAt (n : ℕ) : grid0.Coords := fun | 0 => ⟨n % 48, Nat.mod_lt _ (by decide)⟩ | ⟨_ + 1, h⟩ => absurd h (Nat.not_lt.2 (Nat.le_add_left _ _))

/-- Columns `640 n … 640 n + 639` of `x`. -/
def colBlk (X : S4096x32000.Idx → F .f32) (n : ℕ) : S4096x640.Idx → F .f32 := fun y =>
  X (ValueIdx.ix2 (y 0) ⟨(640 * n + (y 1).val) % 32000, Nat.mod_lt _ (by decide)⟩)

/-- The running sum of columns before point `n`. -/
def sumAt (X : S4096x32000.Idx → F .f32) : ℕ → S4096x128.Idx → F .f32
  | 0 => k0_pay5
  | n + 1 => sumStep (colBlk X n) (sumAt X n)

/-- The running sum of picked entries before point `n`. -/
def pickAt (X : S4096x32000.Idx → F .f32) (T : S4096x1.Idx → BitVec 32) : ℕ → S4096x128.Idx → F .f32
  | 0 => k0_pay6
  | n + 1 => pickStep (pointAt n) T (colBlk X n) (pickAt X T n)

/-- What the kernel leaves. -/
def denseOut (X : S4096x32000.Idx → F .f32) (T : S4096x1.Idx → BitVec 32) : F .f32 :=
  lastWord T (firstCol (colBlk X 0)) (sumAt X 48) (pickAt X T 48)

theorem coords_val : ∀ t : Fin cfg0.N, (grid0.coords t 0).val = t.val :=
  (by decide +kernel : ∀ t : Fin grid0.N, (grid0.coords t 0).val = t.val)

theorem coords_eq (t : Fin cfg0.N) : grid0.coords t = pointAt t.val := by
  funext a
  match a with
  | ⟨0, _⟩ =>
    refine Fin.ext ((coords_val t).trans ?_)
    show t.val = t.val % 48
    have := t.isLt
    have hN : cfg0.N = 48 := N_0
    omega

theorem read_block0 (X : S4096x32000.Idx → F .f32) (t : Fin cfg0.N) : ((cfg0.win 0).blk t).view.read (Elt F) X = colBlk X t.val := by
  have ht : t.val < 48 := lt_of_lt_of_eq t.isLt N_0
  funext y
  have h1 : (y 1).val < 640 := (y 1).isLt
  have hc := coords_val t
  show X ((Rect.block (s := S4096x32000) S4096x640.size (cc0_transform_0 (grid0.coords t)) (hinb0_0 (grid0.coords t))).emb y) = _
  unfold colBlk
  refine congrArg X (funext fun a => Fin.ext ?_)
  match a with
  | ⟨0, _⟩ =>
    show 0 * 4096 + 1 * (y 0).val = (y 0).val
    omega
  | ⟨1, _⟩ =>
    show (BitVec.ofNat 32 (grid0.coords t 0).val).toNat * 640 + 1 * (y 1).val = (640 * t.val + (y 1).val) % 32000
    rw [hc, BitVec.toNat_ofNat, Nat.mod_eq_of_lt (by omega), Nat.mod_eq_of_lt (by omega)]
    omega

theorem read_block1 (T : S4096x1.Idx → BitVec 32) (t : Fin cfg0.N) : ((cfg0.win 1).blk t).view.read (Elt F) T = T := by
  funext y
  show T ((Rect.block (s := S4096x1) S4096x1.size (cc0_transform_1 (grid0.coords t)) (hinb0_1 (grid0.coords t))).emb y) = _
  refine congrArg T (funext fun a => Fin.ext ?_)
  match a with
  | ⟨0, _⟩ => show 0 * 4096 + 1 * (y 0).val = (y 0).val; omega
  | ⟨1, _⟩ => show 0 * 1 + 1 * (y 1).val = (y 1).val; omega

/-! ## The proof data -/

/-- The buffers of the other TensorCore kernel. -/
def Others (c : Dev nD) : sProp 𝕄 :=
  iprop((∃ f, ((c : Thread nD τ).loc cc2_stg1_0) ↦{fullShare} f) ∗ (∃ f, ((c : Thread nD τ).loc cc2_stg0_0) ↦{fullShare} f) ∗ (∃ f, ((c : Thread nD τ).loc cc2_stg2_0) ↦{fullShare} f))

/-- Before point `n`: the scratch buffers hold the running sums (anything before the first point). -/
def Before (c : Dev nD) (X : S4096x32000.Idx → F .f32) (T : S4096x1.Idx → BitVec 32) (n : ℕ) : sProp 𝕄 :=
  iprop((∃ A P Z, ⌜n ≠ 0 → A = sumAt X n ∧ P = pickAt X T n ∧ Z = firstCol (colBlk X 0)⌝
      ∗ Scratch c (Memref.whole cc0_scratch0) (Memref.whole cc0_scratch1) (Memref.whole cc0_scratch2) A P Z)
    ∗ Others c)

variable (O : Dev nD → CellTallies nD τ sig (HIx 1)) (R : Dev nD → Set (SemLoc sig × HIx 1))
variable (V : (c : Dev nD) → (b : Ref sig .tc) → Buf (Elt F) ((c : Thread nD τ).loc b))

def dat0 (c : Dev nD) : Dat τ (Elt F) (HIx 1) ℕ U ℕ cfg0 c where
  A w := V c (Pipeline.arrRef spec0 w)
  after w t := match w with
    | ⟨0, _⟩ => colBlk (V c main_arg0) t.val
    | ⟨1, _⟩ => V c main_v0
    | ⟨2, _⟩ => fun _ => denseOut (V c main_arg0) (V c main_v0)
  Φ t := Before c (V c main_arg0) (V c main_v0) t.val
  q _ := fullShare
  owed _ := O c
  recorded _ := R c

theorem before0_0 (c : Dev nD) (t : Fin cfg0.N) (d) : (dat0 (U := U) O R V c).before 0 t d = colBlk (V c main_arg0) t.val := by
  rw [(dat0 (U := U) O R V c).before_in_eq_fetched 0 rfl (fun _ => rfl) (fun _ _ _ => rfl) (fun t => (read_block0 (V c main_arg0) t).symm) t d]
  exact read_block0 (V c main_arg0) t

theorem before0_1 (c : Dev nD) (t : Fin cfg0.N) (d) : (dat0 (U := U) O R V c).before 1 t d = V c main_v0 := by
  rw [(dat0 (U := U) O R V c).before_in_eq_fetched 1 rfl (fun _ => rfl) (fun _ _ _ => rfl) (fun t => (read_block1 (F := F) (V c main_v0) t).symm) t d]
  exact read_block1 (F := F) (V c main_v0) t

theorem idle_iff (i : grid0.Coords) : (cfg0.idle 2 i) = !decide ((i 0).val = 47) := by
  have h : ∀ a : Fin 48, (!(Scalar.cmpi .ne (Scalar.extui (Scalar.cmpi .eq (BitVec.ofNat 32 a.val) 47#32) : BitVec 32) 0#32 == 1#1)) = !decide (a.val = 47) := by decide
  exact h (i 0)

theorem flush_iff (t : Fin cfg0.N) : (cfg0.win 2).flush t = decide (t.val = 47) := by
  have ht : t.val < 48 := lt_of_lt_of_eq t.isLt N_0
  have h := flush0_2 t
  by_cases h47 : t.val = 47
  · rw [h.mpr (by omega), decide_eq_true h47]
  · rw [decide_eq_false h47]
    exact Bool.eq_false_iff.mpr fun h' => h47 (by have := h.mp h'; omega)

theorem body0 (c : Dev nD) : BodyObligation (dat0 (U := U) O R V c) (defs₀ (F := F)) Variants.none none Set.univ := fun t => by
  have ht : t.val < 48 := lt_of_lt_of_eq t.isLt N_0
  rw [bigSep_W0, bigSep_W0]
  rw [show (dat0 (U := U) O R V c).Φ t.castSucc = Before c (V c main_arg0) (V c main_v0) t.val from rfl,
    show (dat0 (U := U) O R V c).Φ t.succ = Before c (V c main_arg0) (V c main_v0) (t.val + 1) from rfl,
    show (dat0 (U := U) O R V c).owesAt none t.succ = (dat0 (U := U) O R V c).owesAt none t.castSucc from rfl]
  change _ ⊢ WP c (bodyAt0 (F := F) t) _
  unfold Before
  iintro ⟨⟨⟨%A, %P, %Z, %hI, HS⟩, Hoth⟩, Howes, ⟨%d0, H0⟩, ⟨%d1, H1⟩, ⟨%d2, H2⟩⟩
  rw [before0_0, before0_1]
  have hA : (if (grid0.coords t 0).val = 0 then k0_pay5 else A) = sumAt (V c main_arg0) t.val := by
    rw [coords_val]
    by_cases h0 : t.val = 0
    · rw [if_pos h0, h0]; rfl
    · rw [if_neg h0, (hI h0).1]
  have hP : (if (grid0.coords t 0).val = 0 then k0_pay6 else P) = pickAt (V c main_arg0) (V c main_v0) t.val := by
    rw [coords_val]
    by_cases h0 : t.val = 0
    · rw [if_pos h0, h0]; rfl
    · rw [if_neg h0, (hI h0).2.1]
  have hZ : (if (grid0.coords t 0).val = 0 then firstCol (colBlk (V c main_arg0) t.val) else Z) = firstCol (colBlk (V c main_arg0) 0) := by
    rw [coords_val]
    by_cases h0 : t.val = 0
    · rw [if_pos h0, h0]
    · rw [if_neg h0, (hI h0).2.2]
  iapply (body_wp (grid0.coords t) _ _ _ _ _ _ _ _ _ _ _ _ hA hP hZ) $$ [H0 H1 H2 HS]
  · isplitl [H0]; · iexact H0
    isplitl [H1]; · iexact H1
    isplitl [H2] <;> iassumption
  iintro ⟨H0, H1, H2, HS⟩
  isplitl [HS Hoth]
  · isplitl [HS]
    · iexists (sumAt (V c main_arg0) (t.val + 1))
      iexists (pickAt (V c main_arg0) (V c main_v0) (t.val + 1))
      iexists (firstCol (colBlk (V c main_arg0) 0))
      isplitr
      · ipureintro; exact fun _ => ⟨rfl, rfl, rfl⟩
      rw [show pickAt (V c main_arg0) (V c main_v0) (t.val + 1) = pickStep (grid0.coords t) (V c main_v0) (colBlk (V c main_arg0) t.val) (pickAt (V c main_arg0) (V c main_v0) t.val) by
        rw [coords_eq]; rfl]
      iexact HS
    · iexact Hoth
  isplitl [Howes]; · iexact Howes
  isplitl [H0]; · iexact H0
  isplitl [H1]; · iexact H1
  by_cases h : t.val = 47
  · rw [if_pos ((coords_val t).trans h)]
    have hi : cfg0.idle 2 (cfg0.grid.coords t) = false := (idle_iff _).trans (by rw [coords_val, h]; rfl)
    rw [hi]
    rw [show (dat0 (U := U) O R V c).after 2 t = fun _ => lastWord (V c main_v0) (firstCol (colBlk (V c main_arg0) 0)) (sumStep (colBlk (V c main_arg0) t.val) (sumAt (V c main_arg0) t.val))
        (pickStep (grid0.coords t) (V c main_v0) (colBlk (V c main_arg0) t.val) (pickAt (V c main_arg0) (V c main_v0) t.val)) by
      rw [coords_eq, h]; rfl]
    iexact H2
  · rw [if_neg (fun h' => h ((coords_val t).symm.trans h'))]
    have hi : cfg0.idle 2 (cfg0.grid.coords t) = true := (idle_iff _).trans (by rw [coords_val, decide_eq_false h]; rfl)
    have hf : (cfg0.win 2).flush t = false := (flush_iff t).trans (decide_eq_false h)
    rw [hi, hf]
    iexists d2
    iexact H2

end Cert.KernelIdeal.Dense

end
-- ==== Proof.DenseRegions.lean ====
/-
  The second TensorCore kernel (one point: the first kernel's word plus the sum of the tiles' results), and both kernels
  as regions of the host program: from every unscoped buffer at a valuation to every unscoped buffer at the valuation
  with the kernel's result replaced.
-/
module

public import proofs.«01_k».proof.Proof.PartialRegion
public import proofs.«01_k».proof.Proof.TileCopies
public import Idealize.ShloMosaic.Lib.Pipeline.RegionsLoop

@[expose] public section

noncomputable section

namespace Cert.KernelIdeal.Dense

open Cert.KernelIdeal Cert.KernelIdeal.Gen
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal.Sparse (K)

variable {F : FTy → Type} [FloatOps F] [Named F]
variable {U : Type} [URA U]

local notation "𝕄" => MT nD τ sig (HIx 1) (Elt F) ℕ U ℕ

section
variable {c : Dev nD} (arg0 : Memref sig .tc .smem S1x1 .f32) (harg0 : arg0.IsWhole) (arg1 : Memref sig .tc .vmem S32x16 .f32) (harg1 : arg1.IsWhole)
  (arg2 : Memref sig .tc .smem S1x1 .f32) (harg2 : arg2.IsWhole) {W O : S1x1.Idx → F .f32} {B : S32x16.Idx → F .f32}

theorem combine_wp {Q : PUnit → sProp 𝕄} :
    iprop(Has c arg0 W ∗ Has c arg1 B ∗ Has c arg2 O)
      ⊢ iprop((iprop(Has c arg0 W ∗ Has c arg1 B ∗ Has c arg2 (fun _ => k2_pay1 (W only) B)) -∗ Q ⟨⟩)
        -∗ WP c (cc2__combine_body (F := F) arg0 harg0 arg1 harg1 arg2 harg2) Q) := by
  rw [cc2__combine_body_eq_skeleton]
  unfold cc2__combine_body_skel
  iintro ⟨HW, HB, HO⟩ Hk
  iapply (word_has (hp := rfl)) $$ HW
  iintro HW
  iapply load_all $$ HB
  iintro HB
  iapply (word_has (hp := rfl)) $$ HO
  iintro HO
  iapply store_all $$ HO
  iintro HO
  iapply WP_ret
  iapply Hk
  isplitl [HW]; · iexact HW
  isplitl [HB]; · iexact HB
  iexact HO

end

variable (O : Dev nD → CellTallies nD τ sig (HIx 1)) (R : Dev nD → Set (SemLoc sig × HIx 1))
variable (V : (c : Dev nD) → (b : Ref sig .tc) → Buf (Elt F) ((c : Thread nD τ).loc b))

/-- The scoped buffers the second kernel does not stage. -/
abbrev Idle2 (c : Dev nD) : sProp 𝕄 := Pipeline.scopedRest (Ix := HIx 1) (Name := ℕ) (U := U) (Lvl := ℕ) (Val := Elt F) spec2 c

def dat2 (c : Dev nD) : Dat τ (Elt F) (HIx 1) ℕ U ℕ cfg2 c where
  A w := V c (Pipeline.arrRef spec2 w)
  after w _ := match w with
    | ⟨0, _⟩ => V c main_v1
    | ⟨1, _⟩ => V c main_v2
    | ⟨2, _⟩ => fun _ => k2_pay1 ((V c main_v1 : S1x1.Idx → F .f32) only) (V c main_v2)
  Φ _ := Idle2 c
  q _ := fullShare
  owed _ := O c
  recorded _ := R c

theorem block2_0 (W : S1x1.Idx → F .f32) : ((cfg2.win 0).blk t2_0).view.read (Elt F) W = W := by
  funext y
  show W _ = W y
  exact congrArg W ((eq_only _).trans (eq_only y).symm)

theorem block2_1 (B : S32x16.Idx → F .f32) : ((cfg2.win 1).blk t2_0).view.read (Elt F) B = B := by
  funext y
  show B _ = B y
  refine congrArg B (funext fun a => Fin.ext ?_)
  match a with
  | ⟨0, _⟩ => show 0 * 32 + 1 * (y 0).val = (y 0).val; omega
  | ⟨1, _⟩ => show 0 * 16 + 1 * (y 1).val = (y 1).val; omega

theorem before2_0 (c : Dev nD) (d) : (dat2 (U := U) O R V c).before 0 t2_0 d = V c main_v1 := by
  rw [(dat2 (U := U) O R V c).before_fetched 0 t2_0 (fetch2_0 t2_0) d]
  exact block2_0 (V c main_v1)

theorem before2_1 (c : Dev nD) (d) : (dat2 (U := U) O R V c).before 1 t2_0 d = V c main_v2 := by
  rw [(dat2 (U := U) O R V c).before_fetched 1 t2_0 (fetch2_1 t2_0) d]
  exact block2_1 (V c main_v2)

theorem body2 (c : Dev nD) : BodyObligation (dat2 (U := U) O R V c) (defs₀ (F := F)) Variants.none none Set.univ := fun t => by
  obtain rfl := fin_N2 t
  rw [bigSep_W2, bigSep_W2]
  rw [show (dat2 (U := U) O R V c).Φ t2_0.castSucc = Idle2 c from rfl, show (dat2 (U := U) O R V c).Φ t2_0.succ = Idle2 c from rfl,
    show (dat2 (U := U) O R V c).owesAt none t2_0.succ = (dat2 (U := U) O R V c).owesAt none t2_0.castSucc from rfl]
  change _ ⊢ WP c (bodyAt2 (F := F) t2_0) _
  iintro ⟨HΦ, Howes, ⟨%d0, H0⟩, ⟨%d1, H1⟩, ⟨%d2, H2⟩⟩
  rw [before2_0, before2_1]
  iapply (combine_wp _ _ _ _ _ _) $$ [H0 H1 H2]
  · isplitl [H0]; · iexact H0
    isplitl [H1] <;> iassumption
  iintro ⟨H0, H1, H2⟩
  isplitl [HΦ]; · iexact HΦ
  isplitl [Howes]; · iexact Howes
  isplitl [H0]; · iexact H0
  isplitl [H1]; · iexact H1
  iexact H2

/-! ## The arrays the kernels leave -/

theorem out0 (c : Dev nD) : (dat0 (U := U) O R V c).arrAt 2 cfg0.N = fun _ => denseOut (V c main_arg0) (V c main_v0) :=
  (dat0 (U := U) O R V c).arrAt_eq_of_after_last 2 (Fin.mk (n := grid0.N) 47 (by decide)) (by decide +kernel) _ fun _ => rfl

theorem out2 (c : Dev nD) : (dat2 (U := U) O R V c).arrAt 2 cfg2.N = fun _ => k2_pay1 ((V c main_v1 : S1x1.Idx → F .f32) only) (V c main_v2) :=
  (dat2 (U := U) O R V c).arrAt_eq_of_after_last 2 t2_0 (by decide +kernel) _ fun _ => rfl

/-! ## The regions -/

/-- The two kernels take no prefetched table. -/
abbrev adm : (p : Fin 2) → (pcfgs (F := F) p).Adm := fun p => (cfgs p).toPCfg_adm

def pdats : (p : Fin 2) → (c : Dev nD) → Dat τ (Elt F) (HIx 1) ℕ U ℕ (Pipeline.pin (pcfgs (F := F)) adm p) c
  | ⟨0, _⟩ => fun c => dat0 O R V c
  | ⟨1, _⟩ => fun c => dat2 O R V c

/-- What the TensorCore owes, with the pairs it has recorded. -/
def Dues (c : Dev nD) : sProp 𝕄 := iprop(∃ W : Waits sig (HIx 1), ⌜(↑W : Set (SemLoc sig × HIx 1)) ⊆ R c⌝ ∗ owes (c : Thread nD τ) (O c) W)

/-- Every unscoped buffer at a valuation, and what is owed. -/
def State (c : Dev nD) : sProp 𝕄 := iprop(unscopedBufs c (V c) ∗ Dues O R c)

theorem scratch_of (c : Dev nD) :
    (Pipeline.scopedRest (Ix := HIx 1) (Name := ℕ) (U := U) (Lvl := ℕ) (Val := Elt F) spec0 c : sProp 𝕄) ⊢ Before c (V c main_arg0) (V c main_v0) 0 := by
  rw [scopedRest0_eq]
  unfold Before Scratch Others Has
  simp only [owns_whole_eq]
  iintro ⟨⟨%A, HA⟩, ⟨%P, HP⟩, ⟨%Z, HZ⟩, Ho⟩
  isplitr [Ho]
  · iexists A, P, Z
    isplitr
    · ipureintro; exact fun h => absurd rfl h
    isplitl [HA]
    · iexists A; isplitr; · ipureintro; rfl
      iexact HA
    isplitl [HP]
    · iexists P; isplitr; · ipureintro; rfl
      iexact HP
    iexists Z; isplitr; · ipureintro; rfl
    iexact HZ
  · iexact Ho

theorem scratch_to (c : Dev nD) (n : ℕ) :
    Before c (V c main_arg0) (V c main_v0) n ⊢ (Pipeline.scopedRest (Ix := HIx 1) (Name := ℕ) (U := U) (Lvl := ℕ) (Val := Elt F) spec0 c : sProp 𝕄) := by
  rw [scopedRest0_eq]
  unfold Before Scratch Others Has
  simp only [owns_whole_eq]
  iintro ⟨⟨%A, %P, %Z, -, ⟨%fA, -, HA⟩, ⟨%fP, -, HP⟩, ⟨%fZ, -, HZ⟩⟩, Ho⟩
  isplitl [HA]; · iexists fA; iexact HA
  isplitl [HP]; · iexists fP; iexact HP
  isplitl [HZ]; · iexists fZ; iexact HZ
  iexact Ho

variable (Vp : (c : Dev nD) → (b : Ref sig .tc) → Buf (Elt F) ((c : Thread nD τ).loc b))

set_option backward.isDefEq.respectTransparency.types false in
def reg0 (hO : ∀ c g, O c g none = 0) (hR : ∀ c, cfg0.waitPairs none ⊆ R c)
    (hout : ∀ c, Vp c main_v1 = fun _ => denseOut (V c main_arg0) (V c main_v0)) (hne : ∀ c (b : Ref sig .tc), b ≠ main_v1 → Vp c b = V c b) :
    Pipeline.RegionSeg (pcfgs (F := F)) adm (pdats (U := U) O R V) none defs₀ Variants.none (K (F := F)).L (K (F := F)).lev 0 where
  win := launch0.win.to₀
  block_pos := launch0.block_pos
  stage_whole := launch0.stage_whole
  K := PEmpty
  osem k := k.elim
  ho := Pipeline.OwnSemFacts.none _
  hbody c := (body0 O R V c).loose
  hwaits c := Pipeline.cellsWaits_intro _ _ _ _ _ fun w s t => (K (F := F)).mayWait_none _ (hO c)
  pre := State O R V
  post := State O R Vp
  X _ := BI.emp
  Y _ := BI.emp
  Z c := Pipeline.unscopedRest (Ix := HIx 1) (Name := ℕ) (U := U) (Lvl := ℕ) spec0 c (V c)
  hentry c := by
    rw [Pipeline.ownSems0_none]
    have hsplit := Pipeline.arrays_of_unscopedBufs (p := 0) (pcfgs (F := F)) adm (pdats (U := U) O R V) launch0.win launch0.arr_whole c
      ((pdats (U := U) O R V 0 c).share_full fun _ => rfl) (V c) fun _ => rfl
    unfold State Dues
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact hW.trans Set.subset_union_left
      iexact HO
    isplitr; · iempintro
    iexact Hrest
  hin c := by
    rw [show (pdats (U := U) O R V 0 c).Φ 0 = Before c (V c main_arg0) (V c main_v0) 0 from rfl]
    iintro ⟨-, -, Hr⟩
    iapply (scratch_of V c)
    iexact Hr
  hout c := by
    rw [Pipeline.ownSems0_none, show (pdats (U := U) O R V 0 c).Φ (Fin.last _) = Before c (V c main_arg0) (V c main_v0) cfg0.N from rfl]
    iintro Hr
    isplitr; · iempintro
    isplitr; · iempintro
    iapply (scratch_to V c)
    iexact Hr
  hexit c := by
    have hjoin := Pipeline.unscopedBufs_of_arrays (p := 0) (pcfgs (F := F)) adm (Ix := HIx 1) (Name := ℕ) (U := U) (Lvl := ℕ) launch0.win launch0.arr_whole c
      (pdats (U := U) O R V) ((pdats (U := U) O R V 0 c).share_full fun _ => rfl) (V c) (Vp c) ((pdats (U := U) O R V 0 c).arrAt · cfg0.N)
      (fun w => by
        fin_cases w
        · exact ((pdats (U := U) O R V 0 c).arrAt_in 0 rfl _).trans (hne c main_arg0 (by decide)).symm
        · exact ((pdats (U := U) O R V 0 c).arrAt_in 1 rfl _).trans (hne c main_v0 (by decide)).symm
        · exact (out0 O R V c).trans (hout c).symm)
      (fun b hb => hne c b fun h => hb (h ▸ Finset.mem_image.mpr ⟨2, Finset.mem_univ _, rfl⟩))
    unfold State Dues
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro; exact hW.trans (Set.union_subset (fun _ h => h) (hR c))
    iexact HO

set_option backward.isDefEq.respectTransparency.types false in
def reg2 (hO : ∀ c g, O c g none = 0) (hR : ∀ c, cfg2.waitPairs none ⊆ R c)
    (hout : ∀ c, Vp c main_v3 = fun _ => k2_pay1 ((V c main_v1 : S1x1.Idx → F .f32) only) (V c main_v2)) (hne : ∀ c (b : Ref sig .tc), b ≠ main_v3 → Vp c b = V c b) :
    Pipeline.RegionSeg (pcfgs (F := F)) adm (pdats (U := U) O R V) none defs₀ Variants.none (K (F := F)).L (K (F := F)).lev 1 where
  win := launch2.win.to₀
  block_pos := launch2.block_pos
  stage_whole := launch2.stage_whole
  K := PEmpty
  osem k := k.elim
  ho := Pipeline.OwnSemFacts.none _
  hbody c := (body2 O R V c).loose
  hwaits c := Pipeline.cellsWaits_intro _ _ _ _ _ fun w s t => (K (F := F)).mayWait_none _ (hO c)
  pre := State O R V
  post := State O R Vp
  X _ := BI.emp
  Y _ := BI.emp
  Z c := Pipeline.unscopedRest (Ix := HIx 1) (Name := ℕ) (U := U) (Lvl := ℕ) spec2 c (V c)
  hentry c := by
    rw [Pipeline.ownSems0_none]
    have hsplit := Pipeline.arrays_of_unscopedBufs (p := 1) (pcfgs (F := F)) adm (pdats (U := U) O R V) launch2.win launch2.arr_whole c
      ((pdats (U := U) O R V 1 c).share_full fun _ => rfl) (V c) fun _ => rfl
    unfold State Dues
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact hW.trans Set.subset_union_left
      iexact HO
    isplitr; · iempintro
    iexact Hrest
  hin c := by
    rw [show (pdats (U := U) O R V 1 c).Φ 0 = Idle2 c from rfl]
    iintro ⟨-, -, Hr⟩
    iexact Hr
  hout c := by
    rw [Pipeline.ownSems0_none, show (pdats (U := U) O R V 1 c).Φ (Fin.last _) = Idle2 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := U) (Lvl := ℕ) launch2.win launch2.arr_whole c
      (pdats (U := U) O R V) ((pdats (U := U) O R V 1 c).share_full fun _ => rfl) (V c) (Vp c) ((pdats (U := U) O R V 1 c).arrAt · cfg2.N)
      (fun w => by
        fin_cases w
        · exact ((pdats (U := U) O R V 1 c).arrAt_in 0 rfl _).trans (hne c main_v1 (by decide)).symm
        · exact ((pdats (U := U) O R V 1 c).arrAt_in 1 rfl _).trans (hne c main_v2 (by decide)).symm
        · exact (out2 O R V c).trans (hout c).symm)
      (fun b hb => hne c b fun h => hb (h ▸ Finset.mem_image.mpr ⟨2, Finset.mem_univ _, rfl⟩))
    unfold State Dues
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro; exact hW.trans (Set.union_subset (fun _ h => h) (hR c))
    iexact HO

end Cert.KernelIdeal.Dense

end
-- ==== Proof.HostRun.lean ====
/-
  The host program on a device's TensorCore: the targets reshaped, the first TensorCore kernel, the SparseCore call, the
  second TensorCore kernel, its word reshaped to the result. Every unscoped buffer is followed from stage to stage.
-/
module

public import proofs.«01_k».proof.Proof.TileTask
public import proofs.«01_k».proof.Proof.DenseRegions
public import Idealize.ShloMosaic.Lib.StableHlo.Run

@[expose] public section

noncomputable section

namespace Cert.KernelIdeal.Launch

open Cert.KernelIdeal Cert.KernelIdeal.Gen Cert.KernelIdeal.Sparse
open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Dense (adm pdats reg0 reg2 State Dues denseOut only)

variable {F : FTy → Type} [FloatOps F] [Named F]

local notation "𝕄" => MT nD τ sig (HIx 1) (Elt F) ℕ UU ℕ

/-! ## The contents of the buffers, stage by stage -/

/-- The TensorCore's unscoped buffers. -/
def ucRefs : Finset (DevRef τ sig) := (StableHlo.tcRefs τ sig).filter fun b => ¬ b.isScoped

theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

abbrev castTargets : HloOp τ sig (Elt F) :=
  StableHlo.reshape main_arg1 main_v0 (rfl : (.i32 : EltTy) = .i32) shapeCasts_S4096_S4096x1
abbrev castResult : HloOp τ sig (Elt F) :=
  StableHlo.reshape main_v3 main_v4 (rfl : (.f32 : EltTy) = .f32) shapeCasts_S1x1_S_

section
variable (m : (ℓ : Loc nD τ sig) → Buf (Elt F) ℓ) (d : Dev nD)

/-- The targets as a column. -/
abbrev column : S4096x1.Idx → BitVec 32 := shapeCast S4096x1 (m (tLoc d) : S4096.Idx → BitVec 32) shapeCasts_S4096_S4096x1
/-- The first kernel's word. -/
abbrev denseWord : F .f32 := denseOut (m (xLoc d) : S4096x32000.Idx → F .f32) (column m d)
/-- The second kernel's word, and the result. -/
def total : F .f32 := k2_pay1 (denseWord m d) (sums m d)

def V0 : Valuation τ sig (Elt F) := fun b => m (d, b)
def V1 : Valuation τ sig (Elt F) := (castTargets (F := F)).result (V0 m d)
def V2 : Valuation τ sig (Elt F) := Function.update (V1 m d) (Proc.devRef .tc main_v1) (fun _ => denseWord m d : S1x1.Idx → F .f32)
def V3 : Valuation τ sig (Elt F) := Function.update (V2 m d) (Proc.devRef .tc main_v2) (sums m d)
def V4 : Valuation τ sig (Elt F) := Function.update (V3 m d) (Proc.devRef .tc main_v3) (fun _ => total m d : S1x1.Idx → F .f32)
def V5 : Valuation τ sig (Elt F) := (castResult (F := F)).result (V4 m d)

theorem ref_ne {a b : Ref sig .tc} (h : a ≠ b) : (Proc.devRef (.tc : Proc τ) a) ≠ Proc.devRef .tc b := fun e => h (Proc.devRef_injective _ e)

theorem V1_of {b : Ref sig .tc} (h : b ≠ main_v0) : V1 m d (Proc.devRef .tc b) = m (d, Proc.devRef .tc b) :=
  StableHlo.reshape_result_ne' _ _ _ _ _ h
theorem V1_v0 : V1 m d (Proc.devRef .tc main_v0) = column m d := StableHlo.reshape_result' _ _ _ _ _
theorem V2_v1 : V2 m d (Proc.devRef .tc main_v1) = (fun _ => denseWord m d : S1x1.Idx → F .f32) := Function.update_self _ _ _
theorem V2_of {b : Ref sig .tc} (h : b ≠ main_v1) : V2 m d (Proc.devRef .tc b) = V1 m d (Proc.devRef .tc b) := Function.update_of_ne (ref_ne h) _ _
theorem V3_v2 : V3 m d (Proc.devRef .tc main_v2) = sums m d := Function.update_self _ _ _
theorem V3_of {b : Ref sig .tc} (h : b ≠ main_v2) : V3 m d (Proc.devRef .tc b) = V2 m d (Proc.devRef .tc b) := Function.update_of_ne (ref_ne h) _ _
theorem V4_v3 : V4 m d (Proc.devRef .tc main_v3) = (fun _ => total m d : S1x1.Idx → F .f32) := Function.update_self _ _ _
theorem V4_of {b : Ref sig .tc} (h : b ≠ main_v3) : V4 m d (Proc.devRef .tc b) = V3 m d (Proc.devRef .tc b) := Function.update_of_ne (ref_ne h) _ _
theorem V5_of {b : Ref sig .tc} (h : b ≠ main_v4) : V5 m d (Proc.devRef .tc b) = V4 m d (Proc.devRef .tc b) :=
  StableHlo.reshape_result_ne' _ _ _ _ _ h
theorem V5_v4 : V5 m d (Proc.devRef .tc main_v4) = (fun _ => total m d : S_.Idx → F .f32) := by
  refine (StableHlo.reshape_result' _ _ _ _ _).trans ?_
  rw [V4_v3]
  rfl

theorem V2_arg0 : V2 m d (Proc.devRef .tc main_arg0) = m (xLoc d) := (V2_of m d (by decide)).trans (V1_of m d (by decide))
theorem V2_arg1 : V2 m d (Proc.devRef .tc main_arg1) = m (tLoc d) := (V2_of m d (by decide)).trans (V1_of m d (by decide))
theorem V2_v2 : V2 m d (Proc.devRef .tc main_v2) = m (oLoc d) := (V2_of m d (by decide)).trans (V1_of m d (by decide))
theorem V5_arg0 : V5 m d (Proc.devRef .tc main_arg0) = m (xLoc d) :=
  ((V5_of m d (by decide)).trans (V4_of m d (by decide))).trans ((V3_of m d (by decide)).trans (V2_arg0 m d))
theorem V5_arg1 : V5 m d (Proc.devRef .tc main_arg1) = m (tLoc d) :=
  ((V5_of m d (by decide)).trans (V4_of m d (by decide))).trans ((V3_of m d (by decide)).trans (V2_arg1 m d))

theorem mem_uc {b : Ref sig .tc} (h : ¬ (Proc.devRef (.tc : Proc τ) b).isScoped) : Proc.devRef (.tc : Proc τ) b ∈ ucRefs :=
  Finset.mem_filter.mpr ⟨Finset.mem_map.mpr ⟨b, Finset.mem_univ _, rfl⟩, h⟩

theorem castTargets_sub : (castTargets (F := F)).bufs ⊆ ucRefs := by
  intro b hb
  rcases Finset.mem_insert.mp (show b ∈ ({Proc.devRef .tc main_arg1, Proc.devRef .tc main_v0} : Finset (DevRef τ sig)) from hb) with rfl | hb
  · exact mem_uc (by decide)
  · rw [Finset.mem_singleton.mp hb]; exact mem_uc (by decide)

theorem castResult_sub : (castResult (F := F)).bufs ⊆ ucRefs := by
  intro b hb
  rcases Finset.mem_insert.mp (show b ∈ ({Proc.devRef .tc main_v3, Proc.devRef .tc main_v4} : Finset (DevRef τ sig)) from hb) with rfl | hb
  · exact mem_uc (by decide)
  · rw [Finset.mem_singleton.mp hb]; exact mem_uc (by decide)

theorem bufs_start : (unscopedBufs d (fun b => m ((SparseCore.T d).loc b)) : sProp 𝕄) = StableHlo.held (d : Thread nD τ) ucRefs (V0 m d) := by
  have e : (fun b : Ref sig .tc => V0 m d (Proc.devRef .tc b)) = fun b => m ((SparseCore.T d).loc b) := by
    funext b
    unfold V0
    rfl
  rw [← e]
  exact unscopedBufs_held d (V0 m d)
theorem bufs_column : (StableHlo.held (SparseCore.T d : Thread nD τ) ucRefs ((castTargets (F := F)).result (V0 m d)) : sProp 𝕄) = unscopedBufs d (fun b => V1 m d b) :=
  (unscopedBufs_held d (V1 m d)).symm
theorem bufs_end : (StableHlo.held (SparseCore.T d : Thread nD τ) ucRefs ((castResult (F := F)).result (V4 m d)) : sProp 𝕄) = unscopedBufs d (fun b => V5 m d b) :=
  (unscopedBufs_held d (V5 m d)).symm

/-! ## Three buffers out of all of them -/

/-- The buffers besides the operands and the result of the SparseCore call. -/
def rest (W : Valuation τ sig (Elt F)) : sProp 𝕄 :=
  iprop((((d : Thread nD τ).loc main_v0) ↦{fullShare} W (Proc.devRef .tc main_v0)) ∗ (((d : Thread nD τ).loc main_v1) ↦{fullShare} W (Proc.devRef .tc main_v1))
    ∗ (((d : Thread nD τ).loc main_v3) ↦{fullShare} W (Proc.devRef .tc main_v3)) ∗ (((d : Thread nD τ).loc main_v4) ↦{fullShare} W (Proc.devRef .tc main_v4)))

theorem bufs_eq (W : Valuation τ sig (Elt F)) :
    (unscopedBufs d (fun b => W b) : sProp 𝕄)
      = iprop((tLoc d ↦{fullShare} W (Proc.devRef .tc main_arg1)) ∗ (xLoc d ↦{fullShare} W (Proc.devRef .tc main_arg0)) ∗ (oLoc d ↦{fullShare} W (Proc.devRef .tc main_v2))
        ∗ rest d W) := by
  unfold unscopedBufs rest
  rw [show (Finset.univ.filter fun b : Ref sig .tc => ¬ b.isScoped) = {main_arg1, main_arg0, main_v2, main_v0, main_v1, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

theorem rest_V3 : (rest d (V3 m d) : sProp 𝕄) = rest d (V2 m d) := by
  unfold rest
  rw [V3_of m d (by decide), V3_of m d (by decide), V3_of m d (by decide), V3_of m d (by decide)]

end

/-! ## A TensorCore kernel within the host program -/

/-- What the TensorCore owes before call `n`, and the waits it may have recorded. -/
def owed (n : ℕ) : Dev nD → CellTallies nD τ sig (HIx 1) := fun d => (K (F := F)).Otc d n
def recorded (n : ℕ) : Dev nD → Set (SemLoc sig × HIx 1) := fun d => {p | (K (F := F)).lev (T d, p.1) p.2 ≤ 8 * n}

theorem owed_none (n : ℕ) (d : Dev nD) (g : GSem nD τ sig) : owed (F := F) n d g none = 0 := by
  by_contra h
  have := (K (F := F)).lev_of_Otc_pos (Nat.pos_of_ne_zero h)
  rw [SparseCore.Cfg.lev_none] at this
  omega

theorem recorded_of {n : ℕ} {d : Dev nD} {p : SemLoc sig × HIx 1} (h : p.2 = none) : p ∈ recorded (F := F) n d := by
  show (K (F := F)).lev (T d, p.1) p.2 ≤ 8 * n
  rw [h, SparseCore.Cfg.lev_none]
  exact Nat.zero_le _

/-- What the TensorCore owes, taken out of its state between calls and put back. -/
theorem dues (d : Dev nD) (n : ℕ) :
    ((K (F := F)).tcSt EH d n : sProp 𝕄) ⊢ iprop(Dues (owed (F := F) n) (recorded (F := F) n) d
      ∗ (Dues (owed (F := F) n) (recorded (F := F) n) d -∗ (K (F := F)).tcSt EH d n)) := by
  unfold SparseCore.Cfg.tcSt Dues
  iintro ⟨⟨%W, %hW, HO⟩, Hr⟩
  isplitl [HO]
  · iexists W
    isplitr
    · ipureintro; exact fun p hp => hW p (Finset.mem_coe.mp hp)
    · iexact HO
  iintro ⟨%W', %hW', HO⟩
  isplitl [HO]
  · iexists W'
    isplitr
    · ipureintro; exact fun p hp => hW' (Finset.mem_coe.mpr hp)
    · iexact HO
  · iexact Hr

/-- A program that ends at once. -/
theorem ret_after {A : sProp 𝕄} {Λ' : Labels} {Df : Defs nD τ sig (Elt F) Λ'} {𝒱' : Variants} {bd : Option 𝒱'.V} (d : Dev nD) {Q : PUnit → sProp 𝕄}
    {B : sProp 𝕄} (h : A ⊢ B) :
    iprop(B -∗ Q ⟨⟩) ⊢ iprop(A -∗ wp frame (wpE Df 𝒱' (d : Thread nD τ) bd) Set.univ (.ret ⟨⟩) Q) := by
  rw [wp_ret]
  iintro Hk H
  ihave H := h $$ H
  imodintro
  iapply Hk
  iexact H

set_option backward.isDefEq.respectTransparency.types false in
/-- A TensorCore kernel called from the host program. -/
theorem region_wp {O : Dev nD → CellTallies nD τ sig (HIx 1)} {R : Dev nD → Set (SemLoc sig × HIx 1)}
    {V : (c : Dev nD) → (b : Ref sig .tc) → Buf (Elt F) ((c : Thread nD τ).loc b)} {p : Fin 2}
    (seg : Pipeline.RegionSeg (pcfgs (F := F)) adm (pdats (U := UU) O R V) none defs₀ Variants.none (K (F := F)).L (K (F := F)).lev p)
    (d : Dev nD) {Q : PUnit → sProp 𝕄} :
    iprop((iprop(boundary (d : Thread nD τ) ∗ seg.post d) -∗ Q ⟨⟩) ∗ boundary (d : Thread nD τ) ∗ seg.pre d ∗ levAts (K (F := F)).L (K (F := F)).lev
        ∗ Pipeline.cellsGhost (Pipeline.pin (pcfgs (F := F)) adm) EK p d ∗ Pipeline.toksInit (Pipeline.pin (pcfgs (F := F)) adm) EK p d)
      ⊢ wp frame (wpE ((K (F := F)).defs (D (F := F))) 𝒱 (T d) none) Set.univ
          (Prog.lift (.customCall (SparseCore.inner (Pipeline.entry p)) ())) Q := by
  refine BI.Entails.trans ?_ ((K (F := F)).wp_liftProg (D (F := F)) 𝒱 (T d) Set.univ none
    (Prog.lift (.customCall (Pipeline.entry p) ())) Q)
  refine BI.Entails.trans ?_ (Pipeline.RegionSeg.wp (pcfgs (F := F)) adm (pdats (U := UU) O R V) none cellOf_inj EK defs₀ Variants.none
    (K (F := F)).L (K (F := F)).lev seg d none (fun _ h => nomatch h) .ret Q)
  refine sep_mono_left (ret_after d ?_)
  exact .rfl

/-- The two kernels' ghost state, as the launch deals it. -/
def Ghost (d : Dev nD) : sProp 𝕄 :=
  iprop((bigSep Finset.univ fun p : Fin 2 => Pipeline.cellsGhost (Pipeline.pin (pcfgs (F := F)) adm) EK p d)
    ∗ (bigSep Finset.univ fun p : Fin 2 => Pipeline.toksInit (Pipeline.pin (pcfgs (F := F)) adm) EK p d))

theorem two (Φ : Fin 2 → sProp 𝕄) : (bigSep Finset.univ Φ : sProp 𝕄) = iprop(Φ 0 ∗ Φ 1) := by
  rw [show (Finset.univ : Finset (Fin 2)) = {0, 1} from rfl, SparseCore.bigSep_insert' (by decide), bigSep_singleton]

section
variable (m : (ℓ : Loc nD τ sig) → Buf (Elt F) ℓ) (g : Dev nD → PrngReg)

/-- The first kernel, from the reshaped targets; the second, from the partial sums. -/
def first : Pipeline.RegionSeg (pcfgs (F := F)) adm (pdats (U := UU) (owed (F := F) 0) (recorded (F := F) 0) fun c b => V1 m c (Proc.devRef .tc b)) none defs₀ Variants.none
    (K (F := F)).L (K (F := F)).lev 0 :=
  reg0 _ _ _ (fun c b => V2 m c (Proc.devRef .tc b)) (owed_none 0) (fun c p hp => by obtain ⟨w, s, rfl⟩ := hp; exact recorded_of rfl)
    (fun c => by
      have h0 : V1 m c (Proc.devRef .tc main_arg0) = m (xLoc c) := V1_of m c (by decide)
      have h1 := V1_v0 m c
      refine (V2_v1 m c).trans ?_
      show _ = fun _ => denseOut (V1 m c (Proc.devRef .tc main_arg0)) (V1 m c (Proc.devRef .tc main_v0))
      rw [h0, h1])
    (fun c b hb => V2_of m c hb)

def second : Pipeline.RegionSeg (pcfgs (F := F)) adm (pdats (U := UU) (owed (F := F) 1) (recorded (F := F) 1) fun c b => V3 m c (Proc.devRef .tc b)) none defs₀ Variants.none
    (K (F := F)).L (K (F := F)).lev 1 :=
  reg2 _ _ _ (fun c b => V4 m c (Proc.devRef .tc b)) (owed_none 1) (fun c p hp => by obtain ⟨w, s, rfl⟩ := hp; exact recorded_of rfl)
    (fun c => by
      have h1 : V3 m c (Proc.devRef .tc main_v1) = (fun _ => denseWord m c : S1x1.Idx → F .f32) := (V3_of m c (by decide)).trans (V2_v1 m c)
      have h2 := V3_v2 m c
      refine (V4_v3 m c).trans ?_
      show _ = fun _ => k2_pay1 ((V3 m c (Proc.devRef .tc main_v1) : S1x1.Idx → F .f32) only) (V3 m c (Proc.devRef .tc main_v2))
      rw [h1, h2]
      rfl)
    (fun c b hb => V4_of m c hb)

theorem first_wp (d : Dev nD) {Q : PUnit → sProp 𝕄} :
    iprop((iprop(boundary (d : Thread nD τ) ∗ unscopedBufs d (fun b => V2 m d b) ∗ Dues (owed (F := F) 0) (recorded (F := F) 0) d) -∗ Q ⟨⟩)
        ∗ boundary (d : Thread nD τ) ∗ (unscopedBufs d (fun b => V1 m d b) ∗ Dues (owed (F := F) 0) (recorded (F := F) 0) d) ∗ levAts (K (F := F)).L (K (F := F)).lev
        ∗ Pipeline.cellsGhost (Pipeline.pin (pcfgs (F := F)) adm) EK 0 d ∗ Pipeline.toksInit (Pipeline.pin (pcfgs (F := F)) adm) EK 0 d)
      ⊢ wp frame (wpE ((K (F := F)).defs (D (F := F))) 𝒱 (T d) none) Set.univ
          (Prog.lift (.customCall (SparseCore.inner (Pipeline.entry 0)) ())) Q := region_wp (first m) d

theorem second_wp (d : Dev nD) {Q : PUnit → sProp 𝕄} :
    iprop((iprop(boundary (d : Thread nD τ) ∗ unscopedBufs d (fun b => V4 m d b) ∗ Dues (owed (F := F) 1) (recorded (F := F) 1) d) -∗ Q ⟨⟩)
        ∗ boundary (d : Thread nD τ) ∗ (unscopedBufs d (fun b => V3 m d b) ∗ Dues (owed (F := F) 1) (recorded (F := F) 1) d) ∗ levAts (K (F := F)).L (K (F := F)).lev
        ∗ Pipeline.cellsGhost (Pipeline.pin (pcfgs (F := F)) adm) EK 1 d ∗ Pipeline.toksInit (Pipeline.pin (pcfgs (F := F)) adm) EK 1 d)
      ⊢ wp frame (wpE ((K (F := F)).defs (D (F := F))) 𝒱 (T d) none) Set.univ
          (Prog.lift (.customCall (SparseCore.inner (Pipeline.entry 1)) ())) Q := region_wp (second m) d

/-- What the TensorCore keeps to the end: the operands as they were, and the result. -/
abbrev FIN (d : Dev nD) : sProp 𝕄 :=
  iprop((xLoc d ↦{fullShare} m (xLoc d)) ∗ (tLoc d ↦{fullShare} m (tLoc d))
    ∗ (((d : Thread nD τ).loc main_v4) ↦{fullShare} (fun _ => total m d : S_.Idx → F .f32)))

theorem st_eq (d : Dev nD) : (bigSep Finset.univ fun c : Fin ((K (F := F)).nCore 0) => (P m).st 0 d c)
    = (iprop((tLoc d ↦{fullShare} m (tLoc d)) ∗ (xLoc d ↦{fullShare} m (xLoc d)) ∗ oLoc d ↦{fullShare} m (oLoc d)) : sProp 𝕄) :=
  (bigSep_congr fun _ _ => congrArg (fun c => GivenCore m d c (m (oLoc d))) (Fin.ext rfl)).trans (all_cores m d _).symm
theorem dn_eq (d : Dev nD) : (bigSep Finset.univ fun c : Fin ((K (F := F)).nCore 0) => (P m).dn 0 d c)
    = (iprop((tLoc d ↦{fullShare} m (tLoc d)) ∗ (xLoc d ↦{fullShare} m (xLoc d)) ∗ oLoc d ↦{fullShare} sums m d) : sProp 𝕄) :=
  (bigSep_congr fun _ _ => congrArg (fun c => GivenCore m d c (sums m d)) (Fin.ext rfl)).trans (all_cores m d _).symm

theorem after_call (d : Dev nD) : ((K (F := F)).tcSt EH d ((0 : Fin 1).val + 1) : sProp 𝕄) ⊢ iprop(Dues (owed (F := F) 1) (recorded (F := F) 1) d
      ∗ (Dues (owed (F := F) 1) (recorded (F := F) 1) d -∗ (K (F := F)).tcSt EH d 1)) := dues d 1

theorem hmain (κ : GSem nD τ sig → ℕ) (d : Dev nD) :
    iprop((K (F := F)).ctx EH (P m) κ ∗ (K (F := F)).tcSt EH d 0 ∗ (K (F := F)).tcRes m g d ∗ Ghost d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd Ghost
  rw [two, two]
  simp only [main, wp_bind, wp_pure]
  iintro ⟨#Hctx, Hst, ⟨Hb, Hub, Hts, -⟩, ⟨⟨HG0, HG1⟩, ⟨HT0, HT1⟩⟩⟩
  ihave #Hlv := (SparseCore.Cfg.ctx_levAts κ) $$ Hctx
  -- the targets as a column
  ihave Hh := (Entails.of_eq (bufs_start m d)) $$ Hub
  iapply (StableHlo.wp_hlo_within 𝒱 (T d) none Set.univ (op := castTargets (F := F)) (S := ucRefs) (V := V0 m d) (castTargets_sub (F := F)) rfl) $$ [Hb Hh]
  · isplitl [Hb]; · iexact Hb
    iexact Hh
  iintro ⟨Hb, Hh⟩
  rw [wp_ret]
  imodintro
  ihave Hub := (Entails.of_eq (bufs_column m d)) $$ Hh
  -- the first kernel
  ihave Hd := (dues d 0) $$ Hst
  icases Hd with ⟨HO, Hback⟩
  iapply (first_wp m d)
  isplitl [Hts HG1 HT1 Hback]
  rotate_left
  · isplitl [Hb]; · iexact Hb
    isplitl [Hub HO]
    · isplitl [Hub]; · iexact Hub
      iexact HO
    isplitr; · iexact Hlv
    isplitl [HG0]; · iexact HG0
    iexact HT0
  iintro ⟨Hb, Hub, HO⟩
  ihave Hst := Hback $$ HO
  -- the SparseCore call
  ihave Hub := (Entails.of_eq (bufs_eq d (V2 m d))) $$ Hub
  rw [V2_arg0, V2_arg1, V2_v2]
  icases Hub with ⟨Ht, Hx, Ho, Hr⟩
  iapply ((K (F := F)).wp_run (D (F := F)) 𝒱 (EH := EH) (P := P m) κ d 0)
  isplitr; · iexact Hctx
  isplitl [Hst]; · iexact Hst
  isplitl [Ht Hx Ho]
  · rw [st_eq]
    isplitl [Ht]; · iexact Ht
    isplitl [Hx]; · iexact Hx
    iexact Ho
  iintro ⟨Hst, Hdn⟩
  ihave Hdn := (Entails.of_eq (dn_eq m d)) $$ Hdn
  icases Hdn with ⟨Ht, Hx, Ho⟩
  ihave Hub := (Entails.of_eq (show _ = unscopedBufs d (fun b => V3 m d b) from ?hub)) $$ [Ht Hx Ho Hr]
  case hub =>
    rw [bufs_eq d (V3 m d), rest_V3, V3_of m d (by decide), V3_of m d (by decide), V3_v2, V2_arg0, V2_arg1]
  · isplitl [Ht]; · iexact Ht
    isplitl [Hx]; · iexact Hx
    isplitl [Ho]; · iexact Ho
    iexact Hr
  -- the second kernel
  ihave Hd := (after_call d) $$ Hst
  icases Hd with ⟨HO, Hback⟩
  iapply (second_wp m d)
  isplitl [Hts Hback]
  rotate_left
  · isplitl [Hb]; · iexact Hb
    isplitl [Hub HO]
    · isplitl [Hub]; · iexact Hub
      iexact HO
    isplitr; · iexact Hlv
    isplitl [HG1]; · iexact HG1
    iexact HT1
  iintro ⟨Hb, Hub, HO⟩
  ihave Hst := Hback $$ HO
  -- the result
  ihave Hh := (Entails.of_eq (unscopedBufs_held d (V4 m d))) $$ Hub
  iapply (StableHlo.wp_hlo_within 𝒱 (T d) none Set.univ (op := castResult (F := F)) (S := ucRefs) (V := V4 m d) (castResult_sub (F := F)) rfl) $$ [Hb Hh]
  · isplitl [Hb]; · iexact Hb
    iexact Hh
  iintro ⟨Hb, Hh⟩
  rw [wp_ret]
  imodintro
  ihave Hub := (Entails.of_eq (bufs_end m d)) $$ Hh
  ihave Hub := (Entails.of_eq (bufs_eq d (V5 m d))) $$ Hub
  unfold rest
  rw [V5_arg0, V5_arg1, V5_v4]
  icases Hub with ⟨Ht, Hx, -, -, -, -, H4⟩
  imodintro
  isplitl [Hst]; · iexact Hst
  isplitl [Ht Hx H4]
  · isplitl [Hx]; · iexact Hx
    isplitl [Ht]; · iexact Ht
    iexact H4
  isplitl [Hb]; · iexact Hb
  iexact Hts

end

end Cert.KernelIdeal.Launch

end
-- ==== Proof.Run.lean ====
/-
  The program's run: from any memory with every semaphore at rest it ends, the operands unchanged, every semaphore at
  rest again, and the result at `total` of the operands.
-/
module

public import proofs.«01_k».proof.Proof.HostRun

@[expose] public section

noncomputable section

namespace Cert.KernelIdeal.Launch

open Cert.KernelIdeal Cert.KernelIdeal.Gen Cert.KernelIdeal.Sparse
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Dense (adm)

variable {F : FTy → Type} [FloatOps F] [Named F]

local notation "𝕄" => MT nD τ sig (HIx 1) (Elt F) ℕ UU ℕ

/-! ## The launch element -/

/-- The pipelines' part of it. -/
def uPipes : UK :=
  initOf (Pipeline.cells (nD := nD) (τ := τ) (Pipeline.pin (pcfgs (F := F)) adm) cellOf_inj) (Pipeline.launchToks (Pipeline.pin (pcfgs (F := F)) adm) cellOf_inj)

def u₀ : UU := (initOf (K (F := F)).hsCells (K (F := F)).hsToks, (uPipes (F := F), 1))

theorem ownU_split (a : UH) (b : UK) :
    (ownU ((a, (b, 1)) : UU) : sProp 𝕄) ⊢ iprop(BI.own (EH a) ∗ BI.own (EK b)) := by
  unfold EH EK
  refine BI.own_op_elim ((uEmb (nD := nD) (sig := sig) (Ix := HIx 1) (Val := Elt F) (Name := ℕ) (U := UU) (Lvl := ℕ)).toEmb.op_of_mem ?_)
  exact Prod.mk_mem_op (URA.mem_op_one a) (URA.mem_one_op ((b, 1) : UK × Counters))

theorem nothing {I : Type} (s : Finset I) : (bigSep s fun _ => iprop(emp)) = (iprop(emp) : sProp 𝕄) := bigSep_emp_const s

theorem hu₀ (m : (ℓ : Loc nD τ sig) → Buf (Elt F) ℓ) : (ownU (u₀ (F := F)) : sProp 𝕄)
    ⊢ |={Set.univ}=> iprop(BI.own (EH (initOf (K (F := F)).hsCells (K (F := F)).hsToks)) ∗ (bigSep Finset.univ fun d : Dev nD => Ghost (F := F) d)
        ∗ bigSep Finset.univ fun thr : Thread nD τ => bigSep Finset.univ fun q : Fin 1 => (P m).x q thr) := by
  unfold u₀ uPipes Ghost
  rw [bigSep_sep']
  iintro Hu
  ihave H := (ownU_split (F := F) (initOf (K (F := F)).hsCells (K (F := F)).hsToks) _) $$ Hu
  icases H with ⟨HH, HK⟩
  imod (Pipeline.fund_ghost (Pipeline.pin (pcfgs (F := F)) adm) (EK (F := F)) cellOf_inj) $$ HK with HG
  imodintro
  isplitl [HH]; · iexact HH
  isplitl [HG]; · iexact HG
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), nothing]
  iempintro

/-! ## What the end shows -/

section
variable (m : (ℓ : Loc nD τ sig) → Buf (Elt F) ℓ)

abbrev rLoc (d : Dev nD) : Loc nD τ sig := (d : Thread nD τ).loc main_v4
/-- The result's buffer. -/
abbrev result (d : Dev nD) : Buf (Elt F) (rLoc d) := (fun _ => total m d : S_.Idx → F .f32)

def fq (d : Dev nD) (s' : Phys nD τ sig (Elt F)) : Prop :=
  s'.mem.mem (rLoc d) = result m d ∧ s'.mem.mem (xLoc d) = m (xLoc d) ∧ s'.mem.mem (tLoc d) = m (tLoc d)

theorem hfin (d : Dev nD) (s' : Phys nD τ sig (Elt F)) : iprop(FIN m d ∗ SI s') ⊢ (⌜fq m d s'⌝ : sProp 𝕄) := by
  iintro ⟨⟨Hx, Ht, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%hx, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%ht, HSI, -⟩
  ihave H := (SI_pointsTo_agree (st := s') (ℓ := rLoc d) (I := Finset.univ) (q := fullShare) (f := result m d)) $$ [HSI Hr]
  · isplitl [HSI]; · iexact HSI
    iexact Hr
  icases H with %hr
  ipureintro
  exact ⟨funext fun i => hr i (Finset.mem_univ i), funext fun i => hx i (Finset.mem_univ i), funext fun i => ht i (Finset.mem_univ i)⟩

/-- Every run ends like this. -/
def Ends (r : PUnit × MemSt nD τ sig (Elt F)) : Prop :=
  (∀ d : Dev nD, r.2.mem (rLoc d) = result m d ∧ r.2.mem (xLoc d) = m (xLoc d) ∧ r.2.mem (tLoc d) = m (tLoc d)) ∧ r.2.sem = fun _ => 0

theorem run_main [∀ e, Nonempty (Elt F e)] (g : Dev nD → PrngReg) :
    θ_run (Cert.KernelIdeal.defs (F := F)) (Cert.KernelIdeal.threads (F := F)) ⟨m, fun _ => 0, g⟩ (Ends m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m g main (fun d => Ghost (F := F) d) (FIN m) (u₀ (F := F)) (sep_elim_left.trans (hu₀ m)) (hmain m g) (fq m) (hfin m) (Ends m) (fun _ h hz => ⟨h, hz⟩)

end

end Cert.KernelIdeal.Launch

end
-- ==== Proof.SameProgram.lean ====
/-
  The two printed programs are one program: the program with the named constants, when each name is read as the
  constant it stands in for, is the program as it was written.
-/
module

public import proofs.«01_k».proof.Proof.Gen.Kernel
public import proofs.«01_k».proof.Proof.Gen.KernelIdeal
public import Idealize.ShloMosaic.Lib.Pipeline.Regions

@[expose] public section

set_option synthInstance.maxSize 4096

noncomputable section

namespace Cert.Same

open Idealize.ShloMosaic Idealize.SL.Sem

variable {F : FTy → Type} [FloatOps F]

/-- Every name read as the constant it stands in for. -/
@[reducible] def asWritten : Named F where
  named _ _ {φ} b := Scalar.ofBits φ b

attribute [local instance] asWritten

theorem defs_eq : Cert.Kernel.defs (F := F) = Cert.KernelIdeal.defs (F := F) := by chain_rfl
theorem threads_eq : Cert.Kernel.threads (F := F) = Cert.KernelIdeal.threads (F := F) := by chain_rfl

end Cert.Same
end
-- ==== Proof.Frames.lean ====
/-
  The frames: the program as written, and the program with the named constants, each run to the end with the operands
  unchanged and every semaphore at rest.
-/
module

public import proofs.«01_k».proof.Proof.Run
public import proofs.«01_k».proof.Proof.SameProgram
public import proofs.«01_k».proof.Defs
public import proofs.«01_k».proof.Proof.Gen.Kernel

@[expose] public section

noncomputable section

namespace Cert.Frames

open Idealize.ShloMosaic Idealize.SL.Sem
open Cert.KernelIdeal.Launch (run_main Ends)

/-- The named program's run, over the ideal values. -/
theorem ideal_run (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (Cert.KernelIdeal.threads (F := Ideal)) ⟨m, fun _ => 0, g⟩ (Ends m) := run_main m g

section
attribute [local instance] Cert.Same.asWritten

/-- The program as written, over the machine's values. -/
theorem kernel_run (m : (ℓ : Loc Cert.Kernel.nD Cert.Kernel.τ Cert.Kernel.sig) → Buf (Elt Bits) ℓ) (g : Dev Cert.Kernel.nD → PrngReg) :
    θ_run (Cert.Kernel.defs (F := Bits)) (Cert.Kernel.threads (F := Bits)) ⟨m, fun _ => 0, g⟩ (Ends (F := Bits) m) := by
  rw [Cert.Same.defs_eq, Cert.Same.threads_eq]
  exact run_main (F := Bits) m g

theorem frame_Kernel : Cert.quiescent_Kernel := fun m g _ =>
  (θ_run Cert.Kernel.defs _ _).mono (fun _ h => ⟨fun c => (h.1 c).2, h.2⟩) (kernel_run m g)
end

theorem frame_KernelIdeal : Cert.quiescent_KernelIdeal := fun m g _ =>
  (θ_run Cert.KernelIdeal.defs _ _).mono (fun _ h => ⟨fun c => (h.1 c).2, h.2⟩) (ideal_run m g)

end Cert.Frames

end
-- ==== Proof.RealSums.lean ====
/-
  Sums of reals among the extended reals, and the two ways to walk a range of numbers that the kernels use.
-/
module

public import Mathlib.Data.EReal.Operations
public import Mathlib.Analysis.SpecialFunctions.Log.Basic

@[expose] public section

noncomputable section

namespace Cert.Loss

open Finset

/-- A sum of reals is the same among the extended reals. -/
theorem coe_sum {ι : Type} (s : Finset ι) (f : ι → ℝ) : ∑ i ∈ s, ((f i : ℝ) : EReal) = ((∑ i ∈ s, f i : ℝ) : EReal) := by
  classical
  refine Finset.induction_on s (by simp) fun i s hi ih => ?_
  rw [sum_insert hi, sum_insert hi, ih, EReal.coe_add]

/-- `a · b` numbers, `b` at a time. -/
theorem sum_blocks (a b : ℕ) (f : ℕ → ℝ) : ∑ i ∈ range (a * b), f i = ∑ i ∈ range a, ∑ j ∈ range b, f (b * i + j) := by
  induction a with
  | zero => simp
  | succ a ih =>
    rw [Nat.succ_mul, sum_range_add, ih, sum_range_succ]
    exact congrArg _ (sum_congr rfl fun j _ => by rw [Nat.mul_comm])

/-- `a · b · c` numbers from `o`, the last factor's place summed first. -/
theorem sum_lanes (a b c o : ℕ) (f : ℕ → ℝ) :
    ∑ l ∈ range c, ∑ k ∈ range a, ∑ q ∈ range b, f (o + b * c * k + c * q + l) = ∑ i ∈ range (a * (b * c)), f (o + i) := by
  rw [sum_blocks a (b * c), sum_comm]
  refine sum_congr rfl fun k _ => ?_
  rw [sum_blocks b c, sum_comm]
  refine sum_congr rfl fun q _ => sum_congr rfl fun l _ => congrArg f (by ring)

end Cert.Loss

end
-- ==== Proof.DenseTerms.lean ====
/-
  The first TensorCore kernel over the reals: where `x` is finite, its two running sums hold the sums of the columns
  they have met, and the word it leaves is the sum over the rows that are not padding.
-/
module

public import proofs.«01_k».proof.Proof.PartialRegion
public import proofs.«01_k».proof.Proof.RealSums
public import Idealize.ShloMosaic.Lib.Pointwise

@[expose] public section

noncomputable section

namespace Cert.Loss

open Cert.KernelIdeal Cert.KernelIdeal.Gen Cert.KernelIdeal.Dense Idealize.ShloMosaic Finset

set_option maxRecDepth 16384

/-- `X` holds the reals `x`. -/
def Holds (X : S4096x32000.Idx → Ideal .f32) (x : ℕ → ℕ → ℝ) : Prop :=
  ∀ (r : Fin 4096) (c : Fin 32000), X (ix2 r c) = ((x r.val c.val : ℝ) : EReal)

/-! ## The named constants -/

theorem c_row_eq : (Named.named (F := Ideal) (φ := .f32) κ "c_row" 0xBFAE63F8#32) = ((1 / 10 * Real.log (319980⁻¹ * (387420489 / 1000000000)) : ℝ) : EReal) :=
  IdealRules.named_const.ideal_named_scalar _ _ _ _ rfl
theorem fill_eq : (Named.named (F := Ideal) (φ := .f32) κ "fill" 0x3651BA72#32) = ((1 / 319980 : ℝ) : EReal) :=
  IdealRules.named_const.ideal_named_scalar _ _ _ _ rfl
theorem fill_conf_eq : (Named.named (F := Ideal) (φ := .f32) κ "fill_conf" 0xBF666632#32) = ((-287981 / 319980 : ℝ) : EReal) :=
  IdealRules.named_const.ideal_named_scalar _ _ _ _ rfl
theorem neg_fill_eq : (Named.named (F := Ideal) (φ := .f32) κ "neg_fill" 0xB651BA72#32) = ((-1 / 319980 : ℝ) : EReal) :=
  IdealRules.named_const.ideal_named_scalar _ _ _ _ rfl

/-! ## Words -/

/-- A choice between a real and zero by whether two words are equal. -/
theorem choose_eq (a b : BitVec 32) (y : ℝ) :
    Scalar.select (IntOp.cmpi .eq a b) ((y : ℝ) : EReal) 0 = ((if a = b then y else 0 : ℝ) : EReal) := by
  unfold IntOp.cmpi
  by_cases h : a = b
  · simp [h, Scalar.select]
  · have hb : (a == b) = false := beq_eq_false_iff_ne.mpr h
    simp only [hb, h, if_false]
    rfl

/-- The word of a column of block `n`. -/
theorem column_word (n q : ℕ) (l : ℕ) (hn : n < 48) (hq : q < 640) (hl : l < 128) :
    IntOp.addi (Scalar.addi (Scalar.muli (BitVec.ofNat 32 (pointAt n 0).val) 640#32) (BitVec.ofNat 32 q)) (BitVec.ofNat 32 l)
      = BitVec.ofNat 32 (640 * n + (q + l)) := by
  have hv : (pointAt n 0).val = n := Nat.mod_eq_of_lt hn
  rw [hv]
  unfold Scalar.addi Scalar.muli IntOp.addi IntOp.muli
  apply BitVec.eq_of_toNat_eq
  simp only [BitVec.toNat_add, BitVec.toNat_mul, BitVec.toNat_ofNat]
  omega

theorem word_eq (c : ℕ) (t : BitVec 32) (hc : c < 32000) : BitVec.ofNat 32 c = t ↔ c = t.toNat := by
  constructor
  · rintro rfl
    rw [BitVec.toNat_ofNat]
    omega
  · intro h
    apply BitVec.eq_of_toNat_eq
    rw [BitVec.toNat_ofNat, ← h]
    omega

/-- Whether a row counts, as the number that the kernel multiplies by. -/
def live (t : BitVec 32) : ℝ := if t = 0#32 then 0 else 1

theorem live_eq (t : BitVec 32) :
    (FloatOps.sitofp .f32 (BitVec.setWidth 32 (IntOp.cmpi .ne t 0#32)) : Ideal .f32) = ((live t : ℝ) : EReal) := by
  unfold live IntOp.cmpi
  by_cases h : t = 0#32
  · subst h
    simp [FloatOps.sitofp]
  · have hb : (t != 0#32) = true := bne_iff_ne.mpr h
    simp only [hb, h, if_false]
    simp [FloatOps.sitofp]

/-! ## One point -/

theorem sumStep_at (B : S4096x640.Idx → Ideal .f32) (A : S4096x128.Idx → Ideal .f32) (r : Fin 4096) (l : Fin 128) :
    sumStep B A (ix2 r l) = A (ix2 r l) + (B (ix2 r ⟨0 + l.val, by omega⟩) + B (ix2 r ⟨128 + l.val, by omega⟩) + B (ix2 r ⟨256 + l.val, by omega⟩)
      + B (ix2 r ⟨384 + l.val, by omega⟩) + B (ix2 r ⟨512 + l.val, by omega⟩)) := by
  pointwise [sumStep, k0_pay1, k0_pay2, k0_pay12, k0_pay14, k0_pay9, k0_pay10, k0_pay11]

/-- The entry of a block where it lies in the target's column, else zero. -/
def hit (n q : ℕ) (t : BitVec 32) (l : Fin 128) (b : EReal) : EReal :=
  Scalar.select (IntOp.cmpi .eq (IntOp.addi (Scalar.addi (Scalar.muli (BitVec.ofNat 32 (pointAt n 0).val) 640#32) (BitVec.ofNat 32 q)) (BitVec.ofNat 32 l.val)) t) b 0

theorem pickStep_at (n : ℕ) (T : S4096x1.Idx → BitVec 32) (B : S4096x640.Idx → Ideal .f32) (P : S4096x128.Idx → Ideal .f32) (r : Fin 4096) (l : Fin 128) :
    pickStep (pointAt n) T B P (ix2 r l) = P (ix2 r l) + (hit n 0 (T (ix2 r 0)) l (B (ix2 r ⟨0 + l.val, by omega⟩)) + hit n 128 (T (ix2 r 0)) l (B (ix2 r ⟨128 + l.val, by omega⟩))
      + hit n 256 (T (ix2 r 0)) l (B (ix2 r ⟨256 + l.val, by omega⟩)) + hit n 384 (T (ix2 r 0)) l (B (ix2 r ⟨384 + l.val, by omega⟩))
      + hit n 512 (T (ix2 r 0)) l (B (ix2 r ⟨512 + l.val, by omega⟩))) := by
  unfold hit
  pointwise [pickStep, k0_pay1, k0_pay3, k0_pay8, k0_pay13, k0_pay14, k0_pay15, k0_pay16, k0_pay9, k0_pay10, k0_pay11]

section
variable {X : S4096x32000.Idx → Ideal .f32} {x : ℕ → ℕ → ℝ} (hX : Holds X x)
include hX

theorem colBlk_at (n c : ℕ) (hn : n < 48) (hc : c < 640) (r : Fin 4096) : colBlk X n (ix2 r ⟨c, hc⟩) = ((x r.val (640 * n + c) : ℝ) : EReal) := by
  refine (hX r ⟨(640 * n + c) % 32000, Nat.mod_lt _ (by decide)⟩).trans ?_
  have h : (640 * n + c) % 32000 = 640 * n + c := Nat.mod_eq_of_lt (by omega)
  simp only [h]

theorem hit_at (n q : ℕ) (t : BitVec 32) (l : Fin 128) (hn : n < 48) (hq : q < 513) (r : Fin 4096) :
    hit n q t l (colBlk X n (ix2 r ⟨q + l.val, by omega⟩)) = ((if 640 * n + (q + l.val) = t.toNat then x r.val (640 * n + (q + l.val)) else 0 : ℝ) : EReal) := by
  have := l.isLt
  unfold hit
  rw [colBlk_at hX n _ hn, column_word n q l.val hn (by omega) l.isLt, choose_eq]
  simp only [word_eq _ t (show 640 * n + (q + l.val) < 32000 by omega)]

/-- The running sums of columns. -/
theorem sumAt_at (n : ℕ) (hn : n ≤ 48) (r : Fin 4096) (l : Fin 128) :
    sumAt X n (ix2 r l) = ((∑ k ∈ range n, ∑ q ∈ range 5, x r.val (640 * k + (128 * q + l.val)) : ℝ) : EReal) := by
  induction n with
  | zero => pointwise [sumAt, k0_pay5]; simp
  | succ n ih =>
    rw [sum_range_succ, EReal.coe_add, ← ih (by omega)]
    show sumStep (colBlk X n) (sumAt X n) (ix2 r l) = _
    rw [sumStep_at, colBlk_at hX n _ (by omega), colBlk_at hX n _ (by omega), colBlk_at hX n _ (by omega), colBlk_at hX n _ (by omega), colBlk_at hX n _ (by omega)]
    simp only [← EReal.coe_add]
    refine congrArg _ (congrArg _ ?_)
    simp only [sum_range_succ, range_zero, sum_empty]
    ring_nf

/-- The running sums of picked entries. -/
theorem pickAt_at (T : S4096x1.Idx → BitVec 32) (n : ℕ) (hn : n ≤ 48) (r : Fin 4096) (l : Fin 128) :
    pickAt X T n (ix2 r l) = ((∑ k ∈ range n, ∑ q ∈ range 5,
      (if 640 * k + (128 * q + l.val) = (T (ix2 r 0)).toNat then x r.val (640 * k + (128 * q + l.val)) else 0) : ℝ) : EReal) := by
  induction n with
  | zero => pointwise [pickAt, k0_pay6]; simp
  | succ n ih =>
    rw [sum_range_succ, EReal.coe_add, ← ih (by omega)]
    show pickStep (pointAt n) T (colBlk X n) (pickAt X T n) (ix2 r l) = _
    rw [pickStep_at, hit_at hX n 0 _ l (by omega) (by omega), hit_at hX n 128 _ l (by omega) (by omega), hit_at hX n 256 _ l (by omega) (by omega),
      hit_at hX n 384 _ l (by omega) (by omega), hit_at hX n 512 _ l (by omega) (by omega)]
    simp only [← EReal.coe_add]
    refine congrArg _ (congrArg _ ?_)
    simp only [sum_range_succ, range_zero, sum_empty]
    norm_num

theorem first_at (r : Fin 4096) : firstCol (colBlk X 0) (ix2 r 0) = ((x r.val 0 : ℝ) : EReal) := by
  have h : firstCol (colBlk X 0) (ix2 r 0) = colBlk X 0 ((Rect.unit (s := S4096x640) ![0, 0] S4096x1.size inb_S4096x640_S4096x1_0_0).emb (ix2 r 0)) := by
    pointwise [firstCol, k0_pay7]
  rw [h, ← colBlk_at hX 0 0 (by decide) (by decide) r]
  refine congrArg _ (funext fun a => Fin.ext ?_)
  match a with
  | ⟨0, _⟩ => show 0 + 1 * r.val = r.val; omega
  | ⟨1, _⟩ => rfl

/-! ## The word -/

/-- The word that the kernel leaves. -/
theorem denseOut_eq (T : S4096x1.Idx → BitVec 32) :
    denseOut X T = ((1 / 10 * Real.log (319980⁻¹ * (387420489 / 1000000000)) * (∑ r : Fin 4096, live (T (ix2 r 0)))
        + 1 / 319980 * (∑ r : Fin 4096, live (T (ix2 r 0)) * x r.val 0)
        - 1 / 319980 * (∑ r : Fin 4096, ∑ l : Fin 128, live (T (ix2 r 0)) * ∑ k ∈ range 48, ∑ q ∈ range 5, x r.val (640 * k + (128 * q + l.val)))
        + -287981 / 319980 * (∑ r : Fin 4096, ∑ l : Fin 128, live (T (ix2 r 0)) * ∑ k ∈ range 48, ∑ q ∈ range 5,
            (if 640 * k + (128 * q + l.val) = (T (ix2 r 0)).toNat then x r.val (640 * k + (128 * q + l.val)) else 0)) : ℝ) : EReal) := by
  unfold denseOut
  pointwise [lastWord, k0_pay4, k0_pay8]
  simp only [c_row_eq, fill_eq, fill_conf_eq, live_eq, first_at hX, sumAt_at hX 48 le_rfl, pickAt_at hX T 48 le_rfl, ← EReal.coe_mul, coe_sum]
  simp only [← EReal.coe_add, ← EReal.coe_sub, Fin.sum_univ_one]

end

end Cert.Loss

end
-- ==== Proof.TileTotal.lean ====
/-
  What a tile computes, over the reals: where `x` is finite and every target is a column, each of its sixteen results is the
  sum of its eight rows' contributions.
-/
module

public import proofs.«01_k».proof.Proof.TileValue
public import proofs.«01_k».proof.Proof.DenseTerms

@[expose] public section

noncomputable section

namespace Cert.Loss

open Cert.KernelIdeal Cert.KernelIdeal.Gen Cert.KernelIdeal.Sparse Idealize.ShloMosaic Finset

/-! ## Words -/

section
variable {lo t : BitVec 32} (hlo : lo.toNat < 32000) (ht : t.toNat < 32000)
include hlo ht

theorem diff_toInt : (t - lo).toInt = (t.toNat : ℤ) - lo.toNat := by
  rw [BitVec.toInt_eq_toNat_cond, BitVec.toNat_sub]
  split <;> omega

/-- The chunk from `lo` has the target `t`, -/
theorem inW_eq : inW lo t = if lo.toNat ≤ t.toNat ∧ t.toNat < lo.toNat + 128 then 1#1 else 0#1 := by
  have h0 : (0#32 : BitVec 32).toInt = 0 := by decide
  have h1 : (128#32 : BitVec 32).toInt = 128 := by decide
  have e0 : (0#32 : BitVec 32).sle (t - lo) = decide (lo.toNat ≤ t.toNat) := by
    simp only [BitVec.sle, h0, diff_toInt hlo ht]
    exact decide_eq_decide.mpr (by omega)
  have e1 : (t - lo).slt 128#32 = decide (t.toNat < lo.toNat + 128) := by
    simp only [BitVec.slt, h1, diff_toInt hlo ht]
    exact decide_eq_decide.mpr (by omega)
  unfold inW IntOp.cmpi
  simp only [e0, e1]
  by_cases ha : lo.toNat ≤ t.toNat <;> by_cases hb : t.toNat < lo.toNat + 128 <;> simp [ha, hb]

/-- and then the clamped column is the target's. -/
theorem clampW_eq (h : lo.toNat ≤ t.toNat ∧ t.toNat < lo.toNat + 128) : (clampW lo t).toNat = t.toNat - lo.toNat := by
  have h0 : (0#32 : BitVec 32).toInt = 0 := by decide
  have h1 : (127#32 : BitVec 32).toInt = 127 := by decide
  have hd : (t - lo).toNat = t.toNat - lo.toNat := by
    rw [BitVec.toNat_sub]
    omega
  have hmax : IntOp.maxsi (t - lo) 0#32 = t - lo := by
    unfold IntOp.maxsi
    by_cases hz : (0#32 : BitVec 32).slt (t - lo)
    · simp only [hz, if_true]
    · have : (t - lo) = 0#32 := by
        apply BitVec.eq_of_toNat_eq
        simp only [BitVec.slt, h0, diff_toInt hlo ht, decide_eq_true_eq] at hz
        rw [hd]
        show _ = 0
        omega
      simp [this]
  have hmin : IntOp.minsi (t - lo) 127#32 = t - lo := by
    unfold IntOp.minsi
    by_cases hz : (t - lo).slt 127#32
    · simp only [hz, if_true]
    · have : (t - lo) = 127#32 := by
        apply BitVec.eq_of_toNat_eq
        simp only [BitVec.slt, h1, diff_toInt hlo ht, decide_eq_true_eq] at hz
        rw [hd]
        show _ = 127
        omega
      simp [this]
  unfold clampW
  rw [hmax, hmin, hd]

end

theorem loW_toNat (j : ℕ) (hj : j < 10) : (loW j).toNat = 30720 + 128 * j := by
  unfold loW
  rw [BitVec.toNat_ofNat]
  omega

theorem zeroF_eq : (zeroF : Ideal .f32) = ((0 : ℝ) : EReal) := Ideal.ofBits_zero_f32

/-! ## One row -/

section
variable {X : S4096x32000.Idx → Ideal .f32} {x : ℕ → ℕ → ℝ} (hX : Holds X x)
include hX

theorem blk_at (w j : ℕ) (hw : w < 32) (hj : j < 10) (r c : Fin 128) :
    blk X w j (ValueIdx.ix2 r c) = ((x (128 * w + r.val) (30720 + 128 * j + c.val) : ℝ) : EReal) := by
  have h1 : (128 * w + r.val) % 4096 = 128 * w + r.val := Nat.mod_eq_of_lt (by omega)
  have h2 : (30720 + 128 * j + c.val) % 32000 = 30720 + 128 * j + c.val := Nat.mod_eq_of_lt (by omega)
  refine (hX ⟨(128 * w + r.val) % 4096, Nat.mod_lt _ (by decide)⟩ ⟨(30720 + 128 * j + c.val) % 32000, Nat.mod_lt _ (by decide)⟩).trans ?_
  simp only [h1, h2]

/-- The running sums. -/
theorem accN_at (w : ℕ) (hw : w < 32) (j : ℕ) (hj : j ≤ 10) (r : Fin 128) (l : Fin 16) :
    accN X w j (ValueIdx.ix2 r l) = ((∑ k ∈ range j, ∑ q ∈ range 8, x (128 * w + r.val) (30720 + 128 * k + (16 * q + l.val)) : ℝ) : EReal) := by
  induction j with
  | zero => exact zeroF_eq.trans (by simp)
  | succ n ih =>
    rw [sum_range_succ, EReal.coe_add, ← ih (by omega)]
    refine (if_pos r.isLt).trans ?_
    show accN X w n (ValueIdx.ix2 r l) + rowAt (fun c => blk X w n (ValueIdx.ix2 r c)) l = _
    refine congrArg _ ?_
    simp only [rowAt, blk_at hX w n hw (show n < 10 by omega), FloatOps.addf, ← EReal.coe_add]
    refine congrArg _ ?_
    simp only [sum_range_succ, range_zero, sum_empty]
    norm_num

theorem pickStep_one (w j : ℕ) (hw : w < 32) (hj : j < 10) (r : Fin 128) (t : BitVec 32) (ht : t.toNat < 32000) (p : ℝ) :
    Sparse.pickAt (loW j) t (fun c => blk X w j (ValueIdx.ix2 r c)) ((p : ℝ) : EReal)
      = ((p + ∑ c ∈ range 128, (if 30720 + 128 * j + c = t.toNat then x (128 * w + r.val) (30720 + 128 * j + c) else 0) : ℝ) : EReal) := by
  have hlo := loW_toNat j hj
  unfold Sparse.pickAt
  beta_reduce
  rw [blk_at hX w j hw hj, zeroF_eq, inW_eq (by omega) ht, EReal.coe_add]
  refine congrArg _ ?_
  by_cases h : (loW j).toNat ≤ t.toNat ∧ t.toNat < (loW j).toNat + 128
  · simp only [clampW_eq (by omega) ht h, h, and_self, if_true]
    rw [sum_eq_single_of_mem (t.toNat - (loW j).toNat) (mem_range.mpr (by omega)) (fun c _ hc => if_neg (by omega)), if_pos (by omega)]
    rfl
  · rw [if_neg h, sum_eq_zero fun c hc => if_neg (by have := mem_range.mp hc; omega)]
    rfl

/-- The picked entries. -/
theorem pickN_at (T : S4096.Idx → BitVec 32) (w : ℕ) (hw : w < 32) (j : ℕ) (hj : j ≤ 10) (r : Fin 128) (ht : (tgt T w (ValueIdx.ix1 r)).toNat < 32000) :
    pickN X T w j (ValueIdx.ix1 r) = ((∑ k ∈ range j, ∑ c ∈ range 128,
      (if 30720 + 128 * k + c = (tgt T w (ValueIdx.ix1 r)).toNat then x (128 * w + r.val) (30720 + 128 * k + c) else 0) : ℝ) : EReal) := by
  induction j with
  | zero => exact zeroF_eq.trans (by simp)
  | succ n ih =>
    rw [sum_range_succ, ← pickStep_one hX w n hw (by omega) r _ ht, ← ih (by omega)]
    exact if_pos r.isLt

/-- What row `R` adds to the partial sums. -/
def tileRow (x : ℕ → ℕ → ℝ) (R : ℕ) (t : BitVec 32) : ℝ :=
  live t * (-1 / 319980 * (∑ i ∈ range 1280, x R (30720 + i)) + -287981 / 319980 * (∑ i ∈ range 1280, if 30720 + i = t.toNat then x R (30720 + i) else 0))

theorem laneAt_eq (T : S4096.Idx → BitVec 32) (w : ℕ) (hw : w < 32) (r : Fin 128) (ht : (tgt T w (ValueIdx.ix1 r)).toNat < 32000) :
    laneAt (accN X w 10) (tgt T w) (pickN X T w 10) r = ((tileRow x (128 * w + r.val) (tgt T w (ValueIdx.ix1 r)) : ℝ) : EReal) := by
  unfold laneAt contribAt accSum
  simp only [pickN_at hX T w hw 10 le_rfl r ht, accN_at hX w hw 10 le_rfl, neg_fill_eq, fill_conf_eq, FloatOps.addf, FloatOps.mulf, ← EReal.coe_add, ← EReal.coe_mul, zeroF_eq]
  have hs : ∑ i ∈ range 1280, x (128 * w + r.val) (30720 + i)
      = ∑ l ∈ range 16, ∑ k ∈ range 10, ∑ q ∈ range 8, x (128 * w + r.val) (30720 + 128 * k + (16 * q + l)) := by
    rw [← sum_lanes 10 8 16 30720 (fun i => x (128 * w + r.val) i)]
    simp only [Nat.add_assoc]
  have hp : (∑ i ∈ range 1280, if 30720 + i = (tgt T w (ValueIdx.ix1 r)).toNat then x (128 * w + r.val) (30720 + i) else 0)
      = ∑ k ∈ range 10, ∑ c ∈ range 128, if 30720 + 128 * k + c = (tgt T w (ValueIdx.ix1 r)).toNat then x (128 * w + r.val) (30720 + 128 * k + c) else 0 := by
    refine (sum_blocks 10 128 fun i => if 30720 + i = (tgt T w (ValueIdx.ix1 r)).toNat then x (128 * w + r.val) (30720 + i) else 0).trans ?_
    simp only [Nat.add_assoc]
  have h16 : ∀ f : ℕ → ℝ, ∑ l ∈ range 16, f l = f 0 + f 1 + f 2 + f 3 + f 4 + f 5 + f 6 + f 7 + f 8 + f 9 + f 10 + f 11 + f 12 + f 13 + f 14 + f 15 := by
    intro f
    simp only [sum_range_succ, range_zero, sum_empty, zero_add]
  unfold tileRow live
  rw [hs, hp, h16]
  unfold IntOp.cmpi
  by_cases h : tgt T w (ValueIdx.ix1 r) = 0#32
  · simp [h, Scalar.select]
  · have hb : (tgt T w (ValueIdx.ix1 r) != 0#32) = true := bne_iff_ne.mpr h
    simp only [hb, h, if_false, one_mul]
    rfl

theorem tileOut_eq (T : S4096.Idx → BitVec 32) (hT : ∀ r : Fin 4096, (T (ValueIdx.ix1 r)).toNat < 32000) (w : ℕ) (hw : w < 32) (l : Fin 16) :
    tileOut X T w (ValueIdx.ix1 l) = ((∑ g ∈ range 8, tileRow x (128 * w + (16 * g + l.val)) (T (ValueIdx.ix1 ⟨(128 * w + (16 * g + l.val)) % 4096, Nat.mod_lt _ (by decide)⟩)) : ℝ) : EReal) := by
  have ht : ∀ r : Fin 128, (tgt T w (ValueIdx.ix1 r)).toNat < 32000 := fun r => hT _
  have hl : ∀ (o : ℕ) (ho : o + 16 ≤ 128), lanes o ho (accN X w 10) (tgt T w) (pickN X T w 10) (ValueIdx.ix1 l)
      = ((tileRow x (128 * w + (o + l.val)) (T (ValueIdx.ix1 ⟨(128 * w + (o + l.val)) % 4096, Nat.mod_lt _ (by decide)⟩)) : ℝ) : EReal) :=
    fun o ho => laneAt_eq hX T w hw ⟨o + l.val, by omega⟩ (ht _)
  unfold tileOut outVal
  simp only [hl, zeroF_eq, FloatOps.addf, ← EReal.coe_add]
  refine congrArg _ ?_
  simp only [sum_range_succ, range_zero, sum_empty]

end

end Cert.Loss

end
-- ==== Proof.KernelTotal.lean ====
/-
  The program's result over the reals: the sum over the rows of what each of them contributes.
-/
module

public import proofs.«01_k».proof.Proof.TileTotal
public import proofs.«01_k».proof.Proof.HostRun

@[expose] public section

noncomputable section

namespace Cert.Loss

open Cert.KernelIdeal Cert.KernelIdeal.Gen Cert.KernelIdeal.Sparse Cert.KernelIdeal.Launch Idealize.ShloMosaic Finset

set_option maxRecDepth 16384

/-- The last kernel adds the partial sums to the first kernel's word. -/
theorem combine_at (w : Ideal .f32) (B : S32x16.Idx → Ideal .f32) :
    k2_pay1 (F := Ideal) w B = w + ∑ a : Fin 32, ∑ b : Fin 16, B (ix2 a b) := by
  pointwise [k2_pay1]

/-- What row `R`, whose target is `t`, contributes. -/
def kernelRow (x : ℕ → ℕ → ℝ) (R : ℕ) (t : BitVec 32) : ℝ :=
  live t * (1 / 10 * Real.log (319980⁻¹ * (387420489 / 1000000000)) + 1 / 319980 * x R 0 - 1 / 319980 * (∑ i ∈ range 32000, x R i)
    + -287981 / 319980 * (∑ i ∈ range 32000, if i = t.toNat then x R i else 0))

/-- The first kernel's columns, lane by lane. -/
theorem dense_columns (f : ℕ → ℝ) : ∑ l : Fin 128, ∑ k ∈ range 48, ∑ q ∈ range 5, f (640 * k + (128 * q + l.val)) = ∑ i ∈ range 30720, f i := by
  rw [Fin.sum_univ_eq_sum_range (fun l => ∑ k ∈ range 48, ∑ q ∈ range 5, f (640 * k + (128 * q + l))) 128]
  have h := sum_lanes 48 5 128 0 f
  simp only [Nat.zero_add, Nat.add_assoc] at h
  exact h

/-- All columns: the first kernel's, then the tiles'. -/
theorem all_columns (f : ℕ → ℝ) : ∑ i ∈ range 32000, f i = (∑ i ∈ range 30720, f i) + ∑ i ∈ range 1280, f (30720 + i) := sum_range_add f 30720 1280

/-- All rows, as the tiles share them. -/
theorem all_rows (f : ℕ → ℝ) : ∑ w : Fin 32, ∑ l : Fin 16, ∑ g ∈ range 8, f (128 * w.val + (16 * g + l.val)) = ∑ R : Fin 4096, f R.val := by
  rw [sum_comm, Fin.sum_univ_eq_sum_range f 4096, Fin.sum_univ_eq_sum_range (fun l => ∑ w : Fin 32, ∑ g ∈ range 8, f (128 * w.val + (16 * g + l))) 16]
  have h := sum_lanes 32 8 16 0 f
  simp only [Nat.zero_add, Nat.add_assoc] at h
  refine Eq.trans (sum_congr rfl fun l _ => ?_) h
  exact Fin.sum_univ_eq_sum_range (fun w => ∑ g ∈ range 8, f (128 * w + (16 * g + l))) 32

/-- The two kernels' parts of a row. -/
theorem row_parts (x : ℕ → ℕ → ℝ) (R : ℕ) (t : BitVec 32) :
    kernelRow x R t = live t * (1 / 10 * Real.log (319980⁻¹ * (387420489 / 1000000000))) + live t * (1 / 319980 * x R 0)
      - live t * (1 / 319980 * (∑ i ∈ range 30720, x R i)) + live t * (-287981 / 319980 * (∑ i ∈ range 30720, if i = t.toNat then x R i else 0))
      + tileRow x R t := by
  unfold kernelRow tileRow
  rw [all_columns, all_columns]
  ring

theorem total_eq (m : (ℓ : Loc nD τ sig) → Buf (Elt Ideal) ℓ) (d : Dev nD) (x : ℕ → ℕ → ℝ)
    (hX : Holds (m (xLoc d)) x) (hT : ∀ r : Fin 4096, ((m (tLoc d)) (ix1 r)).toNat < 32000) :
    total m d = ((∑ R : Fin 4096, kernelRow x R.val ((m (tLoc d)) (ix1 R)) : ℝ) : EReal) := by
  have hcol : ∀ r : Fin 4096, column m d (ix2 r 0) = m (tLoc d) (ix1 r) := by
    intro r
    pointwise [column]
  have hx : ∀ R : ℕ, ∑ l : Fin 128, ∑ k ∈ range 48, ∑ q ∈ range 5, x R (640 * k + (128 * q + l.val)) = ∑ i ∈ range 30720, x R i :=
    fun R => dense_columns (x R)
  have hp : ∀ (R : ℕ) (t : ℕ), ∑ l : Fin 128, ∑ k ∈ range 48, ∑ q ∈ range 5, (if 640 * k + (128 * q + l.val) = t then x R (640 * k + (128 * q + l.val)) else 0)
      = ∑ i ∈ range 30720, if i = t then x R i else 0 := fun R t => dense_columns fun i => if i = t then x R i else 0
  have hs : ∑ a : Fin 32, ∑ b : Fin 16, outArr (F := Ideal) (m (xLoc d)) (m (tLoc d)) (ix2 a b) = ((∑ R : Fin 4096, tileRow x R.val (m (tLoc d) (ix1 R)) : ℝ) : EReal) := by
    have h : ∀ (a : Fin 32) (b : Fin 16), outArr (F := Ideal) (m (xLoc d)) (m (tLoc d)) (ix2 a b)
        = ((∑ g ∈ range 8, tileRow x (128 * a.val + (16 * g + b.val)) (m (tLoc d) (ix1 ⟨(128 * a.val + (16 * g + b.val)) % 4096, Nat.mod_lt _ (by decide)⟩)) : ℝ) : EReal) :=
      fun a b => tileOut_eq hX (m (tLoc d)) hT a.val a.isLt b
    simp only [h, coe_sum]
    refine congrArg _ ((all_rows fun R => tileRow x R (m (tLoc d) (ix1 ⟨R % 4096, Nat.mod_lt _ (by decide)⟩))).trans ?_)
    refine sum_congr rfl fun R _ => ?_
    simp only [Nat.mod_eq_of_lt R.isLt]
  unfold total
  refine (combine_at _ _).trans ?_
  show Dense.denseOut (F := Ideal) (m (xLoc d)) (column m d) + ∑ a : Fin 32, ∑ b : Fin 16, outArr (F := Ideal) (m (xLoc d)) (m (tLoc d)) (ix2 a b) = _
  rw [hs, denseOut_eq hX]
  simp only [hcol, ← mul_sum, hx, hp, ← EReal.coe_add]
  refine congrArg _ ?_
  simp only [row_parts, sum_add_distrib, sum_sub_distrib, mul_sum]
  ring_nf

end Cert.Loss

end
-- ==== Proof.Placed.lean ====
/-
  The reference's two scatters, read at an entry: one number per row at the row's target, then a column of one number.
-/
module

public import proofs.«01_k».proof.ReferenceIdeal
public import Idealize.ShloMosaic.Lib.Routing.OpsOne

@[expose] public section

noncomputable section

namespace Cert.Loss

open Cert.ReferenceIdeal Idealize.ShloMosaic
open Idealize.ShloMosaic.ValueIdx

variable [Facts₀] {α : Type}

/-- The scatter of one number per row. -/
abbrev atPairs : ScatterDims S4096x32000 S4096x2 S4096 := scatter_S4096x32000_S4096x2_S4096_n_01_01_1

/-- No axis of the update is a window's. -/
theorem pair_window (k : S4096.Idx) (q : Fin 2) : atPairs.window k q = 0 := by
  unfold ScatterDims.window
  refine dif_neg fun h => ?_
  have hn : q ∉ atPairs.insertedWindowDims := of_decide_eq_true (List.mem_filter.1 h).2
  refine hn ?_
  match q with
  | 0 => exact List.mem_cons_self
  | 1 => exact List.mem_cons_of_mem _ List.mem_cons_self

/-- The place of an update's `q`th index word. -/
theorem pair_word (k : S4096.Idx) (q : Fin 2) (h : atPairs.scatterDimsToOperandDims.idxOf q < atPairs.scatterDimsToOperandDims.length) :
    atPairs.siIdx k ⟨atPairs.scatterDimsToOperandDims.idxOf q, h⟩ = ix2 (k 0) q := by
  funext b
  match b with
  | ⟨0, _⟩ => exact Fin.ext rfl
  | ⟨1, _⟩ => match q with
    | 0 => exact Fin.ext rfl
    | 1 => exact Fin.ext rfl

/-- Update `k` lands where its two index words say. -/
theorem pair_lands (idx : S4096x2.Idx → BitVec 32) (k r : Fin 4096) (c : Fin 32000) :
    atPairs.resultIdx? (ix1 k) idx = some (ix2 r c) ↔ (idx (ix2 k 0)).toInt = r.val ∧ (idx (ix2 k 1)).toInt = c.val := by
  have hs : ∀ q : Fin 2, atPairs.start (ix1 k) idx q = (idx (ix2 k q)).toInt := fun q => by
    have hm : q ∈ atPairs.scatterDimsToOperandDims := by
      match q with
      | 0 => exact List.mem_cons_self
      | 1 => exact List.mem_cons_of_mem _ List.mem_cons_self
    unfold ScatterDims.start
    rw [dif_pos hm, pair_word]
    rfl
  rw [Routing.resultIdx?_ix2, hs, hs, pair_window, pair_window]
  simp

/-- The number `v` at each row's column `t`, every other entry as it was. -/
theorem pairs_set (x : S4096x32000.Idx → α) (idx : S4096x2.Idx → BitVec 32) (upd : S4096.Idx → α) (v : α) (hv : ∀ k, upd k = v) (t : Fin 4096 → ℕ)
    (h0 : ∀ k, (idx (ix2 k 0)).toInt = k.val) (h1 : ∀ k, (idx (ix2 k 1)).toInt = t k) (r : Fin 4096) (c : Fin 32000) :
    Host.scatter atPairs (fun _ b => b) x idx upd (ix2 r c) = if c.val = t r then v else x (ix2 r c) := by
  have lands : ∀ k : Fin 4096, atPairs.resultIdx? (ix1 k) idx = some (ix2 r c) ↔ k = r ∧ c.val = t r := fun k => by
    rw [pair_lands, h0, h1]
    constructor
    · rintro ⟨a, b⟩
      have e : k = r := Fin.ext (by omega)
      subst e
      exact ⟨rfl, by omega⟩
    · rintro ⟨rfl, b⟩
      exact ⟨rfl, by omega⟩
  split
  · next h => exact Routing.scatter_set_hit _ x idx upd _ v (fun k _ => hv k) (ix1 r) ((lands r).2 ⟨rfl, h⟩)
  · next h => exact Routing.scatter_set_miss _ x idx upd _ fun k hk => h ((lands (k 0)).1 (eq_ix1 k ▸ hk)).2

/-- The number `v` down column 0, every other entry as it was. -/
theorem column_set (x : S4096x32000.Idx → α) (idx : S1.Idx → BitVec 32) (upd : S4096.Idx → α) (v : α) (hv : ∀ k, upd k = v)
    (h0 : idx (ix1 0) = 0#32) (r : Fin 4096) (c : Fin 32000) :
    Host.scatter scatter_S4096x32000_S1_S4096_0_1_1_0 (fun _ b => b) x idx upd (ix2 r c) = if c.val = 0 then v else x (ix2 r c) := by
  have lands := Routing.lands_col scatter_S4096x32000_S1_S4096_0_1_1_0 rfl rfl idx 0 (by rw [h0]; rfl)
  split
  · next h => exact Routing.scatter_set_hit _ x idx upd _ v (fun k _ => hv k) (ix1 r) ((lands r r c).2 ⟨rfl, Fin.ext h⟩)
  · next h => exact Routing.scatter_set_miss _ x idx upd _ fun k hk => h (congrArg Fin.val ((lands (k 0) r c).1 (eq_ix1 k ▸ hk)).2)

end Cert.Loss

end
-- ==== Proof.RefTerms.lean ====
/-
  The reference's smoothed distribution over the reals, entry by entry.
-/
module

public import proofs.«01_k».proof.Proof.DenseTerms
public import proofs.«01_k».proof.Proof.Placed

@[expose] public section

noncomputable section

namespace Cert.Loss

open Cert.ReferenceIdeal Cert.ReferenceIdeal.Facts₀ Idealize.ShloMosaic Finset

set_option maxRecDepth 16384

variable [Facts₀] (T : S4096.Idx → BitVec 32)

/-- Each row's pair of index words: the row and its target, a negative one counted from the end. -/
abbrev pairs : S4096x2.Idx → BitVec 32 :=
  concatenate S4096x2 1
    [⟨S4096x1, broadcastInDim S4096x1 ![0] bcast_S4096_S4096x1_0
        (select (cmpi CmpIPredicate.slt (iotaInDim S4096 32 0) (broadcastInDim S4096 ![] bcast_S_S4096 (constantI S_ 32 0#32)))
          (addi (iotaInDim S4096 32 0) (broadcastInDim S4096 ![] bcast_S_S4096 (constantI S_ 32 4096#32))) (iotaInDim S4096 32 0))⟩,
      ⟨S4096x1, broadcastInDim S4096x1 ![0] bcast_S4096_S4096x1_0
        (select (cmpi CmpIPredicate.slt T (broadcastInDim S4096 ![] bcast_S_S4096 (constantI S_ 32 0#32)))
          (addi T (broadcastInDim S4096 ![] bcast_S_S4096 (constantI S_ 32 32000#32))) T)⟩]
    concatenates_S4096x1_S4096x1_S4096x2_d1

/-- The tenth that is shared out. -/
abbrev tenth : S_.Idx → Ideal .f32 := Host.divf (constant S_ .f32 0x3F800000#32) (constant S_ .f32 0x41200000#32)

/-- The distribution before the padding rows are cleared. -/
abbrev spread : S4096x32000.Idx → Ideal .f32 :=
  Host.scatter scatter_S4096x32000_S1_S4096_0_1_1_0 (fun _ b => b)
    (Host.scatter scatter_S4096x32000_S4096x2_S4096_n_01_01_1 (fun _ b => b)
      (broadcastInDim S4096x32000 ![] bcast_S_S4096x32000 (Host.divf tenth (constant S_ .f32 0x46F9FC00#32)))
      (pairs T) (broadcastInDim S4096 ![] bcast_S_S4096 (subf (constant S_ .f32 0x3F800000#32) tenth)))
    (broadcastInDim S1 ![] bcast_S_S1 (constantI S_ 32 0#32)) (broadcastInDim S4096 ![] bcast_S_S4096 (constant S_ .f32 0x00000000#32))

theorem pairs_row (k : Fin 4096) : (pairs T (ix2 k 0)).toInt = k.val := by
  have h : pairs T (ix2 k 0) = BitVec.ofNat 32 k.val := by
    pointwise [pairs]
    exact Routing.wrap_of_lt _ _ (by rw [BitVec.toNat_ofNat]; omega)
  rw [h, BitVec.toInt_eq_toNat_cond, BitVec.toNat_ofNat]
  omega

theorem pairs_column (hT : ∀ r : Fin 4096, (T (ix1 r)).toNat < 32000) (k : Fin 4096) : (pairs T (ix2 k 1)).toInt = (T (ix1 k)).toNat := by
  have ht := hT k
  have h : pairs T (ix2 k 1) = T (ix1 k) := by
    pointwise [pairs]
    exact Routing.wrap_of_lt _ _ (by omega)
  rw [h, BitVec.toInt_eq_toNat_cond]
  omega

theorem one_word : Ideal.ofBits .f32 0x3F800000#32 = ((1 : ℝ) : EReal) := Ideal.ofBits_one_f32
theorem ten_word : Ideal.ofBits .f32 0x41200000#32 = ((10 : ℝ) : EReal) := by
  simp [Ideal.ofBits, Ideal.ieee, -EReal.coe_mul]; norm_num
theorem others_word : Ideal.ofBits .f32 0x46F9FC00#32 = ((31998 : ℝ) : EReal) := by
  simp [Ideal.ofBits, Ideal.ieee, -EReal.coe_mul]; norm_num
theorem zero_word : Ideal.ofBits .f32 0x00000000#32 = ((0 : ℝ) : EReal) := Ideal.ofBits_zero_f32

theorem tenth_eq (y : S_.Idx) : tenth y = ((1 / 10 : ℝ) : EReal) := by
  show Ideal.div (Ideal.ofBits .f32 0x3F800000#32) (Ideal.ofBits .f32 0x41200000#32) = _
  rw [one_word, ten_word, Ideal.div_coe, ← EReal.coe_mul] <;> norm_num

theorem share_eq (y : S_.Idx) : Host.divf tenth (constant S_ .f32 0x46F9FC00#32) y = ((1 / 319980 : ℝ) : EReal) := by
  show Ideal.div (tenth y) (Ideal.ofBits .f32 0x46F9FC00#32) = _
  rw [tenth_eq, others_word, Ideal.div_coe, ← EReal.coe_mul] <;> norm_num

theorem kept_eq (y : S_.Idx) : subf (constant S_ .f32 0x3F800000#32) tenth y = ((9 / 10 : ℝ) : EReal) := by
  show Ideal.ofBits .f32 0x3F800000#32 - tenth y = _
  rw [tenth_eq, one_word, ← EReal.coe_sub]
  norm_num

/-- The share of column `c` in a row with target column `t`. -/
def share (t c : ℕ) : ℝ := if c = 0 then 0 else if c = t then 9 / 10 else 1 / 319980

theorem spread_at (hT : ∀ r : Fin 4096, (T (ix1 r)).toNat < 32000) (r : Fin 4096) (c : Fin 32000) :
    spread T (ix2 r c) = ((share (T (ix1 r)).toNat c.val : ℝ) : EReal) := by
  unfold spread share
  refine (column_set _ _ _ ((0 : ℝ) : EReal) (fun k => zero_word) rfl r c).trans ?_
  split
  · rfl
  · refine (pairs_set _ (pairs T) _ ((9 / 10 : ℝ) : EReal) (fun k => kept_eq _) (fun k => (T (ix1 k)).toNat) (pairs_row T) (pairs_column T hT) r c).trans ?_
    split
    · rfl
    · exact share_eq _

end Cert.Loss

end
-- ==== Proof.RefTotal.lean ====
/-
  The reference's result over the reals: the sum over all entries of the divergence's terms.
-/
module

public import proofs.«01_k».proof.Proof.RefTerms
public import proofs.«01_k».proof.Proof.Gen.ReferenceIdeal.Run
public import Idealize.ShloMosaic.Lib.Tactic.CleanTypes

@[expose] public section

noncomputable section

namespace Cert.Loss

open Cert.ReferenceIdeal Cert.ReferenceIdeal.Gen Cert.ReferenceIdeal.Value Idealize.ShloMosaic Finset

set_option maxRecDepth 16384

/-- The probability of column `c` in a row whose target is `t`. -/
def prob (t : BitVec 32) (c : ℕ) : ℝ := if t = 0#32 then 0 else share t.toNat c

/-- A term of the divergence. -/
def term (p y : ℝ) : ℝ := if 0 < p then p * (Real.log p - y) else 0

theorem prob_at (t : BitVec 32) (c : ℕ) (z : EReal) (hz : z = ((0 : ℝ) : EReal)) :
    Scalar.select (IntOp.cmpi .eq t 0#32) z ((share t.toNat c : ℝ) : EReal) = ((prob t c : ℝ) : EReal) := by
  unfold prob IntOp.cmpi
  by_cases h : t = 0#32
  · subst h
    simpa [Scalar.select] using hz
  · have hb : (t == 0#32) = false := beq_eq_false_iff_ne.mpr h
    simp only [hb, h, if_false]
    rfl

theorem term_at (p y : ℝ) (z o : EReal) (hz : z = ((0 : ℝ) : EReal)) :
    (if (0 : EReal) < (p : EReal) then (p : EReal) * (Ideal.log (if (0 : EReal) < (p : EReal) then (p : EReal) else o) - (y : EReal)) else z)
      = ((term p y : ℝ) : EReal) := by
  unfold term
  by_cases h : 0 < p
  · have h' : (0 : EReal) < (p : EReal) := EReal.coe_pos.mpr h
    rw [if_pos h', if_pos h', if_pos h]
    have hl : Ideal.log (p : EReal) = ((Real.log p : ℝ) : EReal) := if_neg (not_le.mpr h)
    rw [hl, ← EReal.coe_sub, ← EReal.coe_mul]
  · have h' : ¬ (0 : EReal) < (p : EReal) := fun q => h (EReal.coe_pos.mp q)
    rw [if_neg h', if_neg h, hz]

theorem ref_at (m : (ℓ : Loc nD τ sig) → Buf (Elt Ideal) ℓ) (d : Dev nD) (x : ℕ → ℕ → ℝ)
    (hX : Holds (m (d.tc.loc main_arg0)) x) (hT : ∀ r : Fin 4096, ((m (d.tc.loc main_arg1)) (ix1 r)).toNat < 32000) (y : S_.Idx) :
    (res_main_v36 m d : S_.Idx → EReal) y
      = ((∑ R : Fin 4096, ∑ c : Fin 32000, term (prob ((m (d.tc.loc main_arg1)) (ix1 R)) c.val) (x R.val c.val) : ℝ) : EReal) := by
  have hs := spread_at (m (d.tc.loc main_arg1)) hT
  unfold spread pairs tenth at hs
  have hx : ∀ (r : Fin 4096) (c : Fin 32000), m (d.tc.loc main_arg0) (ix2 r c) = ((x r.val c.val : ℝ) : EReal) := hX
  have hz : id (constant (F := Ideal) S_ FTy.f32 0#32) ix0 = ((0 : ℝ) : EReal) := zero_word
  unfold res_main_v36
  clean_types
  pointwise []
  simp only [hs, hx]
  simp only [prob_at _ _ _ hz]
  simp only [term_at _ _ _ _ hz, coe_sum]

end Cert.Loss

end
-- ==== Proof.RowEquation.lean ====
/-
  A row's divergence in closed form: what the kernel adds for a row is the sum of the reference's terms over its columns.
-/
module

public import proofs.«01_k».proof.Proof.KernelTotal
public import proofs.«01_k».proof.Proof.RefTotal

@[expose] public section

noncomputable section

namespace Cert.Loss

open Finset

/-- The constant of a row: the divergence's logarithms. -/
theorem log_constant : 1 / 10 * Real.log (319980⁻¹ * (387420489 / 1000000000)) = 31998 * (1 / 319980 * Real.log (1 / 319980)) + 9 / 10 * Real.log (9 / 10) := by
  have h : (387420489 / 1000000000 : ℝ) = (9 / 10) ^ 9 := by norm_num
  rw [h, Real.log_mul (by norm_num) (by norm_num), Real.log_pow, one_div (319980 : ℝ)]
  push_cast
  ring

/-- A term of a row with target column `t`, as the common term and what columns 0 and `t` change. -/
theorem term_share (t c : ℕ) (y : ℝ) (ht : t ≠ 0) :
    term (share t c) y = 1 / 319980 * Real.log (1 / 319980) - 1 / 319980 * y
      + (if c = 0 then -(1 / 319980 * Real.log (1 / 319980)) + 1 / 319980 * y else 0)
      + (if c = t then 9 / 10 * Real.log (9 / 10) - 1 / 319980 * Real.log (1 / 319980) + -287981 / 319980 * y else 0) := by
  unfold term share
  by_cases h0 : c = 0
  · subst h0
    rw [if_pos rfl, if_pos rfl, if_neg (lt_irrefl _), if_neg (fun h => ht h.symm)]
    ring
  · by_cases h1 : c = t
    · rw [if_neg h0, if_neg h0, if_pos h1, if_pos h1, if_pos (by norm_num)]
      ring
    · rw [if_neg h0, if_neg h0, if_neg h1, if_neg h1, if_pos (by norm_num)]
      ring

theorem row_equation (x : ℕ → ℕ → ℝ) (R : ℕ) (t : BitVec 32) (ht : t.toNat < 32000) :
    kernelRow x R t = ∑ c : Fin 32000, term (prob t c.val) (x R c.val) := by
  rw [Fin.sum_univ_eq_sum_range (fun c => term (prob t c) (x R c)) 32000]
  unfold kernelRow live
  by_cases h : t = 0#32
  · rw [if_pos h, zero_mul]
    refine (sum_eq_zero fun c _ => ?_).symm
    unfold prob term
    rw [if_pos h, if_neg (lt_irrefl _)]
  · have hn : t.toNat ≠ 0 := fun q => h (BitVec.eq_of_toNat_eq q)
    have hp : ∀ c, prob t c = share t.toNat c := fun c => if_neg h
    simp only [hp, term_share _ _ _ hn, sum_add_distrib, sum_sub_distrib, sum_const, card_range, ← mul_sum, sum_ite_eq', mem_range, ht, if_true,
      show (0 : ℕ) < 32000 by decide, nsmul_eq_mul]
    rw [if_neg h, log_constant]
    push_cast
    ring

end Cert.Loss

end
-- ==== Proof.InRange.lean ====
/-
  What the precondition says: every element of `x` is a real number, and every target is a column.
-/
module

public import proofs.«01_k».proof.Pre_finite_in_range
public import proofs.«01_k».proof.Proof.DenseTerms
public import Idealize.ShloMosaic.Lib.ReduceAll
public import Idealize.ShloMosaic.Lib.WordCmp

@[expose] public section

noncomputable section

namespace Cert.Loss

open Cert.Pre_finite_in_range Cert.Pre_finite_in_range.Facts Idealize.ShloMosaic

variable [Facts] {X : S4096x32000.Idx → Ideal .f32} {T : S4096.Idx → BitVec 32} (h : Cert.Pre_finite_in_range.fn (F := Ideal) X T = fun _ => 1#1)
include h

theorem both : Host.reduce IntOp.andi (cmpf .olt (Host.absf X) (broadcastInDim S4096x32000 ![] bcast_S_S4096x32000 (constant (F := Ideal) S_ .f32 0x7F800000#32))) (constantI S_ 1 1#1)
      reducesTo_S4096x32000_S_d0_1 h_S_ ix0 = 1#1
    ∧ Host.reduce IntOp.andi (andi (cmpi .sge T (broadcastInDim S4096 ![] bcast_S_S4096 (constantI S_ 32 0#32))) (cmpi .slt T (broadcastInDim S4096 ![] bcast_S_S4096 (constantI S_ 32 32000#32))))
      (constantI S_ 1 1#1) reducesTo_S4096_S_d0 h_S_ ix0 = 1#1 :=
  IntOp.andi_eq_one.1 (congrFun h ix0)

theorem alone : Subsingleton S_.Idx := ⟨fun a b => funext fun i => i.elim0⟩

/-- Every target is a column. -/
theorem column_of (r : Fin 4096) : (T (ix1 r)).toNat < 32000 := by
  haveI := alone h
  have e : IntOp.andi (IntOp.cmpi .sge (T (ix1 r)) 0#32) (IntOp.cmpi .slt (T (ix1 r)) 32000#32) = 1#1 := Host.reduce_andi_all _ _ _ _ _ (both h).2 (ix1 r)
  have w : ∀ t : BitVec 32, IntOp.andi (IntOp.cmpi .sge t 0#32) (IntOp.cmpi .slt t 32000#32) = 1#1 ↔ t.toNat < 32000 := by
    intro t
    word_cmp
  exact (w _).1 e

/-- Every element is a real. -/
theorem real_of (y : S4096x32000.Idx) : X y = ((EReal.toReal (X y) : ℝ) : EReal) := by
  haveI := alone h
  have e : FloatOps.cmpf .olt (FloatOps.hostAbsf (X y)) (FloatOps.ofBits (F := Ideal) .f32 0x7F800000#32) = 1#1 := Host.reduce_andi_all _ _ _ _ _ (both h).1 y
  have htop : Ideal.ofBits .f32 0x7F800000#32 = ⊤ := by simp [Ideal.ofBits, Ideal.ieee]
  have e' : Ideal.cmp .olt (max (X y : EReal) (-(X y : EReal))) (Ideal.ofBits .f32 0x7F800000#32) = 1#1 := e
  rw [htop] at e'
  have hlt : max (X y : EReal) (-(X y : EReal)) < ⊤ := by
    by_contra hn
    unfold Ideal.cmp at e'
    simp [hn] at e'
  obtain ⟨ha, hb⟩ := max_lt_iff.1 hlt
  refine (EReal.coe_toReal ha.ne fun q => ?_).symm
  rw [q] at hb
  simp at hb

/-- So `X` holds reals. -/
theorem holds_of : Holds X fun r c => EReal.toReal (X (ix2 ⟨r % 4096, Nat.mod_lt _ (by decide)⟩ ⟨c % 32000, Nat.mod_lt _ (by decide)⟩)) := by
  intro r c
  simp only [Nat.mod_eq_of_lt r.isLt, Nat.mod_eq_of_lt c.isLt]
  exact real_of h _

end Cert.Loss

end
-- ==== Proof.Values.lean ====
/-
  The claims beside the kernel's frames: the reference's frame, the named constants, and the equation of the two results.
-/
module

public import proofs.«01_k».proof.Proof.Frames
public import proofs.«01_k».proof.Proof.RowEquation
public import proofs.«01_k».proof.Proof.InRange
public import proofs.«01_k».proof.Proof.Gen.Pre_finite_in_range
public import Idealize.ShloMosaic.Lib.Quiescent

@[expose] public section

noncomputable section

namespace Cert.Values

open Idealize.ShloMosaic Idealize.SL.Sem
open Cert.KernelIdeal.Launch (Ends result total)

/-- The reference has no semaphore, so none is left raised. -/
theorem frame_ReferenceIdeal : Cert.quiescent_ReferenceIdeal := fun m g _ =>
  (θ_run Cert.ReferenceIdeal.defs _ _).mono (fun r h => ⟨fun c => (h c).2, sem_eq_zero_of_no_sems rfl r.2⟩) (Cert.ReferenceIdeal.Value.run m g)

theorem preserves : Cert.preserves_Kernel_KernelIdeal :=
  ⟨IdealRules.named_const.statement Cert.KernelIdeal.κ "c_row" .f32 0xBFAE63F8#32 _ rfl,
    IdealRules.named_const.statement Cert.KernelIdeal.κ "fill" .f32 0x3651BA72#32 _ rfl,
    IdealRules.named_const.statement Cert.KernelIdeal.κ "fill_conf" .f32 0xBF666632#32 _ rfl,
    IdealRules.named_const.statement Cert.KernelIdeal.κ "neg_fill" .f32 0xB651BA72#32 _ rfl⟩

/-- From the same arguments, the kernel's result is the reference's. -/
theorem same_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (X : Cert.KernelIdeal.S4096x32000.Idx → Ideal .f32) (T : Cert.KernelIdeal.S4096.Idx → BitVec 32)
    (hX : m (Cert.KernelIdeal.Launch.xLoc c) = X) (hT : m (Cert.KernelIdeal.Launch.tLoc c) = T)
    (hX' : m' ((c.tc : Thread Cert.ReferenceIdeal.nD Cert.ReferenceIdeal.τ).loc Cert.ReferenceIdeal.main_arg0) = X)
    (hT' : m' ((c.tc : Thread Cert.ReferenceIdeal.nD Cert.ReferenceIdeal.τ).loc Cert.ReferenceIdeal.main_arg1) = T)
    (hpre : Cert.Pre_finite_in_range.fn (F := Ideal) X T = fun _ => 1#1) (y : Cert.ReferenceIdeal.S_.Idx) :
    (Cert.ReferenceIdeal.Value.res_main_v36 m' c : Cert.ReferenceIdeal.S_.Idx → EReal) y = total m c := by
  have hx := Cert.Loss.holds_of hpre
  have ht := Cert.Loss.column_of hpre
  subst hX hT
  rw [Cert.Loss.total_eq m c _ hx ht]
  refine (Cert.Loss.ref_at m' c _ (hX' ▸ hx) (hT' ▸ ht) y).trans (congrArg _ (Finset.sum_congr rfl fun R _ => ?_))
  rw [Cert.Loss.row_equation _ _ _ (ht R), hT', hX']

theorem algebraic : Cert.algebraic_KernelIdeal_ReferenceIdeal_pre_finite_in_range := fun m g m' g' hpre hagree =>
  ⟨result m, (θ_run Cert.KernelIdeal.defs _ _).mono (fun _ h c => h.1 c) (Cert.Frames.ideal_run m g),
    (θ_run Cert.ReferenceIdeal.defs _ _).mono
      (fun _ h c => ⟨(h c).1.trans (funext fun y => same_result m m' c _ _ rfl rfl (hagree c).1 (hagree c).2 (hpre c) y), (h c).2⟩)
      (Cert.ReferenceIdeal.Value.run m' g')⟩

end Cert.Values

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_finite_in_range
public import proofs.«01_k».proof.Proof.Gen.ReferenceIdeal.Run
public import proofs.«01_k».proof.Proof.Frames
public import proofs.«01_k».proof.Proof.Values
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_in_range.Gen.facts,
  Cert.Frames.frame_Kernel,
  Cert.Frames.frame_KernelIdeal,
  fun m g _ => Cert.Frames.frame_KernelIdeal m g trivial,
  Cert.Values.frame_ReferenceIdeal,
  fun m g _ => Cert.Values.frame_ReferenceIdeal m g trivial,
  Cert.Values.preserves,
  Cert.Values.algebraic⟩

end Cert.Proof

end
